-- ==== Defs.lean ====
def Pre_Kernel [hPre_pages_in_pool : Cert.Pre_pages_in_pool.Facts] (m : (ℓ : Loc Cert.Kernel.nD Cert.Kernel.τ Cert.Kernel.sig) → Buf (Elt Bits) ℓ) : Prop :=
  ∀ c : Dev Cert.Kernel.nD,
    (Cert.Pre_pages_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_pages_in_pool : Cert.Pre_pages_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_pages_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_finite_and_paged [hPre_finite_and_paged : Cert.Pre_finite_and_paged.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_paged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_and_paged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_and_paged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_and_paged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_and_paged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_and_paged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_paged [hPre_finite_and_paged : Cert.Pre_finite_and_paged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_paged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_and_paged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_and_paged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_and_paged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_and_paged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_and_paged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] [hPre_pages_in_pool : Cert.Pre_pages_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_and_paged [hKernelIdeal : Cert.KernelIdeal.Facts] [hPre_finite_and_paged : Cert.Pre_finite_and_paged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_paged m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_and_paged [hReferenceIdeal : Cert.ReferenceIdeal.Facts] [hPre_finite_and_paged : Cert.Pre_finite_and_paged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_paged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal_pre_finite_and_paged [hKernelIdeal : Cert.KernelIdeal.Facts] [hReferenceIdeal : Cert.ReferenceIdeal.Facts] [hPre_finite_and_paged : Cert.Pre_finite_and_paged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_paged m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v3) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v2) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_pages_in_pool : Cert.Pre_pages_in_pool.Facts) (hPre_finite_and_paged : Cert.Pre_finite_and_paged.Facts),
    quiescent_Kernel (hKernel := hKernel) (hPre_pages_in_pool := hPre_pages_in_pool)
    ∧ quiescent_KernelIdeal (hKernelIdeal := hKernelIdeal) (hPre_pages_in_pool := hPre_pages_in_pool)
    ∧ quiescent_KernelIdeal_pre_finite_and_paged (hKernelIdeal := hKernelIdeal) (hPre_finite_and_paged := hPre_finite_and_paged)
    ∧ quiescent_ReferenceIdeal (hReferenceIdeal := hReferenceIdeal)
    ∧ quiescent_ReferenceIdeal_pre_finite_and_paged (hReferenceIdeal := hReferenceIdeal) (hPre_finite_and_paged := hPre_finite_and_paged)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_and_paged (hKernelIdeal := hKernelIdeal) (hReferenceIdeal := hReferenceIdeal) (hPre_finite_and_paged := hPre_finite_and_paged)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_and_paged.lean ====
abbrev S128x4096 : Shape := ⟨2, ![128, 4096]⟩
abbrev S128x512 : Shape := ⟨2, ![128, 512]⟩
abbrev S10240x128x2x1x256 : Shape := ⟨5, ![10240, 128, 2, 1, 256]⟩
abbrev S128x64 : Shape := ⟨2, ![128, 64]⟩
abbrev S32x32 : Shape := ⟨2, ![32, 32]⟩
abbrev S4x128 : Shape := ⟨2, ![4, 128]⟩
abbrev S256 : Shape := ⟨1, ![256]⟩
abbrev S_ : Shape := ⟨0, ![]⟩

class Facts : Prop where
  bcast_S_S128x64 : S_.BroadcastsInDim S128x64 (![] : Fin 0 → Fin S128x64.rank)
  bitsLt_bf16_f32 : FTy.bits .bf16 < FTy.bits .f32
  bcast_S_S128x4096 : S_.BroadcastsInDim S128x4096 (![] : Fin 0 → Fin S128x4096.rank)
  bcast_S_S128x512 : S_.BroadcastsInDim S128x512 (![] : Fin 0 → Fin S128x512.rank)
  bcast_S_S10240x128x2x1x256 : S_.BroadcastsInDim S10240x128x2x1x256 (![] : Fin 0 → Fin S10240x128x2x1x256.rank)
  bcast_S_S32x32 : S_.BroadcastsInDim S32x32 (![] : Fin 0 → Fin S32x32.rank)
  bcast_S_S4x128 : S_.BroadcastsInDim S4x128 (![] : Fin 0 → Fin S4x128.rank)

variable [Facts]

def fn_part1 {F : FTy → Type} [FloatOps F] (main_arg5 : FVec F S4x128 .f32) (main_v4 : IVec S128x64 1) (main_v8 : IVec S128x4096 1) (main_v12 : IVec S128x512 1) (main_v15 : IVec S10240x128x2x1x256 1) (main_v16 : FVec F S32x32 .f32) (main_v17 : FVec F S32x32 .f32) : IVec S128x64 1 × IVec S128x4096 1 × IVec S128x512 1 × IVec S10240x128x2x1x256 1 × IVec S32x32 1 × IVec S4x128 1 :=
  let main_v18 : IVec S32x32 1 := cmpf .olt main_v16 main_v17
  let main_v19 : FVec F S4x128 .f32 := Host.absf main_arg5
  let main_cst_4 : FVec F S_ .f32 := constant S_ .f32 0x7F800000#32
  let main_v20 : FVec F S4x128 .f32 := broadcastInDim S4x128 ![] bcast_S_S4x128 main_cst_4
  let main_v21 : IVec S4x128 1 := cmpf .olt main_v19 main_v20
  (main_v4, main_v8, main_v12, main_v15, main_v18, main_v21)

def fn {F : FTy → Type} [FloatOps F] (main_arg0 : FVec F S128x4096 .bf16) (main_arg1 : FVec F S128x512 .bf16) (main_arg2 : FVec F S10240x128x2x1x256 .f32) (main_arg3 : IVec S128x64 32) (main_arg4 : FVec F S32x32 .f32) (main_arg5 : FVec F S4x128 .f32) (main_arg6 : FVec F S256 .f32) : IVec S128x64 1 × IVec S128x4096 1 × IVec S128x512 1 × IVec S10240x128x2x1x256 1 × IVec S32x32 1 × IVec S4x128 1 :=
  let main_c : IVec S_ 32 := constantI S_ 32 0#32
  let main_v0 : IVec S128x64 32 := broadcastInDim S128x64 ![] bcast_S_S128x64 main_c
  let main_v1 : IVec S128x64 1 := cmpi .sge main_arg3 main_v0
  let main_c_0 : IVec S_ 32 := constantI S_ 32 10240#32
  let main_v2 : IVec S128x64 32 := broadcastInDim S128x64 ![] bcast_S_S128x64 main_c_0
  let main_v3 : IVec S128x64 1 := cmpi .slt main_arg3 main_v2
  let main_v4 : IVec S128x64 1 := andi main_v1 main_v3
  let main_v5 : FVec F S128x4096 .f32 := (extf .f32 · bitsLt_bf16_f32) main_arg0
  let main_v6 : FVec F S128x4096 .f32 := Host.absf main_v5
  let main_cst : FVec F S_ .f32 := constant S_ .f32 0x7F800000#32
  let main_v7 : FVec F S128x4096 .f32 := broadcastInDim S128x4096 ![] bcast_S_S128x4096 main_cst
  let main_v8 : IVec S128x4096 1 := cmpf .olt main_v6 main_v7
  let main_v9 : FVec F S128x512 .f32 := (extf .f32 · bitsLt_bf16_f32) main_arg1
  let main_v10 : FVec F S128x512 .f32 := Host.absf main_v9
  let main_cst_1 : FVec F S_ .f32 := constant S_ .f32 0x7F800000#32
  let main_v11 : FVec F S128x512 .f32 := broadcastInDim S128x512 ![] bcast_S_S128x512 main_cst_1
  let main_v12 : IVec S128x512 1 := cmpf .olt main_v10 main_v11
  let main_v13 : FVec F S10240x128x2x1x256 .f32 := Host.absf main_arg2
  let main_cst_2 : FVec F S_ .f32 := constant S_ .f32 0x7F800000#32
  let main_v14 : FVec F S10240x128x2x1x256 .f32 := broadcastInDim S10240x128x2x1x256 ![] bcast_S_S10240x128x2x1x256 main_cst_2
  let main_v15 : IVec S10240x128x2x1x256 1 := cmpf .olt main_v13 main_v14
  let main_v16 : FVec F S32x32 .f32 := Host.absf main_arg4
  let main_cst_3 : FVec F S_ .f32 := constant S_ .f32 0x7F800000#32
  let main_v17 : FVec F S32x32 .f32 := broadcastInDim S32x32 ![] bcast_S_S32x32 main_cst_3
  fn_part1 (F := F) main_arg5 main_v4 main_v8 main_v12 main_v15 main_v16 main_v17
-- ==== Pre_pages_in_pool.lean ====
abbrev S128x4096 : Shape := ⟨2, ![128, 4096]⟩
abbrev S128x512 : Shape := ⟨2, ![128, 512]⟩
abbrev S10240x128x2x1x256 : Shape := ⟨5, ![10240, 128, 2, 1, 256]⟩
abbrev S128x64 : Shape := ⟨2, ![128, 64]⟩
abbrev S32x32 : Shape := ⟨2, ![32, 32]⟩
abbrev S4x128 : Shape := ⟨2, ![4, 128]⟩
abbrev S256 : Shape := ⟨1, ![256]⟩
abbrev S_ : Shape := ⟨0, ![]⟩

class Facts : Prop where
  bcast_S_S128x64 : S_.BroadcastsInDim S128x64 (![] : Fin 0 → Fin S128x64.rank)

variable [Facts]

def fn {F : FTy → Type} [FloatOps F] (main_arg0 : FVec F S128x4096 .bf16) (main_arg1 : FVec F S128x512 .bf16) (main_arg2 : FVec F S10240x128x2x1x256 .f32) (main_arg3 : IVec S128x64 32) (main_arg4 : FVec F S32x32 .f32) (main_arg5 : FVec F S4x128 .f32) (main_arg6 : FVec F S256 .f32) : IVec S128x64 1 :=
  let main_c : IVec S_ 32 := constantI S_ 32 0#32
  let main_v0 : IVec S128x64 32 := broadcastInDim S128x64 ![] bcast_S_S128x64 main_c
  let main_v1 : IVec S128x64 1 := cmpi .sge main_arg3 main_v0
  let main_c_0 : IVec S_ 32 := constantI S_ 32 10240#32
  let main_v2 : IVec S128x64 32 := broadcastInDim S128x64 ![] bcast_S_S128x64 main_c_0
  let main_v3 : IVec S128x64 1 := cmpi .slt main_arg3 main_v2
  let main_v4 : IVec S128x64 1 := andi main_v1 main_v3
  main_v4
-- ==== Kernel.lean ====
abbrev S128x4096 : Shape := ⟨2, ![128, 4096]⟩
abbrev S128x512 : Shape := ⟨2, ![128, 512]⟩
abbrev S10240x128x2x1x256 : Shape := ⟨5, ![10240, 128, 2, 1, 256]⟩
abbrev S128x64 : Shape := ⟨2, ![128, 64]⟩
abbrev S32x32 : Shape := ⟨2, ![32, 32]⟩
abbrev S4x128 : Shape := ⟨2, ![4, 128]⟩
abbrev S256 : Shape := ⟨1, ![256]⟩
abbrev S128x16x2x128 : Shape := ⟨4, ![128, 16, 2, 128]⟩
abbrev S128x2x16x128 : Shape := ⟨4, ![128, 2, 16, 128]⟩
abbrev S128x32x128 : Shape := ⟨3, ![128, 32, 128]⟩
abbrev S16x2x32 : Shape := ⟨3, ![16, 2, 32]⟩
abbrev S2x16x32 : Shape := ⟨3, ![2, 16, 32]⟩
abbrev S128x1x512 : Shape := ⟨3, ![128, 1, 512]⟩
abbrev S10240x512x128 : Shape := ⟨3, ![10240, 512, 128]⟩
abbrev S1x256 : Shape := ⟨2, ![1, 256]⟩
abbrev S128x16x256 : Shape := ⟨3, ![128, 16, 256]⟩
abbrev S1x32x128 : Shape := ⟨3, ![1, 32, 128]⟩
abbrev S1x1x512 : Shape := ⟨3, ![1, 1, 512]⟩
abbrev S1x512x128 : Shape := ⟨3, ![1, 512, 128]⟩
abbrev S1x1 : Shape := ⟨2, ![1, 1]⟩
abbrev S1x16x256 : Shape := ⟨3, ![1, 16, 256]⟩
abbrev S32x1 : Shape := ⟨2, ![32, 1]⟩
abbrev S32x256 : Shape := ⟨2, ![32, 256]⟩
abbrev S32x128 : Shape := ⟨2, ![32, 128]⟩
abbrev S1x128x128 : Shape := ⟨3, ![1, 128, 128]⟩
abbrev S128x128 : Shape := ⟨2, ![128, 128]⟩
abbrev S1024x128 : Shape := ⟨2, ![1024, 128]⟩
abbrev S1x1024 : Shape := ⟨2, ![1, 1024]⟩
abbrev S32x1024 : Shape := ⟨2, ![32, 1024]⟩
abbrev S16x128 : Shape := ⟨2, ![16, 128]⟩
abbrev S16x1024 : Shape := ⟨2, ![16, 1024]⟩
abbrev S1024x256 : Shape := ⟨2, ![1024, 256]⟩
abbrev S32 : Shape := ⟨1, ![32]⟩
abbrev S1x512 : Shape := ⟨2, ![1, 512]⟩
abbrev S1x128 : Shape := ⟨2, ![1, 128]⟩
abbrev S16x256 : Shape := ⟨2, ![16, 256]⟩
abbrev S1 : Shape := ⟨1, ![1]⟩
abbrev S16 : Shape := ⟨1, ![16]⟩
abbrev S16x1 : Shape := ⟨2, ![16, 1]⟩

abbrev nBuf : Space → Nat
  | .hbm => 17
  | .vmem => 28
  | .smem => 1
  | _ => 0

abbrev bufTy : (tb : Table) → Fin (tcTables nBuf tb) → BufTy
  | .hbm, ⟨0, _⟩ => ⟨S128x4096, .bf16⟩
  | .hbm, ⟨1, _⟩ => ⟨S128x512, .bf16⟩
  | .hbm, ⟨2, _⟩ => ⟨S10240x128x2x1x256, .f32⟩
  | .hbm, ⟨3, _⟩ => ⟨S32x32, .f32⟩
  | .hbm, ⟨4, _⟩ => ⟨S4x128, .f32⟩
  | .hbm, ⟨5, _⟩ => ⟨S256, .f32⟩
  | .hbm, ⟨6, _⟩ => ⟨S128x16x2x128, .bf16⟩
  | .hbm, ⟨7, _⟩ => ⟨S128x2x16x128, .bf16⟩
  | .hbm, ⟨8, _⟩ => ⟨S128x32x128, .bf16⟩
  | .hbm, ⟨9, _⟩ => ⟨S32x32, .f32⟩
  | .hbm, ⟨10, _⟩ => ⟨S16x2x32, .f32⟩
  | .hbm, ⟨11, _⟩ => ⟨S2x16x32, .f32⟩
  | .hbm, ⟨12, _⟩ => ⟨S32x32, .f32⟩
  | .hbm, ⟨13, _⟩ => ⟨S128x1x512, .bf16⟩
  | .hbm, ⟨14, _⟩ => ⟨S10240x512x128, .f32⟩
  | .hbm, ⟨15, _⟩ => ⟨S1x256, .f32⟩
  | .hbm, ⟨16, _⟩ => ⟨S128x16x256, .f32⟩
  | .local _ .vmem, ⟨0, _⟩ => ⟨S1x32x128, .bf16⟩
  | .local _ .vmem, ⟨1, _⟩ => ⟨S1x32x128, .bf16⟩
  | .local _ .vmem, ⟨2, _⟩ => ⟨S1x1x512, .bf16⟩
  | .local _ .vmem, ⟨3, _⟩ => ⟨S1x1x512, .bf16⟩
  | .local _ .vmem, ⟨4, _⟩ => ⟨S32x32, .f32⟩
  | .local _ .vmem, ⟨5, _⟩ => ⟨S4x128, .f32⟩
  | .local _ .vmem, ⟨6, _⟩ => ⟨S1x256, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | .local _ .vmem, ⟨22, _⟩ => ⟨S1x512x128, .f32⟩
  | .local _ .vmem, ⟨23, _⟩ => ⟨S1x16x256, .f32⟩
  | .local _ .vmem, ⟨24, _⟩ => ⟨S1x16x256, .f32⟩
  | .local _ .vmem, ⟨25, _⟩ => ⟨S32x1, .f32⟩
  | .local _ .vmem, ⟨26, _⟩ => ⟨S32x1, .f32⟩
  | .local _ .vmem, ⟨27, _⟩ => ⟨S32x256, .f32⟩
  | .local _ .smem, ⟨0, _⟩ => ⟨S128x64, .i32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![128, 8], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c8_i32 : BitVec 32 := 8#32
  let v0 : BitVec 32 := Scalar.muli arg1 c8_i32
  let v1 : BitVec 32 := Scalar.addi v0 c0_i32
  let v3 : Index := Scalar.indexCast v1
  ![v2.toNat, v3.toNat]
def k0_cond3 (i : grid0.Coords) : BitVec 1 :=
  let arg1 : BitVec 32 := BitVec.ofNat 32 (i 1).val
  let c7_i32 : BitVec 32 := 7#32
  let v130 : BitVec 1 := Scalar.cmpi .eq arg1 c7_i32
  let v131 : BitVec 32 := Scalar.extui v130
  let c0_i32_118 : BitVec 32 := 0#32
  let v132 : BitVec 1 := Scalar.cmpi .ne v131 c0_i32_118
  v132

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S128x64) ![v2.toNat, v3.toNat] S1x1.size (k0_off1_inb i 0)) numel1_S1x1
  let c0_i32_0 : BitVec 32 := 0#32
  let c0_i32_1 : BitVec 32 := 0#32
  let c0_i32_2 : BitVec 32 := 0#32
  ![v4.toNat, c0_i32_0.toNat, c0_i32_1.toNat]

def cc0_transform_6 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S128x64) ![v2.toNat, v3.toNat] S1x1.size (k0_off1_inb i 1)) numel1_S1x1
  let c0_i32 : BitVec 32 := 0#32
  let c0_i32_0 : BitVec 32 := 0#32
  let c0_i32_1 : BitVec 32 := 0#32
  ![v4.toNat, c0_i32.toNat, c0_i32_0.toNat]

def cc0_transform_7 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S128x64) ![v2.toNat, v3.toNat] S1x1.size (k0_off1_inb i 2)) numel1_S1x1
  let c0_i32 : BitVec 32 := 0#32
  let c0_i32_0 : BitVec 32 := 0#32
  let c0_i32_1 : BitVec 32 := 0#32
  ![v4.toNat, c0_i32.toNat, c0_i32_0.toNat]

def cc0_transform_8 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S128x64) ![v2.toNat, v3.toNat] S1x1.size (k0_off1_inb i 3)) numel1_S1x1
  let c0_i32 : BitVec 32 := 0#32
  let c0_i32_0 : BitVec 32 := 0#32
  let c0_i32_1 : BitVec 32 := 0#32
  ![v4.toNat, c0_i32.toNat, c0_i32_0.toNat]

def cc0_transform_9 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S128x64) ![v2.toNat, v3.toNat] S1x1.size (k0_off1_inb i 4)) numel1_S1x1
  let c0_i32 : BitVec 32 := 0#32
  let c0_i32_0 : BitVec 32 := 0#32
  let c0_i32_1 : BitVec 32 := 0#32
  ![v4.toNat, c0_i32.toNat, c0_i32_0.toNat]

def cc0_transform_10 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S128x64) ![v2.toNat, v3.toNat] S1x1.size (k0_off1_inb i 5)) numel1_S1x1
  let c0_i32 : BitVec 32 := 0#32
  let c0_i32_0 : BitVec 32 := 0#32
  let c0_i32_1 : BitVec 32 := 0#32
  ![v4.toNat, c0_i32.toNat, c0_i32_0.toNat]

def cc0_transform_11 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S128x64) ![v2.toNat, v3.toNat] S1x1.size (k0_off1_inb i 6)) numel1_S1x1
  let c0_i32 : BitVec 32 := 0#32
  let c0_i32_0 : BitVec 32 := 0#32
  let c0_i32_1 : BitVec 32 := 0#32
  ![v4.toNat, c0_i32.toNat, c0_i32_0.toNat]

def cc0_transform_12 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S128x64) ![v2.toNat, v3.toNat] S1x1.size (k0_off1_inb i 7)) numel1_S1x1
  let c0_i32 : BitVec 32 := 0#32
  let c0_i32_0 : BitVec 32 := 0#32
  let c0_i32_1 : BitVec 32 := 0#32
  ![v4.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S128x4096 : Shape := ⟨2, ![128, 4096]⟩
abbrev S128x512 : Shape := ⟨2, ![128, 512]⟩
abbrev S10240x128x2x1x256 : Shape := ⟨5, ![10240, 128, 2, 1, 256]⟩
abbrev S128x64 : Shape := ⟨2, ![128, 64]⟩
abbrev S32x32 : Shape := ⟨2, ![32, 32]⟩
abbrev S4x128 : Shape := ⟨2, ![4, 128]⟩
abbrev S256 : Shape := ⟨1, ![256]⟩
abbrev S128x1x1x16x2x128 : Shape := ⟨6, ![128, 1, 1, 16, 2, 128]⟩
abbrev S128x1x2x1x256 : Shape := ⟨5, ![128, 1, 2, 1, 256]⟩
abbrev S_ : Shape := ⟨0, ![]⟩
abbrev S128x64x1 : Shape := ⟨3, ![128, 64, 1]⟩
abbrev S128x64x128x2x1x256 : Shape := ⟨6, ![128, 64, 128, 2, 1, 256]⟩
abbrev S128x8192x2x1x256 : Shape := ⟨5, ![128, 8192, 2, 1, 256]⟩
abbrev S128x8193x2x1x256 : Shape := ⟨5, ![128, 8193, 2, 1, 256]⟩
abbrev S128x8193x1x1x256 : Shape := ⟨5, ![128, 8193, 1, 1, 256]⟩
abbrev S128x8193x1x256 : Shape := ⟨4, ![128, 8193, 1, 256]⟩
abbrev S128x8193x1x2x128 : Shape := ⟨5, ![128, 8193, 1, 2, 128]⟩
abbrev S1 : Shape := ⟨1, ![1]⟩
abbrev S8193 : Shape := ⟨1, ![8193]⟩
abbrev S1x128 : Shape := ⟨2, ![1, 128]⟩
abbrev S128 : Shape := ⟨1, ![128]⟩
abbrev S1x1 : Shape := ⟨2, ![1, 1]⟩
abbrev S1x8193 : Shape := ⟨2, ![1, 8193]⟩
abbrev S1x8193x1 : Shape := ⟨3, ![1, 8193, 1]⟩
abbrev S1x8193x32 : Shape := ⟨3, ![1, 8193, 32]⟩
abbrev S1x8193x1x16x2 : Shape := ⟨5, ![1, 8193, 1, 16, 2]⟩
abbrev S2x1x16x1x8193 : Shape := ⟨5, ![2, 1, 16, 1, 8193]⟩
abbrev S2x1x1x16x1x8193 : Shape := ⟨6, ![2, 1, 1, 16, 1, 8193]⟩
abbrev S2x128x1x8193x1x16 : Shape := ⟨6, ![2, 128, 1, 8193, 1, 16]⟩
abbrev S2x128x1x16x1x8193 : Shape := ⟨6, ![2, 128, 1, 16, 1, 8193]⟩
abbrev S2x128x1x16x1 : Shape := ⟨5, ![2, 128, 1, 16, 1]⟩
abbrev S2x128x1x16x1x1 : Shape := ⟨6, ![2, 128, 1, 16, 1, 1]⟩
abbrev S1x128x1x16x1x8193 : Shape := ⟨6, ![1, 128, 1, 16, 1, 8193]⟩
abbrev S128x1x16x1x8193 : Shape := ⟨5, ![128, 1, 16, 1, 8193]⟩
abbrev S128x1x256x16x1 : Shape := ⟨5, ![128, 1, 256, 16, 1]⟩
abbrev S128x1x1x16x256 : Shape := ⟨5, ![128, 1, 1, 16, 256]⟩
abbrev S128x1x1x16 : Shape := ⟨4, ![128, 1, 1, 16]⟩
abbrev S128x1x1x16x1 : Shape := ⟨5, ![128, 1, 1, 16, 1]⟩
abbrev S1x1x1x1x256 : Shape := ⟨5, ![1, 1, 1, 1, 256]⟩
abbrev S128x16x256 : Shape := ⟨3, ![128, 16, 256]⟩

abbrev nBuf : Space → Nat
  | .hbm => 158
  | .vmem => 0
  | .smem => 0
  | _ => 0

abbrev hbmTy0_0 (i : Nat) : BufTy := match i % 128 with
  | 0 => ⟨S128x4096, .bf16⟩
  | 1 => ⟨S128x512, .bf16⟩
  | 2 => ⟨S10240x128x2x1x256, .f32⟩
  | 3 => ⟨S128x64, .i32⟩
  | 4 => ⟨S32x32, .f32⟩
  | 5 => ⟨S4x128, .f32⟩
  | 6 => ⟨S256, .f32⟩
  | 7 => ⟨S128x4096, .f32⟩
  | 8 => ⟨S128x1x1x16x2x128, .f32⟩
  | 9 => ⟨S128x512, .f32⟩
  | 10 => ⟨S128x1x2x1x256, .f32⟩
  | 11 => ⟨S_, .i32⟩
  | 12 => ⟨S128x64, .i32⟩
  | 13 => ⟨S128x64, .i1⟩
  | 14 => ⟨S_, .i32⟩
  | 15 => ⟨S128x64, .i32⟩
  | 16 => ⟨S128x64, .i32⟩
  | 17 => ⟨S128x64, .i32⟩
  | 18 => ⟨S128x64x1, .i32⟩
  | 19 => ⟨S128x64x128x2x1x256, .f32⟩
  | 20 => ⟨S128x8192x2x1x256, .f32⟩
  | 21 => ⟨S128x8193x2x1x256, .f32⟩
  | 22 => ⟨S128x8193x1x1x256, .f32⟩
  | 23 => ⟨S128x8193x1x256, .f32⟩
  | 24 => ⟨S128x8193x1x2x128, .f32⟩
  | 25 => ⟨S128x8193x1x1x256, .f32⟩
  | 26 => ⟨S128x8193x1x256, .f32⟩
  | 27 => ⟨S1, .i32⟩
  | 28 => ⟨S_, .i32⟩
  | 29 => ⟨S1, .i32⟩
  | 30 => ⟨S1, .i32⟩
  | 31 => ⟨S8193, .i32⟩
  | 32 => ⟨S1x128, .f32⟩
  | 33 => ⟨S128, .f32⟩
  | 34 => ⟨S1x128, .f32⟩
  | 35 => ⟨S128, .f32⟩
  | 36 => ⟨S128, .f32⟩
  | 37 => ⟨S_, .f32⟩
  | 38 => ⟨S_, .f32⟩
  | 39 => ⟨S_, .f32⟩
  | 40 => ⟨S1x128, .f32⟩
  | 41 => ⟨S128, .f32⟩
  | 42 => ⟨S1x128, .f32⟩
  | 43 => ⟨S128, .f32⟩
  | 44 => ⟨S128, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S1x1, .i32⟩
  | 52 => ⟨S1x8193, .i32⟩
  | 53 => ⟨S1x8193, .i32⟩
  | 54 => ⟨S1x8193, .i32⟩
  | 55 => ⟨S_, .i32⟩
  | 56 => ⟨S1x8193, .i32⟩
  | 57 => ⟨S1x8193, .i32⟩
  | 58 => ⟨S_, .i32⟩
  | 59 => ⟨S1x8193, .i32⟩
  | 60 => ⟨S1x8193, .i32⟩
  | 61 => ⟨S1x8193, .f32⟩
  | 62 => ⟨S_, .f32⟩
  | 63 => ⟨S1x8193, .f32⟩
  | 64 => ⟨S1x8193, .f32⟩
  | 65 => ⟨S1x8193, .f32⟩
  | 66 => ⟨S_, .f32⟩
  | 67 => ⟨S1x8193, .f32⟩
  | 68 => ⟨S1x8193, .f32⟩
  | 69 => ⟨S_, .f32⟩
  | 70 => ⟨S1x8193, .f32⟩
  | 71 => ⟨S1x8193, .f32⟩
  | 72 => ⟨S1x8193, .i32⟩
  | 73 => ⟨S_, .i32⟩
  | 74 => ⟨S1x8193, .i32⟩
  | 75 => ⟨S1x8193, .i32⟩
  | 76 => ⟨S_, .i32⟩
  | 77 => ⟨S1x8193, .i32⟩
  | 78 => ⟨S1x8193, .i1⟩
  | 79 => ⟨S_, .i32⟩
  | 80 => ⟨S1x8193, .i32⟩
  | 81 => ⟨S1x8193, .i32⟩
  | 82 => ⟨S1x8193, .i32⟩
  | 83 => ⟨S_, .i32⟩
  | 84 => ⟨S1x8193, .i32⟩
  | 85 => ⟨S1x8193, .i1⟩
  | 86 => ⟨S_, .i32⟩
  | 87 => ⟨S1x8193, .i32⟩
  | 88 => ⟨S1x8193, .i32⟩
  | 89 => ⟨S1x8193, .i32⟩
  | 90 => ⟨S1x8193x1, .i32⟩
  | 91 => ⟨S1x8193x32, .f32⟩
  | 92 => ⟨S1x8193x1x16x2, .f32⟩
  | 93 => ⟨S2x1x16x1x8193, .f32⟩
  | 94 => ⟨S2x1x1x16x1x8193, .f32⟩
  | 95 => ⟨S2x128x1x8193x1x16, .f32⟩
  | 96 => ⟨S2x128x1x16x1x8193, .f32⟩
  | 97 => ⟨S_, .f32⟩
  | 98 => ⟨S2x128x1x16x1x8193, .f32⟩
  | 99 => ⟨S2x128x1x16x1x8193, .f32⟩
  | 100 => ⟨S2x128x1x16x1x8193, .f32⟩
  | 101 => ⟨S2x128x1x16x1x8193, .f32⟩
  | 102 => ⟨S_, .i32⟩
  | 103 => ⟨S1x8193, .i32⟩
  | 104 => ⟨S1x8193, .i1⟩
  | 105 => ⟨S_, .f32⟩
  | 106 => ⟨S_, .f32⟩
  | 107 => ⟨S2x128x1x16x1x8193, .i1⟩
  | 108 => ⟨S2x128x1x16x1x8193, .f32⟩
  | 109 => ⟨S2x128x1x16x1x8193, .f32⟩
  | 110 => ⟨S_, .f32⟩
  | 111 => ⟨S2x128x1x16x1, .f32⟩
  | 112 => ⟨S_, .f32⟩
  | 113 => ⟨S2x128x1x16x1, .f32⟩
  | 114 => ⟨S2x128x1x16x1, .f32⟩
  | 115 => ⟨S2x128x1x16x1x1, .f32⟩
  | 116 => ⟨S2x128x1x16x1x8193, .f32⟩
  | 117 => ⟨S2x128x1x16x1x8193, .f32⟩
  | 118 => ⟨S2x128x1x16x1x8193, .f32⟩
  | 119 => ⟨S_, .f32⟩
  | 120 => ⟨S2x128x1x16x1, .f32⟩
  | 121 => ⟨S2x128x1x16x1x1, .f32⟩
  | 122 => ⟨S2x128x1x16x1x8193, .f32⟩
  | 123 => ⟨S2x128x1x16x1x8193, .f32⟩
  | 124 => ⟨S_, .f32⟩
  | 125 => ⟨S_, .f32⟩
  | 126 => ⟨S2x128x1x16x1x8193, .i1⟩
  | 127 => ⟨S2x128x1x16x1x8193, .f32⟩
  | _ => ⟨S128x4096, .bf16⟩

abbrev hbmTy0_1 (i : Nat) : BufTy := match i % 128 with
  | 0 => ⟨S2x128x1x16x1x8193, .f32⟩
  | 1 => ⟨S1x128x1x16x1x8193, .f32⟩
  | 2 => ⟨S128x1x16x1x8193, .f32⟩
  | 3 => ⟨S1x128x1x16x1x8193, .f32⟩
  | 4 => ⟨S128x1x16x1x8193, .f32⟩
  | 5 => ⟨S128x1x16x1x8193, .f32⟩
  | 6 => ⟨S128x1x16x1x8193, .f32⟩
  | 7 => ⟨S128x1x16x1x8193, .f32⟩
  | 8 => ⟨S128x1x256x16x1, .f32⟩
  | 9 => ⟨S128x1x1x16x256, .f32⟩
  | 10 => ⟨S128x1x1x16x256, .f32⟩
  | 11 => ⟨S_, .f32⟩
  | 12 => ⟨S128x1x1x16, .f32⟩
  | 13 => ⟨S128x1x1x16x1, .f32⟩
  | 14 => ⟨S_, .f32⟩
  | 15 => ⟨S128x1x1x16x1, .f32⟩
  | 16 => ⟨S128x1x1x16x1, .f32⟩
  | 17 => ⟨S_, .f32⟩
  | 18 => ⟨S128x1x1x16x1, .f32⟩
  | 19 => ⟨S128x1x1x16x1, .f32⟩
  | 20 => ⟨S128x1x1x16x1, .f32⟩
  | 21 => ⟨S128x1x1x16x256, .f32⟩
  | 22 => ⟨S128x1x1x16x256, .f32⟩
  | 23 => ⟨S1x1x1x1x256, .f32⟩
  | 24 => ⟨S128x1x1x16x256, .f32⟩
  | 25 => ⟨S128x1x1x16x256, .f32⟩
  | 26 => ⟨S_, .f32⟩
  | 27 => ⟨S128x1x1x16x256, .f32⟩
  | 28 => ⟨S128x1x1x16x256, .f32⟩
  | 29 => ⟨S128x16x256, .f32⟩
  | _ => ⟨S128x4096, .bf16⟩

abbrev hbmTy (i : Nat) : BufTy := match i / 128 with
  | 0 => hbmTy0_0 i
  | 1 => hbmTy0_1 i
  | _ => ⟨S128x4096, .bf16⟩

abbrev bufTy : (tb : Table) → Fin (tcTables nBuf tb) → BufTy
  | .hbm, ⟨i, _⟩ => hbmTy i
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_4 : Ref sig .tc := ⟨.hbm, 55, rfl⟩
abbrev main_v42 : Ref sig .tc := ⟨.hbm, 56, rfl⟩
abbrev main_v43 : Ref sig .tc := ⟨.hbm, 57, rfl⟩
abbrev main_c_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_9 : Ref sig .tc := ⟨.hbm, 73, rfl⟩
abbrev main_v55 : Ref sig .tc := ⟨.hbm, 74, rfl⟩
abbrev main_v56 : Ref sig .tc := ⟨.hbm, 75, rfl⟩
abbrev main_c_10 : Ref sig .tc := ⟨.hbm, 76, rfl⟩
abbrev main_v57 : Ref sig .tc := ⟨.hbm, 77, rfl⟩
abbrev main_v58 : Ref sig .tc := ⟨.hbm, 78, rfl⟩
abbrev main_c_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_12 : Ref sig .tc := ⟨.hbm, 83, rfl⟩
abbrev main_v62 : Ref sig .tc := ⟨.hbm, 84, rfl⟩
abbrev main_v63 : Ref sig .tc := ⟨.hbm, 85, rfl⟩
abbrev main_c_13 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_14 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_15 : Ref sig .tc := ⟨.hbm, 102, rfl⟩
abbrev main_v78 : Ref sig .tc := ⟨.hbm, 103, rfl⟩
abbrev main_v79 : Ref sig .tc := ⟨.hbm, 104, rfl⟩
abbrev main_cst_16 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_cst_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_20 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_21 : Ref sig .tc := ⟨.hbm, 139, rfl⟩
abbrev main_v103 : Ref sig .tc := ⟨.hbm, 140, rfl⟩
abbrev main_v104 : Ref sig .tc := ⟨.hbm, 141, rfl⟩
abbrev main_cst_22 : Ref sig .tc := ⟨.hbm, 142, rfl⟩
abbrev main_v105 : Ref sig .tc := ⟨.hbm, 143, rfl⟩
abbrev main_v106 : Ref sig .tc := ⟨.hbm, 144, rfl⟩
abbrev main_cst_23 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_24 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩

abbrev nD : Nat := 1
abbrev τ : Topo := Topo.v7x

variable {F : FTy → Type} [FloatOps F]
-- ==== Kernel2.lean ====
abbrev S8320x4096 : Shape := ⟨2, ![8320, 4096]⟩
abbrev S4096x22016 : Shape := ⟨2, ![4096, 22016]⟩
abbrev S11008x4096 : Shape := ⟨2, ![11008, 4096]⟩
abbrev S4096x11008 : Shape := ⟨2, ![4096, 11008]⟩
abbrev S_ : Shape := ⟨0, ![]⟩
abbrev S4096x11264 : Shape := ⟨2, ![4096, 11264]⟩
abbrev S11264x4096 : Shape := ⟨2, ![11264, 4096]⟩
abbrev S416x4096 : Shape := ⟨2, ![416, 4096]⟩
abbrev S4096x512 : Shape := ⟨2, ![4096, 512]⟩
abbrev S512x4096 : Shape := ⟨2, ![512, 4096]⟩
abbrev S416x512 : Shape := ⟨2, ![416, 512]⟩

abbrev nBuf : Space → Nat
  | .hbm => 18
  | .vmem => 10
  | .smem => 0
  | _ => 0

abbrev bufTy : (tb : Table) → Fin (tcTables nBuf tb) → BufTy
  | .hbm, ⟨0, _⟩ => ⟨S8320x4096, .bf16⟩
  | .hbm, ⟨1, _⟩ => ⟨S4096x22016, .f32⟩
  | .hbm, ⟨2, _⟩ => ⟨S11008x4096, .f32⟩
  | .hbm, ⟨3, _⟩ => ⟨S4096x11008, .f32⟩
  | .hbm, ⟨4, _⟩ => ⟨S_, .i32⟩
  | .hbm, ⟨5, _⟩ => ⟨S_, .f32⟩
  | .hbm, ⟨6, _⟩ => ⟨S4096x11264, .f32⟩
  | .hbm, ⟨7, _⟩ => ⟨S4096x11264, .bf16⟩
  | .hbm, ⟨8, _⟩ => ⟨S4096x11008, .f32⟩
  | .hbm, ⟨9, _⟩ => ⟨S_, .i32⟩
  | .hbm, ⟨10, _⟩ => ⟨S_, .f32⟩
  | .hbm, ⟨11, _⟩ => ⟨S4096x11264, .f32⟩
  | .hbm, ⟨12, _⟩ => ⟨S4096x11264, .bf16⟩
  | .hbm, ⟨13, _⟩ => ⟨S_, .i32⟩
  | .hbm, ⟨14, _⟩ => ⟨S_, .f32⟩
  | .hbm, ⟨15, _⟩ => ⟨S11264x4096, .f32⟩
  | .hbm, ⟨16, _⟩ => ⟨S11264x4096, .bf16⟩
  | .hbm, ⟨17, _⟩ => ⟨S8320x4096, .f32⟩
  | .local _ .vmem, ⟨0, _⟩ => ⟨S416x4096, .bf16⟩
  | .local _ .vmem, ⟨1, _⟩ => ⟨S416x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S512x4096, .bf16⟩
  | .local _ .vmem, ⟨7, _⟩ => ⟨S512x4096, .bf16⟩
  | .local _ .vmem, ⟨8, _⟩ => ⟨S416x4096, .f32⟩
  | .local _ .vmem, ⟨9, _⟩ => ⟨S416x4096, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![20, 22], ![false, false]⟩

def k0_cond1 (i : grid0.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_12 : BitVec 32 := 0#32
  let v22 : BitVec 1 := Scalar.cmpi .ne v21 c0_i32_12
  v22

def k0_cond2 (i : grid0.Coords) : BitVec 1 :=
  let arg1 : BitVec 32 := BitVec.ofNat 32 (i 1).val
  let c0_i32_13 : BitVec 32 := 0#32
  let v23 : BitVec 1 := Scalar.cmpi .ne arg1 c0_i32_13
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S416x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S416x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8320x4096 : Shape := ⟨2, ![8320, 4096]⟩
abbrev S4096x22016 : Shape := ⟨2, ![4096, 22016]⟩
abbrev S11008x4096 : Shape := ⟨2, ![11008, 4096]⟩
abbrev S8320x22016 : Shape := ⟨2, ![8320, 22016]⟩
abbrev S8320x11008 : Shape := ⟨2, ![8320, 11008]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x22016, .f32⟩
  | .hbm, ⟨2, _⟩ => ⟨S11008x4096, .f32⟩
  | .hbm, ⟨3, _⟩ => ⟨S8320x4096, .f32⟩
  | .hbm, ⟨4, _⟩ => ⟨S8320x22016, .f32⟩
  | .hbm, ⟨5, _⟩ => ⟨S8320x11008, .f32⟩
  | .hbm, ⟨6, _⟩ => ⟨S8320x11008, .f32⟩
  | .hbm, ⟨7, _⟩ => ⟨S8320x11008, .f32⟩
  | .hbm, ⟨8, _⟩ => ⟨S_, .f32⟩
  | .hbm, ⟨9, _⟩ => ⟨S8320x11008, .f32⟩
  | .hbm, ⟨10, _⟩ => ⟨S8320x11008, .f32⟩
  | .hbm, ⟨11, _⟩ => ⟨S_, .f32⟩
  | .hbm, ⟨12, _⟩ => ⟨S8320x11008, .f32⟩
  | .hbm, ⟨13, _⟩ => ⟨S8320x11008, .f32⟩
  | .hbm, ⟨14, _⟩ => ⟨S8320x11008, .f32⟩
  | .hbm, ⟨15, _⟩ => ⟨S8320x11008, .f32⟩
  | .hbm, ⟨16, _⟩ => ⟨S8320x11008, .f32⟩
  | .hbm, ⟨17, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel3.lean ====
abbrev S8320x4096 : Shape := ⟨2, ![8320, 4096]⟩
abbrev S4096x4096 : Shape := ⟨2, ![4096, 4096]⟩
abbrev S640x4096 : Shape := ⟨2, ![640, 4096]⟩
abbrev S4096x512 : Shape := ⟨2, ![4096, 512]⟩
abbrev S640x512 : Shape := ⟨2, ![640, 512]⟩

abbrev nBuf : Space → Nat
  | .hbm => 5
  | .vmem => 8
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .f32⟩
  | .hbm, ⟨2, _⟩ => ⟨S8320x4096, .f32⟩
  | .hbm, ⟨3, _⟩ => ⟨S4096x4096, .bf16⟩
  | .hbm, ⟨4, _⟩ => ⟨S8320x4096, .f32⟩
  | .local _ .vmem, ⟨0, _⟩ => ⟨S640x4096, .bf16⟩
  | .local _ .vmem, ⟨1, _⟩ => ⟨S640x4096, .bf16⟩
  | .local _ .vmem, ⟨2, _⟩ => ⟨S4096x512, .bf16⟩
  | .local _ .vmem, ⟨3, _⟩ => ⟨S4096x512, .bf16⟩
  | .local _ .vmem, ⟨4, _⟩ => ⟨S640x512, .f32⟩
  | .local _ .vmem, ⟨5, _⟩ => ⟨S640x512, .f32⟩
  | .local _ .vmem, ⟨6, _⟩ => ⟨S640x512, .f32⟩
  | .local _ .vmem, ⟨7, _⟩ => ⟨S640x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8320x4096 : Shape := ⟨2, ![8320, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .f32⟩
  | .hbm, ⟨2, _⟩ => ⟨S8320x4096, .f32⟩
  | .hbm, ⟨3, _⟩ => ⟨S8320x4096, .f32⟩
  | .hbm, ⟨4, _⟩ => ⟨S8320x4096, .f32⟩
  | .hbm, ⟨5, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8320x4096 : Shape := ⟨2, ![8320, 4096]⟩
abbrev S4096x4608 : Shape := ⟨2, ![4096, 4608]⟩
abbrev S4096x512 : Shape := ⟨2, ![4096, 512]⟩
abbrev S8320x512 : Shape := ⟨2, ![8320, 512]⟩
abbrev S640x4096 : Shape := ⟨2, ![640, 4096]⟩
abbrev S640x512 : Shape := ⟨2, ![640, 512]⟩

abbrev nBuf : Space → Nat
  | .hbm => 6
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S4096x4608, .f32⟩
  | .hbm, ⟨2, _⟩ => ⟨S4096x512, .f32⟩
  | .hbm, ⟨3, _⟩ => ⟨S4096x512, .bf16⟩
  | .hbm, ⟨4, _⟩ => ⟨S8320x512, .f32⟩
  | .hbm, ⟨5, _⟩ => ⟨S8320x512, .bf16⟩
  | .local _ .vmem, ⟨0, _⟩ => ⟨S640x4096, .bf16⟩
  | .local _ .vmem, ⟨1, _⟩ => ⟨S640x4096, .bf16⟩
  | .local _ .vmem, ⟨2, _⟩ => ⟨S4096x512, .bf16⟩
  | .local _ .vmem, ⟨3, _⟩ => ⟨S640x512, .f32⟩
  | .local _ .vmem, ⟨4, _⟩ => ⟨S640x512, .f32⟩
  | .local _ .vmem, ⟨5, _⟩ => ⟨S640x512, .bf16⟩
  | .local _ .vmem, ⟨6, _⟩ => ⟨S640x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8320x4096 : Shape := ⟨2, ![8320, 4096]⟩
abbrev S4096x4608 : Shape := ⟨2, ![4096, 4608]⟩
abbrev S8320x4608 : Shape := ⟨2, ![8320, 4608]⟩
abbrev S8320x512 : Shape := ⟨2, ![8320, 512]⟩

abbrev nBuf : Space → Nat
  | .hbm => 6
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x4608, .f32⟩
  | .hbm, ⟨2, _⟩ => ⟨S8320x4096, .f32⟩
  | .hbm, ⟨3, _⟩ => ⟨S8320x4608, .f32⟩
  | .hbm, ⟨4, _⟩ => ⟨S8320x512, .f32⟩
  | .hbm, ⟨5, _⟩ => ⟨S8320x512, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8320x4096 : Shape := ⟨2, ![8320, 4096]⟩
abbrev S4096x4096 : Shape := ⟨2, ![4096, 4096]⟩
abbrev S640x4096 : Shape := ⟨2, ![640, 4096]⟩
abbrev S4096x512 : Shape := ⟨2, ![4096, 512]⟩
abbrev S640x512 : Shape := ⟨2, ![640, 512]⟩

abbrev nBuf : Space → Nat
  | .hbm => 4
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .f32⟩
  | .hbm, ⟨2, _⟩ => ⟨S4096x4096, .bf16⟩
  | .hbm, ⟨3, _⟩ => ⟨S8320x4096, .bf16⟩
  | .local _ .vmem, ⟨0, _⟩ => ⟨S640x4096, .bf16⟩
  | .local _ .vmem, ⟨1, _⟩ => ⟨S640x4096, .bf16⟩
  | .local _ .vmem, ⟨2, _⟩ => ⟨S4096x512, .bf16⟩
  | .local _ .vmem, ⟨3, _⟩ => ⟨S4096x512, .bf16⟩
  | .local _ .vmem, ⟨4, _⟩ => ⟨S640x512, .bf16⟩
  | .local _ .vmem, ⟨5, _⟩ => ⟨S640x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8320x4096 : Shape := ⟨2, ![8320, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .f32⟩
  | .hbm, ⟨2, _⟩ => ⟨S8320x4096, .f32⟩
  | .hbm, ⟨3, _⟩ => ⟨S8320x4096, .f32⟩
  | .hbm, ⟨4, _⟩ => ⟨S8320x4096, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S8320x4096 : Shape := ⟨2, ![8320, 4096]⟩
abbrev S4096 : Shape := ⟨1, ![4096]⟩
abbrev S1x4096 : Shape := ⟨2, ![1, 4096]⟩
abbrev S320x4096 : Shape := ⟨2, ![320, 4096]⟩
abbrev S320 : Shape := ⟨1, ![320]⟩
abbrev S320x1 : Shape := ⟨2, ![320, 1]⟩

abbrev nBuf : Space → Nat
  | .hbm => 5
  | .vmem => 7
  | .smem => 0
  | _ => 0

abbrev bufTy : (tb : Table) → Fin (tcTables nBuf tb) → BufTy
  | .hbm, ⟨0, _⟩ => ⟨S8320x4096, .f32⟩
  | .hbm, ⟨1, _⟩ => ⟨S8320x4096, .f32⟩
  | .hbm, ⟨2, _⟩ => ⟨S4096, .f32⟩
  | .hbm, ⟨3, _⟩ => ⟨S1x4096, .f32⟩
  | .hbm, ⟨4, _⟩ => ⟨S8320x4096, .f32⟩
  | .local _ .vmem, ⟨0, _⟩ => ⟨S320x4096, .f32⟩
  | .local _ .vmem, ⟨1, _⟩ => ⟨S320x4096, .f32⟩
  | .local _ .vmem, ⟨2, _⟩ => ⟨S320x4096, .f32⟩
  | .local _ .vmem, ⟨3, _⟩ => ⟨S320x4096, .f32⟩
  | .local _ .vmem, ⟨4, _⟩ => ⟨S1x4096, .f32⟩
  | .local _ .vmem, ⟨5, _⟩ => ⟨S320x4096, .f32⟩
  | .local _ .vmem, ⟨6, _⟩ => ⟨S320x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8320x4096 : Shape := ⟨2, ![8320, 4096]⟩
abbrev S4096 : Shape := ⟨1, ![4096]⟩
abbrev S_ : Shape := ⟨0, ![]⟩
abbrev S8320 : Shape := ⟨1, ![8320]⟩
abbrev S8320x1 : Shape := ⟨2, ![8320, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S8320x4096, .f32⟩
  | .hbm, ⟨2, _⟩ => ⟨S4096, .f32⟩
  | .hbm, ⟨3, _⟩ => ⟨S8320x4096, .f32⟩
  | .hbm, ⟨4, _⟩ => ⟨S8320x4096, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x4096, .f32⟩
  | .hbm, ⟨16, _⟩ => ⟨S8320x4096, .f32⟩
  | .hbm, ⟨17, _⟩ => ⟨S1x4096, .f32⟩
  | .hbm, ⟨18, _⟩ => ⟨S8320x4096, .f32⟩
  | .hbm, ⟨19, _⟩ => ⟨S8320x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel7.lean ====
abbrev S8320x4096 : Shape := ⟨2, ![8320, 4096]⟩
abbrev S4096x768 : Shape := ⟨2, ![4096, 768]⟩
abbrev S8320x768 : Shape := ⟨2, ![8320, 768]⟩
abbrev S640x4096 : Shape := ⟨2, ![640, 4096]⟩
abbrev S640x768 : Shape := ⟨2, ![640, 768]⟩

abbrev nBuf : Space → Nat
  | .hbm => 5
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S4096x768, .f32⟩
  | .hbm, ⟨2, _⟩ => ⟨S4096x768, .bf16⟩
  | .hbm, ⟨3, _⟩ => ⟨S8320x768, .f32⟩
  | .hbm, ⟨4, _⟩ => ⟨S8320x768, .bf16⟩
  | .local _ .vmem, ⟨0, _⟩ => ⟨S640x4096, .bf16⟩
  | .local _ .vmem, ⟨1, _⟩ => ⟨S640x4096, .bf16⟩
  | .local _ .vmem, ⟨2, _⟩ => ⟨S4096x768, .bf16⟩
  | .local _ .vmem, ⟨3, _⟩ => ⟨S640x768, .f32⟩
  | .local _ .vmem, ⟨4, _⟩ => ⟨S640x768, .f32⟩
  | .local _ .vmem, ⟨5, _⟩ => ⟨S640x768, .bf16⟩
  | .local _ .vmem, ⟨6, _⟩ => ⟨S640x768, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8320x4096 : Shape := ⟨2, ![8320, 4096]⟩
abbrev S4096x768 : Shape := ⟨2, ![4096, 768]⟩
abbrev S8320x768 : Shape := ⟨2, ![8320, 768]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x768, .f32⟩
  | .hbm, ⟨2, _⟩ => ⟨S8320x4096, .f32⟩
  | .hbm, ⟨3, _⟩ => ⟨S8320x768, .f32⟩
  | .hbm, ⟨4, _⟩ => ⟨S8320x768, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Steps.lean ====
module

public import proofs.«01_k».proof.Proof.Gen.KernelIdeal.Skeleton
public import proofs.«01_k».proof.Proof.Gen.KernelIdeal.Launch
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

/-! What one step of the kernel's grid computes, as functions of the blocks it reads and of the accumulators it
finds: the running maximum, the running denominator and the running weighted sum of values of the 32 query rows
(16 heads, two halves each), and, at a row's last step, the result block. For any float values. -/

@[expose] public section

noncomputable section

namespace Cert.KernelIdeal.Hand

open Cert.KernelIdeal Cert.KernelIdeal.Gen
open Idealize.ShloMosaic Idealize.ShloMosaic.TcCoe

variable {F : FTy → Type} [FloatOps F]

/-- The body initialises its accumulators at this point: the first step of a row. -/
abbrev atFirst (i : grid0.Coords) : Prop :=
  Scalar.cmpi .ne (Scalar.extui (Scalar.cmpi .eq (BitVec.ofNat 32 (i 1).val) 0#32)) 0#32 = 1#1

/-- The point's keys all lie at least one bucket range before the query: the constant-bias branch is taken. -/
abbrev atFar (i : grid0.Coords) : Prop :=
  Scalar.cmpi .ne (Scalar.extui (Scalar.cmpi .sge (Scalar.subi 8192#32 (Scalar.subi (Scalar.addi (Scalar.muli
    (BitVec.ofNat 32 (i 1).val) 1024#32) 1024#32) 1#32)) 128#32)) 0#32 = 1#1

/-- The body merges the new row and writes the result at this point: the last step of a row. -/
abbrev atLast (i : grid0.Coords) : Prop := k0_cond3 i = 1#1

/-- A page holds 128 tokens of four half-rows each (first key, second key, first half of the value, second half of the
    value): half-row 0 of each token, -/
def half0 (x : Vec F S1x512x128 .f32) : Vec F S1x128x128 .f32 := fun j =>
  x ((⟨![0, 0, 0], S1x128x128.size, ![1, 4, 1], inb_S1x512x128_S1x128x128_0_0_0_s_1_4_1⟩ : LoadRect S1x512x128).idx j)
/-- half-row 1, -/
def half1 (x : Vec F S1x512x128 .f32) : Vec F S1x128x128 .f32 := fun j =>
  x ((⟨![0, 1, 0], S1x128x128.size, ![1, 4, 1], inb_S1x512x128_S1x128x128_0_1_0_s_1_4_1⟩ : LoadRect S1x512x128).idx j)
/-- half-row 2, -/
def half2 (x : Vec F S1x512x128 .f32) : Vec F S1x128x128 .f32 := fun j =>
  x ((⟨![0, 2, 0], S1x128x128.size, ![1, 4, 1], inb_S1x512x128_S1x128x128_0_2_0_s_1_4_1⟩ : LoadRect S1x512x128).idx j)
/-- half-row 3. -/
def half3 (x : Vec F S1x512x128 .f32) : Vec F S1x128x128 .f32 := fun j =>
  x ((⟨![0, 3, 0], S1x128x128.size, ![1, 4, 1], inb_S1x512x128_S1x128x128_0_3_0_s_1_4_1⟩ : LoadRect S1x512x128).idx j)

/-- The step's 1024 first keys, from its eight pages, -/
def keys1 (p : Fin 8 → Vec F S1x512x128 .f32) : FVec F S1024x128 .bf16 :=
  k0_pay31 (half0 (p 0)) (half0 (p 1)) (half0 (p 2)) (half0 (p 3)) (half0 (p 4)) (half0 (p 5)) (half0 (p 6)) (half0 (p 7))
/-- its second keys, -/
def keys2 (p : Fin 8 → Vec F S1x512x128 .f32) : FVec F S1024x128 .bf16 :=
  k0_pay33 (k0_pay32 (half1 (p 0))) (half1 (p 1)) (half1 (p 2)) (half1 (p 3)) (half1 (p 4)) (half1 (p 5)) (half1 (p 6)) (half1 (p 7))
/-- and its values. -/
def vals (p : Fin 8 → Vec F S1x512x128 .f32) : FVec F S1024x256 .bf16 :=
  k0_pay45 (k0_pay38 (k0_pay34 (half2 (p 0))) (k0_pay35 (half2 (p 1))) (k0_pay36 (half2 (p 2))) (k0_pay37 (half2 (p 3)))
      (half2 (p 4)) (half2 (p 5)) (half2 (p 6)) (half2 (p 7)))
    (k0_pay39 (half3 (p 0)) (half3 (p 1)) (half3 (p 2)) (half3 (p 3)) (half3 (p 4)) (half3 (p 5)) (half3 (p 6)) (half3 (p 7)))

/-- The relative-position bias of step `j`'s keys by bucket: a selection over the table's 32 columns. -/
def nearBias (j : BitVec 32) (tab : Vec F S32x32 .f32) : FVec F S32x1024 .f32 :=
  let t := k0_pay40 tab
  let b := k0_pay5 (F := F) (k0_pay41 j)
  let s1 := k0_pay8 t b (k0_pay6 t (k0_pay41 j)) (k0_pay7 (F := F) (k0_pay41 j))
  let s2 := k0_pay12 t b (k0_pay9 t b s1) (k0_pay10 t) (k0_pay11 b)
  k0_pay43 tab b (k0_pay14 t b s2 (k0_pay13 b))

/-- The bias a step adds: the last column where every key is far, else the selection. -/
def stepBias (i : grid0.Coords) (tab : Vec F S32x32 .f32) : FVec F S32x1024 .f32 :=
  if atFar i then k0_pay42 tab else nearBias (BitVec.ofNat 32 (i 1).val) tab

/-- The accumulators of a row: running maximum, running denominator, running weighted sum. -/
structure Acc (F : FTy → Type) [FloatOps F] where
  m : Vec F S32x1 .f32
  l : Vec F S32x1 .f32
  a : Vec F S32x256 .f32

/-- The accumulators before a row's first step. -/
def acc0 : Acc F := ⟨k0_pay27, k0_pay28, k0_pay29⟩

/-- One step: the accumulators after the pages `p` with bias `b`. -/
def fold (q : Vec F S1x32x128 .bf16) (b : FVec F S32x1024 .f32) (p : Fin 8 → Vec F S1x512x128 .f32) (s : Acc F) : Acc F where
  m := k0_pay3 (k0_pay46 (k0_pay30 q) (keys1 p) (keys2 p) b s.m)
  l := k0_pay1 (k0_pay49 (k0_pay30 q) (keys1 p) (keys2 p) b s.m s.l)
  a := k0_pay2 (vals p) (k0_pay47 (k0_pay30 q) (keys1 p) (keys2 p) b s.m) (k0_pay48 (k0_pay30 q) (keys1 p) (keys2 p) b s.m) s.a

/-- The accumulators after the new row is merged in. -/
def merge (q : Vec F S1x32x128 .bf16) (n : Vec F S1x1x512 .bf16) (tab : Vec F S32x32 .f32) (s : Acc F) : Acc F where
  m := k0_pay23 (k0_pay17 (k0_pay30 q) (k0_pay40 tab) n s.m)
  l := k0_pay20 (k0_pay30 q) (k0_pay40 tab) n s.m s.l
  a := k0_pay22 (k0_pay21 (k0_pay30 q) (k0_pay40 tab) n s.m s.a)

/-- The result block of a row, from its final accumulators. -/
def result (lam : Vec F S4x128 .f32) (g : Vec F S1x256 .f32) (s : Acc F) : Vec F S1x16x256 .f32 :=
  k0_pay4 (k0_pay24 g) (k0_pay25 s.a s.l lam) (k0_pay26 s.a s.l lam)

/-- A load reads a whole staging buffer's contents at the coordinates it loads. -/
theorem readAt_unread {sig' : RefSig} {κ : Kind} {sp : Space} {s : Shape} {e : EltTy} {M : Memref sig' κ sp s e} (h : M.IsWhole)
    {Val : EltTy → Type} (B : LoadRect s) (x : s.Idx → Val e) :
    M.view.readAt Val B (h.unread x) = fun j => x (B.idx j) := by
  funext j; rw [View.readAt_apply, h.read_unread]

/-- A load of a whole staging buffer's contents through the rectangle of all of it reads them. -/
theorem readAt_unread_full {sig' : RefSig} {κ : Kind} {sp : Space} {s : Shape} {e : EltTy} {M : Memref sig' κ sp s e} (h : M.IsWhole)
    {Val : EltTy → Type} {off : Fin s.rank → ℕ} (inb : ∀ a, off a + s.size a ≤ s.size a) (x : s.Idx → Val e) :
    M.view.readAt Val (Rect.unit off (no_index s.size) inb).toLoadRect (h.unread x) = x := by
  rw [View.readAt_full, h.read_unread]

/-- A load of a whole buffer after a store of all of it reads what was stored. -/
theorem readCov_whole {sig' : RefSig} {κ : Kind} {sp : Space} {s : Shape} {e : EltTy} {Val : EltTy → Type} [∀ e, Nonempty (Val e)]
    (v : View sig' κ sp s e) {off off' : Fin s.rank → ℕ} (inb : ∀ a, off a + s.size a ≤ s.size a)
    (inb' : ∀ a, off' a + s.size a ≤ s.size a) (w : s.Idx → Val e) (L : List (View.Piece Val s e)) :
    v.readCov (⟨Rect.unit off' (no_index s.size) inb', w⟩ :: L) (Rect.unit off (no_index s.size) inb).toLoadRect = w :=
  View.readCov_full v inb inb' w L

end Cert.KernelIdeal.Hand

end
-- ==== Proof.BodyA.lean ====
module

public import proofs.«01_k».proof.Proof.Steps

/-! The kernel's body at one kind of grid point, run once for any float values. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- A row's first step: whatever the accumulators held, they end as one step from the initial ones. -/
theorem runA (c : Dev nD) (i : grid0.Coords) (arg2 : Memref sig .tc .smem S128x64 .i32) (harg2 : arg2.IsWhole) (arg3 : Memref sig .tc .vmem S1x32x128 .bf16) (harg3 : arg3.IsWhole) (arg4 : Memref sig .tc .vmem S1x1x512 .bf16) (harg4 : arg4.IsWhole) (arg5 : Memref sig .tc .vmem S32x32 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x16x256 .f32) (harg16 : arg16.IsWhole) (arg17 : Memref sig .tc .vmem S32x1 .f32) (harg17 : arg17.IsWhole) (arg18 : Memref sig .tc .vmem S32x1 .f32) (harg18 : arg18.IsWhole) (arg19 : Memref sig .tc .vmem S32x256 .f32) (harg19 : arg19.IsWhole)
    (hc1 : atFirst i) (hc2 : atFar i) (hc3 : ¬atLast i)
    (q : Vec F S1x32x128 .bf16) (n : Vec F S1x1x512 .bf16) (tab : Vec F S32x32 .f32) (lam : Vec F S4x128 .f32) (g : Vec F S1x256 .f32) (p : Fin 8 → Vec F S1x512x128 .f32) (xi : Vec F S1x16x256 .f32) (E : Set ℕ) (K : PUnit → sProp 𝕄) :
    iprop(owns (c : Thread nD τ) arg3 fullShare q ∗ owns (c : Thread nD τ) arg4 fullShare n ∗ owns (c : Thread nD τ) arg5 fullShare tab ∗ owns (c : Thread nD τ) arg6 fullShare lam ∗ owns (c : Thread nD τ) arg7 fullShare g ∗ owns (c : Thread nD τ) arg8 fullShare (p 0) ∗ owns (c : Thread nD τ) arg9 fullShare (p 1) ∗ owns (c : Thread nD τ) arg10 fullShare (p 2) ∗ owns (c : Thread nD τ) arg11 fullShare (p 3) ∗ owns (c : Thread nD τ) arg12 fullShare (p 4) ∗ owns (c : Thread nD τ) arg13 fullShare (p 5) ∗ owns (c : Thread nD τ) arg14 fullShare (p 6) ∗ owns (c : Thread nD τ) arg15 fullShare (p 7) ∗ owns (c : Thread nD τ) arg16 fullShare xi ∗ (∃ d, owns (c : Thread nD τ) arg17 fullShare d) ∗ (∃ d, owns (c : Thread nD τ) arg18 fullShare d) ∗ (∃ d, owns (c : Thread nD τ) arg19 fullShare d)
        ∗ (owns (c : Thread nD τ) arg3 fullShare q ∗ owns (c : Thread nD τ) arg4 fullShare n ∗ owns (c : Thread nD τ) arg5 fullShare tab ∗ owns (c : Thread nD τ) arg6 fullShare lam ∗ owns (c : Thread nD τ) arg7 fullShare g ∗ owns (c : Thread nD τ) arg8 fullShare (p 0) ∗ owns (c : Thread nD τ) arg9 fullShare (p 1) ∗ owns (c : Thread nD τ) arg10 fullShare (p 2) ∗ owns (c : Thread nD τ) arg11 fullShare (p 3) ∗ owns (c : Thread nD τ) arg12 fullShare (p 4) ∗ owns (c : Thread nD τ) arg13 fullShare (p 5) ∗ owns (c : Thread nD τ) arg14 fullShare (p 6) ∗ owns (c : Thread nD τ) arg15 fullShare (p 7) ∗ owns (c : Thread nD τ) arg16 fullShare xi ∗ owns (c : Thread nD τ) arg17 fullShare (fold q (stepBias i tab) p acc0).m ∗ owns (c : Thread nD τ) arg18 fullShare (fold q (stepBias i tab) p acc0).l ∗ owns (c : Thread nD τ) arg19 fullShare (fold q (stepBias i tab) p acc0).a -∗ K ⟨⟩))
      ⊢ wp frame (wpE (defs₀ (F := F)) Variants.none c none) E
          (cc0_diff_decode_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_diff_decode_attention_eq_skeleton]; unfold cc0_diff_decode_attention_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13
  have hb : stepBias (F := F) i tab = k0_pay42 tab := if_pos hc2
  rw [hb]
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr
    swap; · iexact H14
    ipureintro
    delta runA.sl.H14_1 runA.sl.H15_1 runA.sl.H16_1 runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.v5 runA.sl.v7 runA.sl.v9 runA.sl.v11 runA.sl.v13 runA.sl.v15 runA.sl.v17 runA.sl.v19 runA.sl.v23 runA.sl.v25 runA.sl.v27 runA.sl.v29 runA.sl.v31 runA.sl.v33 runA.sl.v35 runA.sl.v37 runA.sl.v41 runA.sl.v43 runA.sl.v45 runA.sl.v47 runA.sl.v49 runA.sl.v51 runA.sl.v53 runA.sl.v55 runA.sl.v59 runA.sl.v61 runA.sl.v63 runA.sl.v65 runA.sl.v67 runA.sl.v69 runA.sl.v71 runA.sl.v73 runA.sl.v101 runA.sl.v110 runA.sl.v120
    rw [View.read_writes_full]
    simp only [readAt_unread_full, readCov_whole]
    simp only [readAt_unread]
    rfl
  isplitl [H15]
  · iexists _; isplitr
    swap; · iexact H15
    ipureintro
    delta runA.sl.H14_1 runA.sl.H15_1 runA.sl.H16_1 runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.v5 runA.sl.v7 runA.sl.v9 runA.sl.v11 runA.sl.v13 runA.sl.v15 runA.sl.v17 runA.sl.v19 runA.sl.v23 runA.sl.v25 runA.sl.v27 runA.sl.v29 runA.sl.v31 runA.sl.v33 runA.sl.v35 runA.sl.v37 runA.sl.v41 runA.sl.v43 runA.sl.v45 runA.sl.v47 runA.sl.v49 runA.sl.v51 runA.sl.v53 runA.sl.v55 runA.sl.v59 runA.sl.v61 runA.sl.v63 runA.sl.v65 runA.sl.v67 runA.sl.v69 runA.sl.v71 runA.sl.v73 runA.sl.v101 runA.sl.v110 runA.sl.v120
    rw [View.read_writes_full]
    simp only [readAt_unread_full, readCov_whole]
    simp only [readAt_unread]
    rfl
  iexists _; isplitr
  swap; · iexact H16
  ipureintro
  delta runA.sl.H14_1 runA.sl.H15_1 runA.sl.H16_1 runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.v5 runA.sl.v7 runA.sl.v9 runA.sl.v11 runA.sl.v13 runA.sl.v15 runA.sl.v17 runA.sl.v19 runA.sl.v23 runA.sl.v25 runA.sl.v27 runA.sl.v29 runA.sl.v31 runA.sl.v33 runA.sl.v35 runA.sl.v37 runA.sl.v41 runA.sl.v43 runA.sl.v45 runA.sl.v47 runA.sl.v49 runA.sl.v51 runA.sl.v53 runA.sl.v55 runA.sl.v59 runA.sl.v61 runA.sl.v63 runA.sl.v65 runA.sl.v67 runA.sl.v69 runA.sl.v71 runA.sl.v73 runA.sl.v101 runA.sl.v110 runA.sl.v120
  rw [View.read_writes_full]
  simp only [readAt_unread_full, readCov_whole]
  simp only [readAt_unread]
  rfl

end Cert.KernelIdeal.Hand

end
-- ==== Proof.BodyB.lean ====
module

public import proofs.«01_k».proof.Proof.BodyA

/-! The kernel's body at one kind of grid point, run once for any float values. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- A step that is neither first nor last: the accumulators end one step further. -/
theorem runB (c : Dev nD) (i : grid0.Coords) (arg2 : Memref sig .tc .smem S128x64 .i32) (harg2 : arg2.IsWhole) (arg3 : Memref sig .tc .vmem S1x32x128 .bf16) (harg3 : arg3.IsWhole) (arg4 : Memref sig .tc .vmem S1x1x512 .bf16) (harg4 : arg4.IsWhole) (arg5 : Memref sig .tc .vmem S32x32 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x16x256 .f32) (harg16 : arg16.IsWhole) (arg17 : Memref sig .tc .vmem S32x1 .f32) (harg17 : arg17.IsWhole) (arg18 : Memref sig .tc .vmem S32x1 .f32) (harg18 : arg18.IsWhole) (arg19 : Memref sig .tc .vmem S32x256 .f32) (harg19 : arg19.IsWhole)
    (hc1 : ¬atFirst i) (hc2 : atFar i) (hc3 : ¬atLast i)
    (q : Vec F S1x32x128 .bf16) (n : Vec F S1x1x512 .bf16) (tab : Vec F S32x32 .f32) (lam : Vec F S4x128 .f32) (g : Vec F S1x256 .f32) (p : Fin 8 → Vec F S1x512x128 .f32) (xi : Vec F S1x16x256 .f32) (st : Acc F) (E : Set ℕ) (K : PUnit → sProp 𝕄) :
    iprop(owns (c : Thread nD τ) arg3 fullShare q ∗ owns (c : Thread nD τ) arg4 fullShare n ∗ owns (c : Thread nD τ) arg5 fullShare tab ∗ owns (c : Thread nD τ) arg6 fullShare lam ∗ owns (c : Thread nD τ) arg7 fullShare g ∗ owns (c : Thread nD τ) arg8 fullShare (p 0) ∗ owns (c : Thread nD τ) arg9 fullShare (p 1) ∗ owns (c : Thread nD τ) arg10 fullShare (p 2) ∗ owns (c : Thread nD τ) arg11 fullShare (p 3) ∗ owns (c : Thread nD τ) arg12 fullShare (p 4) ∗ owns (c : Thread nD τ) arg13 fullShare (p 5) ∗ owns (c : Thread nD τ) arg14 fullShare (p 6) ∗ owns (c : Thread nD τ) arg15 fullShare (p 7) ∗ owns (c : Thread nD τ) arg16 fullShare xi ∗ owns (c : Thread nD τ) arg17 fullShare st.m ∗ owns (c : Thread nD τ) arg18 fullShare st.l ∗ owns (c : Thread nD τ) arg19 fullShare st.a
        ∗ (owns (c : Thread nD τ) arg3 fullShare q ∗ owns (c : Thread nD τ) arg4 fullShare n ∗ owns (c : Thread nD τ) arg5 fullShare tab ∗ owns (c : Thread nD τ) arg6 fullShare lam ∗ owns (c : Thread nD τ) arg7 fullShare g ∗ owns (c : Thread nD τ) arg8 fullShare (p 0) ∗ owns (c : Thread nD τ) arg9 fullShare (p 1) ∗ owns (c : Thread nD τ) arg10 fullShare (p 2) ∗ owns (c : Thread nD τ) arg11 fullShare (p 3) ∗ owns (c : Thread nD τ) arg12 fullShare (p 4) ∗ owns (c : Thread nD τ) arg13 fullShare (p 5) ∗ owns (c : Thread nD τ) arg14 fullShare (p 6) ∗ owns (c : Thread nD τ) arg15 fullShare (p 7) ∗ owns (c : Thread nD τ) arg16 fullShare xi ∗ owns (c : Thread nD τ) arg17 fullShare (fold q (stepBias i tab) p st).m ∗ owns (c : Thread nD τ) arg18 fullShare (fold q (stepBias i tab) p st).l ∗ owns (c : Thread nD τ) arg19 fullShare (fold q (stepBias i tab) p st).a -∗ K ⟨⟩))
      ⊢ wp frame (wpE (defs₀ (F := F)) Variants.none c none) E
          (cc0_diff_decode_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_diff_decode_attention_eq_skeleton]; unfold cc0_diff_decode_attention_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16
  have hb : stepBias (F := F) i tab = k0_pay42 tab := if_pos hc2
  rw [hb]
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr
    swap; · iexact H14
    ipureintro
    delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.v5 runB.sl.v7 runB.sl.v9 runB.sl.v11 runB.sl.v13 runB.sl.v15 runB.sl.v17 runB.sl.v19 runB.sl.v23 runB.sl.v25 runB.sl.v27 runB.sl.v29 runB.sl.v31 runB.sl.v33 runB.sl.v35 runB.sl.v37 runB.sl.v41 runB.sl.v43 runB.sl.v45 runB.sl.v47 runB.sl.v49 runB.sl.v51 runB.sl.v53 runB.sl.v55 runB.sl.v59 runB.sl.v61 runB.sl.v63 runB.sl.v65 runB.sl.v67 runB.sl.v69 runB.sl.v71 runB.sl.v73
    rw [View.read_writes_full]
    simp only [readAt_unread_full, readCov_whole]
    simp only [readAt_unread]
    rfl
  isplitl [H15]
  · iexists _; isplitr
    swap; · iexact H15
    ipureintro
    delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.v5 runB.sl.v7 runB.sl.v9 runB.sl.v11 runB.sl.v13 runB.sl.v15 runB.sl.v17 runB.sl.v19 runB.sl.v23 runB.sl.v25 runB.sl.v27 runB.sl.v29 runB.sl.v31 runB.sl.v33 runB.sl.v35 runB.sl.v37 runB.sl.v41 runB.sl.v43 runB.sl.v45 runB.sl.v47 runB.sl.v49 runB.sl.v51 runB.sl.v53 runB.sl.v55 runB.sl.v59 runB.sl.v61 runB.sl.v63 runB.sl.v65 runB.sl.v67 runB.sl.v69 runB.sl.v71 runB.sl.v73
    rw [View.read_writes_full]
    simp only [readAt_unread_full, readCov_whole]
    simp only [readAt_unread]
    rfl
  iexists _; isplitr
  swap; · iexact H16
  ipureintro
  delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.v5 runB.sl.v7 runB.sl.v9 runB.sl.v11 runB.sl.v13 runB.sl.v15 runB.sl.v17 runB.sl.v19 runB.sl.v23 runB.sl.v25 runB.sl.v27 runB.sl.v29 runB.sl.v31 runB.sl.v33 runB.sl.v35 runB.sl.v37 runB.sl.v41 runB.sl.v43 runB.sl.v45 runB.sl.v47 runB.sl.v49 runB.sl.v51 runB.sl.v53 runB.sl.v55 runB.sl.v59 runB.sl.v61 runB.sl.v63 runB.sl.v65 runB.sl.v67 runB.sl.v69 runB.sl.v71 runB.sl.v73
  rw [View.read_writes_full]
  simp only [readAt_unread_full, readCov_whole]
  simp only [readAt_unread]
  rfl

end Cert.KernelIdeal.Hand

end
-- ==== Proof.BodyC.lean ====
module

public import proofs.«01_k».proof.Proof.BodyB

/-! The kernel's body at one kind of grid point, run once for any float values. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- A row's last step: its keys include near ones, so the bias is selected by bucket; the new row is merged in and the result block is written. -/
theorem runC (c : Dev nD) (i : grid0.Coords) (arg2 : Memref sig .tc .smem S128x64 .i32) (harg2 : arg2.IsWhole) (arg3 : Memref sig .tc .vmem S1x32x128 .bf16) (harg3 : arg3.IsWhole) (arg4 : Memref sig .tc .vmem S1x1x512 .bf16) (harg4 : arg4.IsWhole) (arg5 : Memref sig .tc .vmem S32x32 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x16x256 .f32) (harg16 : arg16.IsWhole) (arg17 : Memref sig .tc .vmem S32x1 .f32) (harg17 : arg17.IsWhole) (arg18 : Memref sig .tc .vmem S32x1 .f32) (harg18 : arg18.IsWhole) (arg19 : Memref sig .tc .vmem S32x256 .f32) (harg19 : arg19.IsWhole)
    (hc1 : ¬atFirst i) (hc2 : ¬atFar i) (hc3 : atLast i)
    (q : Vec F S1x32x128 .bf16) (n : Vec F S1x1x512 .bf16) (tab : Vec F S32x32 .f32) (lam : Vec F S4x128 .f32) (g : Vec F S1x256 .f32) (p : Fin 8 → Vec F S1x512x128 .f32) (st : Acc F) (E : Set ℕ) (K : PUnit → sProp 𝕄) :
    iprop(owns (c : Thread nD τ) arg3 fullShare q ∗ owns (c : Thread nD τ) arg4 fullShare n ∗ owns (c : Thread nD τ) arg5 fullShare tab ∗ owns (c : Thread nD τ) arg6 fullShare lam ∗ owns (c : Thread nD τ) arg7 fullShare g ∗ owns (c : Thread nD τ) arg8 fullShare (p 0) ∗ owns (c : Thread nD τ) arg9 fullShare (p 1) ∗ owns (c : Thread nD τ) arg10 fullShare (p 2) ∗ owns (c : Thread nD τ) arg11 fullShare (p 3) ∗ owns (c : Thread nD τ) arg12 fullShare (p 4) ∗ owns (c : Thread nD τ) arg13 fullShare (p 5) ∗ owns (c : Thread nD τ) arg14 fullShare (p 6) ∗ owns (c : Thread nD τ) arg15 fullShare (p 7) ∗ (∃ d, owns (c : Thread nD τ) arg16 fullShare d) ∗ owns (c : Thread nD τ) arg17 fullShare st.m ∗ owns (c : Thread nD τ) arg18 fullShare st.l ∗ owns (c : Thread nD τ) arg19 fullShare st.a
        ∗ (owns (c : Thread nD τ) arg3 fullShare q ∗ owns (c : Thread nD τ) arg4 fullShare n ∗ owns (c : Thread nD τ) arg5 fullShare tab ∗ owns (c : Thread nD τ) arg6 fullShare lam ∗ owns (c : Thread nD τ) arg7 fullShare g ∗ owns (c : Thread nD τ) arg8 fullShare (p 0) ∗ owns (c : Thread nD τ) arg9 fullShare (p 1) ∗ owns (c : Thread nD τ) arg10 fullShare (p 2) ∗ owns (c : Thread nD τ) arg11 fullShare (p 3) ∗ owns (c : Thread nD τ) arg12 fullShare (p 4) ∗ owns (c : Thread nD τ) arg13 fullShare (p 5) ∗ owns (c : Thread nD τ) arg14 fullShare (p 6) ∗ owns (c : Thread nD τ) arg15 fullShare (p 7) ∗ owns (c : Thread nD τ) arg16 fullShare (result lam g (merge q n tab (fold q (stepBias i tab) p st))) ∗ owns (c : Thread nD τ) arg17 fullShare (merge q n tab (fold q (stepBias i tab) p st)).m ∗ owns (c : Thread nD τ) arg18 fullShare (merge q n tab (fold q (stepBias i tab) p st)).l ∗ owns (c : Thread nD τ) arg19 fullShare (merge q n tab (fold q (stepBias i tab) p st)).a -∗ K ⟨⟩))
      ⊢ wp frame (wpE (defs₀ (F := F)) Variants.none c none) E
          (cc0_diff_decode_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_diff_decode_attention_eq_skeleton]; unfold cc0_diff_decode_attention_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part11_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%f16, %hf16, H16⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg17.eq_unread hf14; obtain rfl := harg18.eq_unread hf15; obtain rfl := harg19.eq_unread hf16
  have hb : stepBias (F := F) i tab = nearBias (BitVec.ofNat 32 (i 1).val) tab := if_neg hc2
  rw [hb]
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr
    swap; · iexact H13
    ipureintro
    delta runC.sl.H14_1 runC.sl.H15_1 runC.sl.H15_2 runC.sl.H16_1 runC.sl.H16_2 runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.r_14 runC.sl.r_15 runC.sl.r_16 runC.sl.r_17 runC.sl.r_18 runC.sl.r_19 runC.sl.r_20 runC.sl.r_21 runC.sl.r_22 runC.sl.r_23 runC.sl.r_24 runC.sl.v5 runC.sl.v7 runC.sl.v9 runC.sl.v11 runC.sl.v13 runC.sl.v15 runC.sl.v17 runC.sl.v19 runC.sl.v23 runC.sl.v25 runC.sl.v27 runC.sl.v29 runC.sl.v31 runC.sl.v33 runC.sl.v35 runC.sl.v37 runC.sl.v41 runC.sl.v43 runC.sl.v45 runC.sl.v47 runC.sl.v49 runC.sl.v51 runC.sl.v53 runC.sl.v55 runC.sl.v59 runC.sl.v61 runC.sl.v63 runC.sl.v65 runC.sl.v67 runC.sl.v69 runC.sl.v71 runC.sl.v73 runC.sl.v156 runC.sl.v162 runC.sl.v168 runC.sl.v181 runC.sl.v182
    rw [View.read_writes_full]
    simp only [readAt_unread_full, readCov_whole]
    simp only [readAt_unread]
    rfl
  isplitl [H14]
  · iexists _; isplitr
    swap; · iexact H14
    ipureintro
    delta runC.sl.H14_1 runC.sl.H15_1 runC.sl.H15_2 runC.sl.H16_1 runC.sl.H16_2 runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.r_14 runC.sl.r_15 runC.sl.r_16 runC.sl.r_17 runC.sl.r_18 runC.sl.r_19 runC.sl.r_20 runC.sl.r_21 runC.sl.r_22 runC.sl.r_23 runC.sl.r_24 runC.sl.v5 runC.sl.v7 runC.sl.v9 runC.sl.v11 runC.sl.v13 runC.sl.v15 runC.sl.v17 runC.sl.v19 runC.sl.v23 runC.sl.v25 runC.sl.v27 runC.sl.v29 runC.sl.v31 runC.sl.v33 runC.sl.v35 runC.sl.v37 runC.sl.v41 runC.sl.v43 runC.sl.v45 runC.sl.v47 runC.sl.v49 runC.sl.v51 runC.sl.v53 runC.sl.v55 runC.sl.v59 runC.sl.v61 runC.sl.v63 runC.sl.v65 runC.sl.v67 runC.sl.v69 runC.sl.v71 runC.sl.v73 runC.sl.v156 runC.sl.v162 runC.sl.v168 runC.sl.v181 runC.sl.v182
    rw [View.read_writes_full]
    simp only [readAt_unread_full, readCov_whole]
    simp only [readAt_unread]
    rfl
  isplitl [H15]
  · iexists _; isplitr
    swap; · iexact H15
    ipureintro
    delta runC.sl.H14_1 runC.sl.H15_1 runC.sl.H15_2 runC.sl.H16_1 runC.sl.H16_2 runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.r_14 runC.sl.r_15 runC.sl.r_16 runC.sl.r_17 runC.sl.r_18 runC.sl.r_19 runC.sl.r_20 runC.sl.r_21 runC.sl.r_22 runC.sl.r_23 runC.sl.r_24 runC.sl.v5 runC.sl.v7 runC.sl.v9 runC.sl.v11 runC.sl.v13 runC.sl.v15 runC.sl.v17 runC.sl.v19 runC.sl.v23 runC.sl.v25 runC.sl.v27 runC.sl.v29 runC.sl.v31 runC.sl.v33 runC.sl.v35 runC.sl.v37 runC.sl.v41 runC.sl.v43 runC.sl.v45 runC.sl.v47 runC.sl.v49 runC.sl.v51 runC.sl.v53 runC.sl.v55 runC.sl.v59 runC.sl.v61 runC.sl.v63 runC.sl.v65 runC.sl.v67 runC.sl.v69 runC.sl.v71 runC.sl.v73 runC.sl.v156 runC.sl.v162 runC.sl.v168 runC.sl.v181 runC.sl.v182
    rw [View.read_writes_full]
    simp only [readAt_unread_full, readCov_whole]
    simp only [readAt_unread]
    rfl
  iexists _; isplitr
  swap; · iexact H16
  ipureintro
  delta runC.sl.H14_1 runC.sl.H15_1 runC.sl.H15_2 runC.sl.H16_1 runC.sl.H16_2 runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.r_14 runC.sl.r_15 runC.sl.r_16 runC.sl.r_17 runC.sl.r_18 runC.sl.r_19 runC.sl.r_20 runC.sl.r_21 runC.sl.r_22 runC.sl.r_23 runC.sl.r_24 runC.sl.v5 runC.sl.v7 runC.sl.v9 runC.sl.v11 runC.sl.v13 runC.sl.v15 runC.sl.v17 runC.sl.v19 runC.sl.v23 runC.sl.v25 runC.sl.v27 runC.sl.v29 runC.sl.v31 runC.sl.v33 runC.sl.v35 runC.sl.v37 runC.sl.v41 runC.sl.v43 runC.sl.v45 runC.sl.v47 runC.sl.v49 runC.sl.v51 runC.sl.v53 runC.sl.v55 runC.sl.v59 runC.sl.v61 runC.sl.v63 runC.sl.v65 runC.sl.v67 runC.sl.v69 runC.sl.v71 runC.sl.v73 runC.sl.v156 runC.sl.v162 runC.sl.v168 runC.sl.v181 runC.sl.v182
  rw [View.read_writes_full]
  simp only [readAt_unread_full, readCov_whole]
  simp only [readAt_unread]
  rfl

end Cert.KernelIdeal.Hand

end
-- ==== Proof.Setup.lean ====
module

public import proofs.«01_k».proof.Proof.BodyC

/-! What the call finds in its arrays, the blocks its points work on, and the accumulators after each point. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf pin)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a : (p : Fin 1) → (pcfgs (F := F) p).Adm)

/-- What the buffers hold when the call starts: the launch contents after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- The block of window `w` at point `t`, read off the array as the call finds it. -/
def iblk (c : Dev nD) (w : Fin (cfg0 (a 0)).W) (t : Fin (cfg0 (a 0)).N) :
    (((cfg0 (a 0)).win w).xblock ((cfg0 (a 0)).grid.coords t)).Idx → Elt F ((cfg0 (a 0)).win w).elt :=
  (((cfg0 (a 0)).win w).blk t).view.read (Elt F) (V m c (Pipeline.arrRef spec0 w))

theorem before_of_0 {c : Dev nD} (dat : Dat τ (Elt F) Unit ℕ (UR sig nD τ) ℕ (cfg0 (a 0)) c) (hA : dat.A 0 = V m c (Pipeline.arrRef spec0 0))
    (hafter : ∀ t, dat.after 0 t = iblk m a c 0 t) (t : Fin (cfg0 (a 0)).N) (d) : dat.before 0 t d = iblk m a c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of_1 {c : Dev nD} (dat : Dat τ (Elt F) Unit ℕ (UR sig nD τ) ℕ (cfg0 (a 0)) c) (hA : dat.A 1 = V m c (Pipeline.arrRef spec0 1))
    (hafter : ∀ t, dat.after 1 t = iblk m a c 1 t) (t : Fin (cfg0 (a 0)).N) (d) : dat.before 1 t d = iblk m a c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of_2 {c : Dev nD} (dat : Dat τ (Elt F) Unit ℕ (UR sig nD τ) ℕ (cfg0 (a 0)) c) (hA : dat.A 2 = V m c (Pipeline.arrRef spec0 2))
    (hafter : ∀ t, dat.after 2 t = iblk m a c 2 t) (t : Fin (cfg0 (a 0)).N) (d) : dat.before 2 t d = iblk m a c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of_3 {c : Dev nD} (dat : Dat τ (Elt F) Unit ℕ (UR sig nD τ) ℕ (cfg0 (a 0)) c) (hA : dat.A 3 = V m c (Pipeline.arrRef spec0 3))
    (hafter : ∀ t, dat.after 3 t = iblk m a c 3 t) (t : Fin (cfg0 (a 0)).N) (d) : dat.before 3 t d = iblk m a c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_of_4 {c : Dev nD} (dat : Dat τ (Elt F) Unit ℕ (UR sig nD τ) ℕ (cfg0 (a 0)) c) (hA : dat.A 4 = V m c (Pipeline.arrRef spec0 4))
    (hafter : ∀ t, dat.after 4 t = iblk m a c 4 t) (t : Fin (cfg0 (a 0)).N) (d) : dat.before 4 t d = iblk m a c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_of_5 {c : Dev nD} (dat : Dat τ (Elt F) Unit ℕ (UR sig nD τ) ℕ (cfg0 (a 0)) c) (hA : dat.A 5 = V m c (Pipeline.arrRef spec0 5))
    (hafter : ∀ t, dat.after 5 t = iblk m a c 5 t) (t : Fin (cfg0 (a 0)).N) (d) : dat.before 5 t d = iblk m a c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_of_6 {c : Dev nD} (dat : Dat τ (Elt F) Unit ℕ (UR sig nD τ) ℕ (cfg0 (a 0)) c) (hA : dat.A 6 = V m c (Pipeline.arrRef spec0 6))
    (hafter : ∀ t, dat.after 6 t = iblk m a c 6 t) (t : Fin (cfg0 (a 0)).N) (d) : dat.before 6 t d = iblk m a c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before_of_7 {c : Dev nD} (dat : Dat τ (Elt F) Unit ℕ (UR sig nD τ) ℕ (cfg0 (a 0)) c) (hA : dat.A 7 = V m c (Pipeline.arrRef spec0 7))
    (hafter : ∀ t, dat.after 7 t = iblk m a c 7 t) (t : Fin (cfg0 (a 0)).N) (d) : dat.before 7 t d = iblk m a c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before_of_8 {c : Dev nD} (dat : Dat τ (Elt F) Unit ℕ (UR sig nD τ) ℕ (cfg0 (a 0)) c) (hA : dat.A 8 = V m c (Pipeline.arrRef spec0 8))
    (hafter : ∀ t, dat.after 8 t = iblk m a c 8 t) (t : Fin (cfg0 (a 0)).N) (d) : dat.before 8 t d = iblk m a c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before_of_9 {c : Dev nD} (dat : Dat τ (Elt F) Unit ℕ (UR sig nD τ) ℕ (cfg0 (a 0)) c) (hA : dat.A 9 = V m c (Pipeline.arrRef spec0 9))
    (hafter : ∀ t, dat.after 9 t = iblk m a c 9 t) (t : Fin (cfg0 (a 0)).N) (d) : dat.before 9 t d = iblk m a c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before_of_10 {c : Dev nD} (dat : Dat τ (Elt F) Unit ℕ (UR sig nD τ) ℕ (cfg0 (a 0)) c) (hA : dat.A 10 = V m c (Pipeline.arrRef spec0 10))
    (hafter : ∀ t, dat.after 10 t = iblk m a c 10 t) (t : Fin (cfg0 (a 0)).N) (d) : dat.before 10 t d = iblk m a c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before_of_11 {c : Dev nD} (dat : Dat τ (Elt F) Unit ℕ (UR sig nD τ) ℕ (cfg0 (a 0)) c) (hA : dat.A 11 = V m c (Pipeline.arrRef spec0 11))
    (hafter : ∀ t, dat.after 11 t = iblk m a c 11 t) (t : Fin (cfg0 (a 0)).N) (d) : dat.before 11 t d = iblk m a c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem before_of_12 {c : Dev nD} (dat : Dat τ (Elt F) Unit ℕ (UR sig nD τ) ℕ (cfg0 (a 0)) c) (hA : dat.A 12 = V m c (Pipeline.arrRef spec0 12))
    (hafter : ∀ t, dat.after 12 t = iblk m a c 12 t) (t : Fin (cfg0 (a 0)).N) (d) : dat.before 12 t d = iblk m a c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- A row is initialised at its step 0, -/
theorem atFirst_iff : ∀ t : Fin grid0.N, atFirst (grid0.coords t) ↔ t.val % 8 = 0 := fun t => by
  have ht : t.val < 1024 := Nat.lt_of_lt_of_eq t.isLt N_0
  have e0 : (grid0.coords t 0).val = t.val / 8 % 128 := Pipeline.Grid.coords_val t 0 (by decide) rfl
  have e1 : (grid0.coords t 1).val = t.val / 1 % 8 := Pipeline.Grid.coords_val t 1 (by decide) rfl
  simp only [atFirst, k0_cond3, e0, e1]
  word_cmp

/-- the far branch is taken at every step but 7, -/
theorem atFar_iff : ∀ t : Fin grid0.N, atFar (grid0.coords t) ↔ t.val % 8 ≠ 7 := by decide +kernel

/-- and a row is finished at its step 7. -/
theorem atLast_iff : ∀ t : Fin grid0.N, atLast (grid0.coords t) ↔ t.val % 8 = 7 := fun t => by
  have ht : t.val < 1024 := Nat.lt_of_lt_of_eq t.isLt N_0
  have e0 : (grid0.coords t 0).val = t.val / 8 % 128 := Pipeline.Grid.coords_val t 0 (by decide) rfl
  have e1 : (grid0.coords t 1).val = t.val / 1 % 8 := Pipeline.Grid.coords_val t 1 (by decide) rfl
  simp only [atLast, k0_cond3, e0, e1]
  word_cmp

theorem live_0 : ∀ t : Fin (cfg0 (a 0)).N, (cfg0 (a 0)).idle 0 (grid0.coords t) = false := fun _ => rfl
theorem live_1 : ∀ t : Fin (cfg0 (a 0)).N, (cfg0 (a 0)).idle 1 (grid0.coords t) = false := fun _ => rfl
theorem live_2 : ∀ t : Fin (cfg0 (a 0)).N, (cfg0 (a 0)).idle 2 (grid0.coords t) = false := fun _ => rfl
theorem live_3 : ∀ t : Fin (cfg0 (a 0)).N, (cfg0 (a 0)).idle 3 (grid0.coords t) = false := fun _ => rfl
theorem live_4 : ∀ t : Fin (cfg0 (a 0)).N, (cfg0 (a 0)).idle 4 (grid0.coords t) = false := fun _ => rfl
theorem live_5 : ∀ t : Fin (cfg0 (a 0)).N, (cfg0 (a 0)).idle 5 (grid0.coords t) = false := fun _ => rfl
theorem live_6 : ∀ t : Fin (cfg0 (a 0)).N, (cfg0 (a 0)).idle 6 (grid0.coords t) = false := fun _ => rfl
theorem live_7 : ∀ t : Fin (cfg0 (a 0)).N, (cfg0 (a 0)).idle 7 (grid0.coords t) = false := fun _ => rfl
theorem live_8 : ∀ t : Fin (cfg0 (a 0)).N, (cfg0 (a 0)).idle 8 (grid0.coords t) = false := fun _ => rfl
theorem live_9 : ∀ t : Fin (cfg0 (a 0)).N, (cfg0 (a 0)).idle 9 (grid0.coords t) = false := fun _ => rfl
theorem live_10 : ∀ t : Fin (cfg0 (a 0)).N, (cfg0 (a 0)).idle 10 (grid0.coords t) = false := fun _ => rfl
theorem live_11 : ∀ t : Fin (cfg0 (a 0)).N, (cfg0 (a 0)).idle 11 (grid0.coords t) = false := fun _ => rfl
theorem live_12 : ∀ t : Fin (cfg0 (a 0)).N, (cfg0 (a 0)).idle 12 (grid0.coords t) = false := fun _ => rfl

/-- The output's buffer is left alone at every step but a row's last, -/
theorem idle_13 (t : Fin (cfg0 (a 0)).N) (h : ¬t.val % 8 = 7) : (cfg0 (a 0)).idle 13 (grid0.coords t) = true :=
  (by decide +kernel : ∀ t : Fin grid0.N, ¬t.val % 8 = 7 → idle0 13 (grid0.coords t) = true) t h

/-- stored at the last, -/
theorem live_13 (t : Fin (cfg0 (a 0)).N) (h : t.val % 8 = 7) : (cfg0 (a 0)).idle 13 (grid0.coords t) = false :=
  (by decide +kernel : ∀ t : Fin grid0.N, t.val % 8 = 7 → idle0 13 (grid0.coords t) = false) t h

/-- and written back after the last only. -/
theorem flush_13 (t : Fin (cfg0 (a 0)).N) : ((cfg0 (a 0)).win 13).flush t = true ↔ t.val % 8 = 7 :=
  Pipeline.Window.flush_reads ((cfg0 (a 0)).win 13) rfl 0
    (show 1 < grid0.bound 0 by decide) (show grid0.fixedAfter reads0_13 0 = true by decide)
    (Pipeline.Window.sep_of_coord cc0_transform_13 0 0 (fun _ => rfl) (by decide)) (P := 8) (m := 7)
    (show grid0.stride 0 = 8 by decide) rfl t

theorem noFlush_13 (t : Fin (cfg0 (a 0)).N) (h : ¬t.val % 8 = 7) : ((cfg0 (a 0)).win 13).flush t = false :=
  Bool.eq_false_iff.2 fun e => h ((flush_13 a t).1 e)

abbrev ms_0 (t : Fin (cfg0 (a 0)).N) : Memref sig .tc .vmem S1x32x128 .bf16 := spec0_0.stage ((cfg0 (a 0)).slots t 0)
abbrev hs_0 (t : Fin (cfg0 (a 0)).N) : (ms_0 a t).IsWhole := hstage0_0 (((cfg0 (a 0)).slots t 0).cast nbuf0_0)
abbrev ms_1 (t : Fin (cfg0 (a 0)).N) : Memref sig .tc .vmem S1x1x512 .bf16 := spec0_1.stage ((cfg0 (a 0)).slots t 1)
abbrev hs_1 (t : Fin (cfg0 (a 0)).N) : (ms_1 a t).IsWhole := hstage0_1 (((cfg0 (a 0)).slots t 1).cast nbuf0_1)
abbrev ms_2 (t : Fin (cfg0 (a 0)).N) : Memref sig .tc .vmem S32x32 .f32 := spec0_2.stage ((cfg0 (a 0)).slots t 2)
abbrev hs_2 (t : Fin (cfg0 (a 0)).N) : (ms_2 a t).IsWhole := hstage0_2 (((cfg0 (a 0)).slots t 2).cast nbuf0_2)
abbrev ms_3 (t : Fin (cfg0 (a 0)).N) : Memref sig .tc .vmem S4x128 .f32 := spec0_3.stage ((cfg0 (a 0)).slots t 3)
abbrev hs_3 (t : Fin (cfg0 (a 0)).N) : (ms_3 a t).IsWhole := hstage0_3 (((cfg0 (a 0)).slots t 3).cast nbuf0_3)
abbrev ms_4 (t : Fin (cfg0 (a 0)).N) : Memref sig .tc .vmem S1x256 .f32 := spec0_4.stage ((cfg0 (a 0)).slots t 4)
abbrev hs_4 (t : Fin (cfg0 (a 0)).N) : (ms_4 a t).IsWhole := hstage0_4 (((cfg0 (a 0)).slots t 4).cast nbuf0_4)
abbrev ms_5 (t : Fin (cfg0 (a 0)).N) : Memref sig .tc .vmem S1x512x128 .f32 := spec0_5.stage ((cfg0 (a 0)).slots t 5)
abbrev hs_5 (t : Fin (cfg0 (a 0)).N) : (ms_5 a t).IsWhole := hstage0_5 (((cfg0 (a 0)).slots t 5).cast nbuf0_5)
abbrev ms_6 (t : Fin (cfg0 (a 0)).N) : Memref sig .tc .vmem S1x512x128 .f32 := spec0_6.stage ((cfg0 (a 0)).slots t 6)
abbrev hs_6 (t : Fin (cfg0 (a 0)).N) : (ms_6 a t).IsWhole := hstage0_6 (((cfg0 (a 0)).slots t 6).cast nbuf0_6)
abbrev ms_7 (t : Fin (cfg0 (a 0)).N) : Memref sig .tc .vmem S1x512x128 .f32 := spec0_7.stage ((cfg0 (a 0)).slots t 7)
abbrev hs_7 (t : Fin (cfg0 (a 0)).N) : (ms_7 a t).IsWhole := hstage0_7 (((cfg0 (a 0)).slots t 7).cast nbuf0_7)
abbrev ms_8 (t : Fin (cfg0 (a 0)).N) : Memref sig .tc .vmem S1x512x128 .f32 := spec0_8.stage ((cfg0 (a 0)).slots t 8)
abbrev hs_8 (t : Fin (cfg0 (a 0)).N) : (ms_8 a t).IsWhole := hstage0_8 (((cfg0 (a 0)).slots t 8).cast nbuf0_8)
abbrev ms_9 (t : Fin (cfg0 (a 0)).N) : Memref sig .tc .vmem S1x512x128 .f32 := spec0_9.stage ((cfg0 (a 0)).slots t 9)
abbrev hs_9 (t : Fin (cfg0 (a 0)).N) : (ms_9 a t).IsWhole := hstage0_9 (((cfg0 (a 0)).slots t 9).cast nbuf0_9)
abbrev ms_10 (t : Fin (cfg0 (a 0)).N) : Memref sig .tc .vmem S1x512x128 .f32 := spec0_10.stage ((cfg0 (a 0)).slots t 10)
abbrev hs_10 (t : Fin (cfg0 (a 0)).N) : (ms_10 a t).IsWhole := hstage0_10 (((cfg0 (a 0)).slots t 10).cast nbuf0_10)
abbrev ms_11 (t : Fin (cfg0 (a 0)).N) : Memref sig .tc .vmem S1x512x128 .f32 := spec0_11.stage ((cfg0 (a 0)).slots t 11)
abbrev hs_11 (t : Fin (cfg0 (a 0)).N) : (ms_11 a t).IsWhole := hstage0_11 (((cfg0 (a 0)).slots t 11).cast nbuf0_11)
abbrev ms_12 (t : Fin (cfg0 (a 0)).N) : Memref sig .tc .vmem S1x512x128 .f32 := spec0_12.stage ((cfg0 (a 0)).slots t 12)
abbrev hs_12 (t : Fin (cfg0 (a 0)).N) : (ms_12 a t).IsWhole := hstage0_12 (((cfg0 (a 0)).slots t 12).cast nbuf0_12)
abbrev ms_13 (t : Fin (cfg0 (a 0)).N) : Memref sig .tc .vmem S1x16x256 .f32 := spec0_13.stage ((cfg0 (a 0)).slots t 13)
abbrev hs_13 (t : Fin (cfg0 (a 0)).N) : (ms_13 a t).IsWhole := hstage0_13 (((cfg0 (a 0)).slots t 13).cast nbuf0_13)

abbrev scr0 : Memref sig .tc .vmem S32x1 .f32 := Memref.whole cc0_scratch0
abbrev scr1 : Memref sig .tc .vmem S32x1 .f32 := Memref.whole cc0_scratch1
abbrev scr2 : Memref sig .tc .vmem S32x256 .f32 := Memref.whole cc0_scratch2

theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The eight pages of point `t`. -/
def pages (c : Dev nD) (t : Fin (cfg0 (a 0)).N) : Fin 8 → Vec F S1x512x128 .f32 := fun
  | 0 => iblk m a c 5 t | 1 => iblk m a c 6 t | 2 => iblk m a c 7 t | 3 => iblk m a c 8 t
  | 4 => iblk m a c 9 t | 5 => iblk m a c 10 t | 6 => iblk m a c 11 t | 7 => iblk m a c 12 t

/-- The accumulators after the fold of point `t`'s pages into `s`. -/
def foldAt (c : Dev nD) (t : Fin (cfg0 (a 0)).N) (s : Acc F) : Acc F :=
  fold (iblk m a c 0 t) (stepBias (grid0.coords t) (iblk m a c 2 t)) (pages m a c t) s

/-- The accumulators after point `t`'s new row is merged into `s`. -/
def mergeAt (c : Dev nD) (t : Fin (cfg0 (a 0)).N) (s : Acc F) : Acc F :=
  merge (iblk m a c 0 t) (iblk m a c 1 t) (iblk m a c 2 t) s

/-- The accumulators after each point: a row's step 0 folds into the initial ones, its later steps into what the step
    before left, and its step 7 merges the new row too. -/
def stAt (c : Dev nD) : (n : ℕ) → n < (cfg0 (a 0)).N → Acc F
  | 0, hn => foldAt m a c ⟨0, hn⟩ acc0
  | n + 1, hn =>
    if (n + 1) % 8 = 0 then foldAt m a c ⟨n + 1, hn⟩ acc0
    else if (n + 1) % 8 = 7 then mergeAt m a c ⟨n + 1, hn⟩ (foldAt m a c ⟨n + 1, hn⟩ (stAt c n (Nat.lt_of_succ_lt hn)))
    else foldAt m a c ⟨n + 1, hn⟩ (stAt c n (Nat.lt_of_succ_lt hn))

theorem stAt_first (c : Dev nD) (t : Fin (cfg0 (a 0)).N) (h : t.val % 8 = 0) :
    stAt m a c t.val t.isLt = foldAt m a c t acc0 := by
  obtain ⟨n, hn⟩ := t
  cases n with
  | zero => rfl
  | succ n => exact if_pos h

theorem stAt_mid (c : Dev nD) (t : Fin (cfg0 (a 0)).N) (h : ¬t.val % 8 = 0) (h' : ¬t.val % 8 = 7) :
    stAt m a c t.val t.isLt = foldAt m a c t (stAt m a c (t.val - 1) (Nat.lt_of_le_of_lt (Nat.sub_le _ _) t.isLt)) := by
  obtain ⟨n, hn⟩ := t
  cases n with
  | zero => exact absurd (Nat.zero_mod _) h
  | succ n => exact (if_neg h).trans (if_neg h')

theorem stAt_last (c : Dev nD) (t : Fin (cfg0 (a 0)).N) (h : ¬t.val % 8 = 0) (h' : t.val % 8 = 7) :
    stAt m a c t.val t.isLt
      = mergeAt m a c t (foldAt m a c t (stAt m a c (t.val - 1) (Nat.lt_of_le_of_lt (Nat.sub_le _ _) t.isLt))) := by
  obtain ⟨n, hn⟩ := t
  cases n with
  | zero => exact absurd (Nat.zero_mod _) h
  | succ n => exact (if_neg h).trans (if_pos h')

/-- The result block after point `t` (its value matters at a row's last step only). -/
def outAt (c : Dev nD) (t : Fin (cfg0 (a 0)).N) : Vec F S1x16x256 .f32 :=
  result (iblk m a c 3 t) (iblk m a c 4 t) (stAt m a c t.val t.isLt)

end Cert.KernelIdeal.Hand

end
-- ==== Proof.Run.lean ====
module

public import proofs.«01_k».proof.Proof.Setup

/-! The run of the whole call, for any float values: every point of the grid by its kind, and the launch. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf pin)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a : (p : Fin 1) → (pcfgs (F := F) p).Adm)

/-- What is held before position `n`: the scratch buffers at anything before the first point, at the accumulators the
    point before left afterwards, and the generator register. -/
def PhiS (c : Dev nD) : (n : ℕ) → n ≤ (cfg0 (a 0)).N → sProp 𝕄
  | 0, _ => Pipeline.ΦA spec0 c
  | n + 1, hn => iprop(iprop(owns (c : Thread nD τ) scr0 fullShare (stAt m a c n hn).m ∗ owns (c : Thread nD τ) scr1 fullShare (stAt m a c n hn).l ∗ owns (c : Thread nD τ) scr2 fullShare (stAt m a c n hn).a) ∗ (∃ r, prngReg c r))

theorem PhiS_zero (c : Dev nD) (n : ℕ) (h : n ≤ (cfg0 (a 0)).N) (hz : n = 0) : PhiS m a c n h = Pipeline.ΦA spec0 c := by
  subst hz; rfl

theorem PhiS_succ (c : Dev nD) (n : ℕ) (hn : n < (cfg0 (a 0)).N) :
    PhiS m a c (n + 1) hn = iprop(iprop(owns (c : Thread nD τ) scr0 fullShare (stAt m a c n hn).m ∗ owns (c : Thread nD τ) scr1 fullShare (stAt m a c n hn).l ∗ owns (c : Thread nD τ) scr2 fullShare (stAt m a c n hn).a) ∗ (∃ r, prngReg c r)) := rfl

theorem PhiS_pos (c : Dev nD) (n : ℕ) (h : n ≤ (cfg0 (a 0)).N) (hz : n ≠ 0) :
    PhiS m a c n h = iprop(iprop(owns (c : Thread nD τ) scr0 fullShare (stAt m a c (n - 1) (by omega)).m ∗ owns (c : Thread nD τ) scr1 fullShare (stAt m a c (n - 1) (by omega)).l ∗ owns (c : Thread nD τ) scr2 fullShare (stAt m a c (n - 1) (by omega)).a) ∗ (∃ r, prngReg c r)) := by
  cases n with
  | zero => exact absurd rfl hz
  | succ n => rfl

/-- The call's proof data: the arrays as found, each input's buffer left at its block, the output's at the result block. -/
def dats (p : Fin 1) (c : Dev nD) : Dat τ (Elt F) Unit ℕ (UR sig nD τ) ℕ (cfg0 (a 0)) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => iblk m a c 6 t
    | ⟨7, _⟩ => iblk m a c 7 t
    | ⟨8, _⟩ => iblk m a c 8 t
    | ⟨9, _⟩ => iblk m a c 9 t
    | ⟨10, _⟩ => iblk m a c 10 t
    | ⟨11, _⟩ => iblk m a c 11 t
    | ⟨12, _⟩ => iblk m a c 12 t
    | ⟨13, _⟩ => outAt m a c t
  Φ t := PhiS m a c t.val (Nat.le_of_lt_succ t.isLt)
  q w := Pipeline.shareOf spec0 w
  owed _ := 0

theorem A_eq (c : Dev nD) (w : Fin (cfg0 (a 0)).W) : (dats m a 0 c).A w = V m c (Pipeline.arrRef spec0 w) := by
  dsimp only [dats]

theorem PhiS_castSucc (c : Dev nD) (t : Fin (cfg0 (a 0)).N) :
    (dats m a 0 c).Φ t.castSucc = PhiS m a c t.val (Nat.le_of_lt t.isLt) := by
  dsimp only [dats]; exact Pipeline.Dat.Φ_castSucc (PhiS m a c) t

theorem after_0 (c : Dev nD) (t : Fin (cfg0 (a 0)).N) : (dats m a 0 c).after 0 t = iblk m a c 0 t := by dsimp only [dats]; rfl
theorem after_1 (c : Dev nD) (t : Fin (cfg0 (a 0)).N) : (dats m a 0 c).after 1 t = iblk m a c 1 t := by dsimp only [dats]; rfl
theorem after_2 (c : Dev nD) (t : Fin (cfg0 (a 0)).N) : (dats m a 0 c).after 2 t = iblk m a c 2 t := by dsimp only [dats]; rfl
theorem after_3 (c : Dev nD) (t : Fin (cfg0 (a 0)).N) : (dats m a 0 c).after 3 t = iblk m a c 3 t := by dsimp only [dats]; rfl
theorem after_4 (c : Dev nD) (t : Fin (cfg0 (a 0)).N) : (dats m a 0 c).after 4 t = iblk m a c 4 t := by dsimp only [dats]; rfl
theorem after_5 (c : Dev nD) (t : Fin (cfg0 (a 0)).N) : (dats m a 0 c).after 5 t = iblk m a c 5 t := by dsimp only [dats]; rfl
theorem after_6 (c : Dev nD) (t : Fin (cfg0 (a 0)).N) : (dats m a 0 c).after 6 t = iblk m a c 6 t := by dsimp only [dats]; rfl
theorem after_7 (c : Dev nD) (t : Fin (cfg0 (a 0)).N) : (dats m a 0 c).after 7 t = iblk m a c 7 t := by dsimp only [dats]; rfl
theorem after_8 (c : Dev nD) (t : Fin (cfg0 (a 0)).N) : (dats m a 0 c).after 8 t = iblk m a c 8 t := by dsimp only [dats]; rfl
theorem after_9 (c : Dev nD) (t : Fin (cfg0 (a 0)).N) : (dats m a 0 c).after 9 t = iblk m a c 9 t := by dsimp only [dats]; rfl
theorem after_10 (c : Dev nD) (t : Fin (cfg0 (a 0)).N) : (dats m a 0 c).after 10 t = iblk m a c 10 t := by dsimp only [dats]; rfl
theorem after_11 (c : Dev nD) (t : Fin (cfg0 (a 0)).N) : (dats m a 0 c).after 11 t = iblk m a c 11 t := by dsimp only [dats]; rfl
theorem after_12 (c : Dev nD) (t : Fin (cfg0 (a 0)).N) : (dats m a 0 c).after 12 t = iblk m a c 12 t := by dsimp only [dats]; rfl
theorem after_13 (c : Dev nD) (t : Fin (cfg0 (a 0)).N) : (dats m a 0 c).after 13 t = outAt m a c t := by dsimp only [dats]; rfl

theorem before_0 (c : Dev nD) (t : Fin (cfg0 (a 0)).N) (d) : (dats m a 0 c).before 0 t d = iblk m a c 0 t :=
  before_of_0 m a (dats m a 0 c) (A_eq m a c 0) (after_0 m a c) t d
theorem before_1 (c : Dev nD) (t : Fin (cfg0 (a 0)).N) (d) : (dats m a 0 c).before 1 t d = iblk m a c 1 t :=
  before_of_1 m a (dats m a 0 c) (A_eq m a c 1) (after_1 m a c) t d
theorem before_2 (c : Dev nD) (t : Fin (cfg0 (a 0)).N) (d) : (dats m a 0 c).before 2 t d = iblk m a c 2 t :=
  before_of_2 m a (dats m a 0 c) (A_eq m a c 2) (after_2 m a c) t d
theorem before_3 (c : Dev nD) (t : Fin (cfg0 (a 0)).N) (d) : (dats m a 0 c).before 3 t d = iblk m a c 3 t :=
  before_of_3 m a (dats m a 0 c) (A_eq m a c 3) (after_3 m a c) t d
theorem before_4 (c : Dev nD) (t : Fin (cfg0 (a 0)).N) (d) : (dats m a 0 c).before 4 t d = iblk m a c 4 t :=
  before_of_4 m a (dats m a 0 c) (A_eq m a c 4) (after_4 m a c) t d
theorem before_5 (c : Dev nD) (t : Fin (cfg0 (a 0)).N) (d) : (dats m a 0 c).before 5 t d = iblk m a c 5 t :=
  before_of_5 m a (dats m a 0 c) (A_eq m a c 5) (after_5 m a c) t d
theorem before_6 (c : Dev nD) (t : Fin (cfg0 (a 0)).N) (d) : (dats m a 0 c).before 6 t d = iblk m a c 6 t :=
  before_of_6 m a (dats m a 0 c) (A_eq m a c 6) (after_6 m a c) t d
theorem before_7 (c : Dev nD) (t : Fin (cfg0 (a 0)).N) (d) : (dats m a 0 c).before 7 t d = iblk m a c 7 t :=
  before_of_7 m a (dats m a 0 c) (A_eq m a c 7) (after_7 m a c) t d
theorem before_8 (c : Dev nD) (t : Fin (cfg0 (a 0)).N) (d) : (dats m a 0 c).before 8 t d = iblk m a c 8 t :=
  before_of_8 m a (dats m a 0 c) (A_eq m a c 8) (after_8 m a c) t d
theorem before_9 (c : Dev nD) (t : Fin (cfg0 (a 0)).N) (d) : (dats m a 0 c).before 9 t d = iblk m a c 9 t :=
  before_of_9 m a (dats m a 0 c) (A_eq m a c 9) (after_9 m a c) t d
theorem before_10 (c : Dev nD) (t : Fin (cfg0 (a 0)).N) (d) : (dats m a 0 c).before 10 t d = iblk m a c 10 t :=
  before_of_10 m a (dats m a 0 c) (A_eq m a c 10) (after_10 m a c) t d
theorem before_11 (c : Dev nD) (t : Fin (cfg0 (a 0)).N) (d) : (dats m a 0 c).before 11 t d = iblk m a c 11 t :=
  before_of_11 m a (dats m a 0 c) (A_eq m a c 11) (after_11 m a c) t d
theorem before_12 (c : Dev nD) (t : Fin (cfg0 (a 0)).N) (d) : (dats m a 0 c).before 12 t d = iblk m a c 12 t :=
  before_of_12 m a (dats m a 0 c) (A_eq m a c 12) (after_12 m a c) t d
theorem leaves_0 (c : Dev nD) (t : Fin (cfg0 (a 0)).N) :
    (dats m a 0 c).leavesExact 0 t = owns (c : Thread nD τ) (ms_0 a t) fullShare (iblk m a c 0 t) := by
  unfold Dat.leavesExact; rw [live_0 a t, after_0]; rfl
theorem leaves_1 (c : Dev nD) (t : Fin (cfg0 (a 0)).N) :
    (dats m a 0 c).leavesExact 1 t = owns (c : Thread nD τ) (ms_1 a t) fullShare (iblk m a c 1 t) := by
  unfold Dat.leavesExact; rw [live_1 a t, after_1]; rfl
theorem leaves_2 (c : Dev nD) (t : Fin (cfg0 (a 0)).N) :
    (dats m a 0 c).leavesExact 2 t = owns (c : Thread nD τ) (ms_2 a t) fullShare (iblk m a c 2 t) := by
  unfold Dat.leavesExact; rw [live_2 a t, after_2]; rfl
theorem leaves_3 (c : Dev nD) (t : Fin (cfg0 (a 0)).N) :
    (dats m a 0 c).leavesExact 3 t = owns (c : Thread nD τ) (ms_3 a t) fullShare (iblk m a c 3 t) := by
  unfold Dat.leavesExact; rw [live_3 a t, after_3]; rfl
theorem leaves_4 (c : Dev nD) (t : Fin (cfg0 (a 0)).N) :
    (dats m a 0 c).leavesExact 4 t = owns (c : Thread nD τ) (ms_4 a t) fullShare (iblk m a c 4 t) := by
  unfold Dat.leavesExact; rw [live_4 a t, after_4]; rfl
theorem leaves_5 (c : Dev nD) (t : Fin (cfg0 (a 0)).N) :
    (dats m a 0 c).leavesExact 5 t = owns (c : Thread nD τ) (ms_5 a t) fullShare (iblk m a c 5 t) := by
  unfold Dat.leavesExact; rw [live_5 a t, after_5]; rfl
theorem leaves_6 (c : Dev nD) (t : Fin (cfg0 (a 0)).N) :
    (dats m a 0 c).leavesExact 6 t = owns (c : Thread nD τ) (ms_6 a t) fullShare (iblk m a c 6 t) := by
  unfold Dat.leavesExact; rw [live_6 a t, after_6]; rfl
theorem leaves_7 (c : Dev nD) (t : Fin (cfg0 (a 0)).N) :
    (dats m a 0 c).leavesExact 7 t = owns (c : Thread nD τ) (ms_7 a t) fullShare (iblk m a c 7 t) := by
  unfold Dat.leavesExact; rw [live_7 a t, after_7]; rfl
theorem leaves_8 (c : Dev nD) (t : Fin (cfg0 (a 0)).N) :
    (dats m a 0 c).leavesExact 8 t = owns (c : Thread nD τ) (ms_8 a t) fullShare (iblk m a c 8 t) := by
  unfold Dat.leavesExact; rw [live_8 a t, after_8]; rfl
theorem leaves_9 (c : Dev nD) (t : Fin (cfg0 (a 0)).N) :
    (dats m a 0 c).leavesExact 9 t = owns (c : Thread nD τ) (ms_9 a t) fullShare (iblk m a c 9 t) := by
  unfold Dat.leavesExact; rw [live_9 a t, after_9]; rfl
theorem leaves_10 (c : Dev nD) (t : Fin (cfg0 (a 0)).N) :
    (dats m a 0 c).leavesExact 10 t = owns (c : Thread nD τ) (ms_10 a t) fullShare (iblk m a c 10 t) := by
  unfold Dat.leavesExact; rw [live_10 a t, after_10]; rfl
theorem leaves_11 (c : Dev nD) (t : Fin (cfg0 (a 0)).N) :
    (dats m a 0 c).leavesExact 11 t = owns (c : Thread nD τ) (ms_11 a t) fullShare (iblk m a c 11 t) := by
  unfold Dat.leavesExact; rw [live_11 a t, after_11]; rfl
theorem leaves_12 (c : Dev nD) (t : Fin (cfg0 (a 0)).N) :
    (dats m a 0 c).leavesExact 12 t = owns (c : Thread nD τ) (ms_12 a t) fullShare (iblk m a c 12 t) := by
  unfold Dat.leavesExact; rw [live_12 a t, after_12]; rfl

theorem leaves_13_idle (c : Dev nD) (t : Fin (cfg0 (a 0)).N) (h : ¬t.val % 8 = 7) :
    (dats m a 0 c).leavesExact 13 t = iprop(∃ d, owns (c : Thread nD τ) (ms_13 a t) fullShare ((dats m a 0 c).before 13 t d)) :=
  Dat.leavesExact_idle (dats m a 0 c) 13 t (idle_13 a t h) (noFlush_13 a t h)

theorem leaves_13_last (c : Dev nD) (t : Fin (cfg0 (a 0)).N) (h : t.val % 8 = 7) :
    (dats m a 0 c).leavesExact 13 t = owns (c : Thread nD τ) (ms_13 a t) fullShare (outAt m a c t) := by
  unfold Dat.leavesExact; rw [live_13 a t h, after_13]; rfl

/-- The body as the pipeline calls it at point `t`. -/
abbrev bodyAt (t : Fin (cfg0 (a 0)).N) : Prog (TpuEff nD τ sig (Elt F) Λ₀ .tc) PUnit :=
  cc0_diff_decode_attention (grid0.coords t) (Memref.whole main_arg3) (Memref.isWhole_whole _) (ms_0 a t) (hs_0 a t) (ms_1 a t) (hs_1 a t) (ms_2 a t) (hs_2 a t) (ms_3 a t) (hs_3 a t) (ms_4 a t) (hs_4 a t) (ms_5 a t) (hs_5 a t) (ms_6 a t) (hs_6 a t) (ms_7 a t) (hs_7 a t) (ms_8 a t) (hs_8 a t) (ms_9 a t) (hs_9 a t) (ms_10 a t) (hs_10 a t) (ms_11 a t) (hs_11 a t) (ms_12 a t) (hs_12 a t) (ms_13 a t) (hs_13 a t) scr0 (Memref.isWhole_whole _) scr1 (Memref.isWhole_whole _) scr2 (Memref.isWhole_whole _)

/-- What the body is called with at point `t`, -/
def bodyPre (c : Dev nD) (t : Fin (cfg0 (a 0)).N) : sProp 𝕄 :=
  iprop((dats m a 0 c).Φ t.castSucc ∗ (dats m a 0 c).owesAt () t.castSucc
    ∗ (∃ d, owns (c : Thread nD τ) (ms_0 a t) fullShare ((dats m a 0 c).before 0 t d))
    ∗ (∃ d, owns (c : Thread nD τ) (ms_1 a t) fullShare ((dats m a 0 c).before 1 t d))
    ∗ (∃ d, owns (c : Thread nD τ) (ms_2 a t) fullShare ((dats m a 0 c).before 2 t d))
    ∗ (∃ d, owns (c : Thread nD τ) (ms_3 a t) fullShare ((dats m a 0 c).before 3 t d))
    ∗ (∃ d, owns (c : Thread nD τ) (ms_4 a t) fullShare ((dats m a 0 c).before 4 t d))
    ∗ (∃ d, owns (c : Thread nD τ) (ms_5 a t) fullShare ((dats m a 0 c).before 5 t d))
    ∗ (∃ d, owns (c : Thread nD τ) (ms_6 a t) fullShare ((dats m a 0 c).before 6 t d))
    ∗ (∃ d, owns (c : Thread nD τ) (ms_7 a t) fullShare ((dats m a 0 c).before 7 t d))
    ∗ (∃ d, owns (c : Thread nD τ) (ms_8 a t) fullShare ((dats m a 0 c).before 8 t d))
    ∗ (∃ d, owns (c : Thread nD τ) (ms_9 a t) fullShare ((dats m a 0 c).before 9 t d))
    ∗ (∃ d, owns (c : Thread nD τ) (ms_10 a t) fullShare ((dats m a 0 c).before 10 t d))
    ∗ (∃ d, owns (c : Thread nD τ) (ms_11 a t) fullShare ((dats m a 0 c).before 11 t d))
    ∗ (∃ d, owns (c : Thread nD τ) (ms_12 a t) fullShare ((dats m a 0 c).before 12 t d))
    ∗ (∃ d, owns (c : Thread nD τ) (ms_13 a t) fullShare ((dats m a 0 c).before 13 t d)))

/-- and what it returns. -/
def bodyPost (c : Dev nD) (t : Fin (cfg0 (a 0)).N) : sProp 𝕄 :=
  iprop((dats m a 0 c).Φ t.succ ∗ (dats m a 0 c).owesAt () t.succ
    ∗ (dats m a 0 c).leavesExact 0 t
    ∗ (dats m a 0 c).leavesExact 1 t
    ∗ (dats m a 0 c).leavesExact 2 t
    ∗ (dats m a 0 c).leavesExact 3 t
    ∗ (dats m a 0 c).leavesExact 4 t
    ∗ (dats m a 0 c).leavesExact 5 t
    ∗ (dats m a 0 c).leavesExact 6 t
    ∗ (dats m a 0 c).leavesExact 7 t
    ∗ (dats m a 0 c).leavesExact 8 t
    ∗ (dats m a 0 c).leavesExact 9 t
    ∗ (dats m a 0 c).leavesExact 10 t
    ∗ (dats m a 0 c).leavesExact 11 t
    ∗ (dats m a 0 c).leavesExact 12 t
    ∗ (dats m a 0 c).leavesExact 13 t)

set_option maxHeartbeats 19200000 in
/-- The body at any point, by the point's kind. -/
theorem sound_body (c : Dev nD) (t : Fin (cfg0 (a 0)).N) :
    bodyPre m a c t ⊢ wp frame (wpE (defs₀ (F := F)) Variants.none c none) Set.univ (bodyAt a t) (fun _ => bodyPost m a c t) := by
  unfold bodyPre bodyPost bodyAt
  simp only [before_0, before_1, before_2, before_3, before_4, before_5, before_6, before_7, before_8, before_9, before_10, before_11, before_12]
  rw [leaves_0, leaves_1, leaves_2, leaves_3, leaves_4, leaves_5, leaves_6, leaves_7, leaves_8, leaves_9, leaves_10, leaves_11, leaves_12]
  rw [show (dats m a 0 c).owesAt () t.succ = (dats m a 0 c).owesAt () t.castSucc from rfl]
  rw [show (dats m a 0 c).Φ t.succ = PhiS m a c (t.val + 1) t.isLt from rfl, PhiS_succ]
  have hN : t.val < 1024 := lt_of_lt_of_eq t.isLt (show (cfg0 (a 0)).N = 1024 from N_0)
  by_cases h1 : t.val % 8 = 7
  · have h0 : ¬t.val % 8 = 0 := by omega
    have hz : t.val ≠ 0 := by omega
    rw [leaves_13_last m a c t h1, PhiS_castSucc m a c t, PhiS_pos m a c _ _ hz]
    unfold outAt
    rw [stAt_last m a c t h0 h1]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (runC c (grid0.coords t) _ _ _ _ _ _ _ _ _ _ _ _ _ _ _ _ _ _ _ _ _ _ _ _ _ _ _ _ _ _ _ _ _ _ _ _ (fun h => h0 ((atFirst_iff t).mp h)) (fun h => (atFar_iff t).mp h h1) ((atLast_iff t).mpr h1) (iblk m a c 0 t) (iblk m a c 1 t) (iblk m a c 2 t) (iblk m a c 3 t) (iblk m a c 4 t) (pages m a c t) (stAt m a c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS0]; · iexact HS0
    isplitl [HS1]; · iexact HS1
    isplitl [HS2]; · iexact HS2
    iintro ⟨H0, H1, H2, H3, H4, H5, H6, H7, H8, H9, H10, H11, H12, H13, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [leaves_13_idle m a c t h1]
    by_cases h0 : t.val % 8 = 0
    · rw [stAt_first m a c t h0]
      by_cases hz : t.val = 0
      · rw [PhiS_castSucc m a c t, PhiS_zero m a c _ _ hz, PhiA_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply (runA c (grid0.coords t) _ _ _ _ _ _ _ _ _ _ _ _ _ _ _ _ _ _ _ _ _ _ _ _ _ _ _ _ _ _ _ _ _ _ _ _ ((atFirst_iff t).mpr h0) ((atFar_iff t).mpr h1) (fun h => h1 ((atLast_iff t).mp h)) (iblk m a c 0 t) (iblk m a c 1 t) (iblk m a c 2 t) (iblk m a c 3 t) (iblk m a c 4 t) (pages m a c t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [HS0]; · iexact HS0
        isplitl [HS1]; · iexact HS1
        isplitl [HS2]; · iexact HS2
        iintro ⟨H0, H1, H2, H3, H4, H5, H6, H7, H8, H9, H10, H11, H12, H13, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexists _; iexact H13
      · rw [PhiS_castSucc m a c t, PhiS_pos m a c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply (runA c (grid0.coords t) _ _ _ _ _ _ _ _ _ _ _ _ _ _ _ _ _ _ _ _ _ _ _ _ _ _ _ _ _ _ _ _ _ _ _ _ ((atFirst_iff t).mpr h0) ((atFar_iff t).mpr h1) (fun h => h1 ((atLast_iff t).mp h)) (iblk m a c 0 t) (iblk m a c 1 t) (iblk m a c 2 t) (iblk m a c 3 t) (iblk m a c 4 t) (pages m a c t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [HS0]; · iexists _; iexact HS0
        isplitl [HS1]; · iexists _; iexact HS1
        isplitl [HS2]; · iexists _; iexact HS2
        iintro ⟨H0, H1, H2, H3, H4, H5, H6, H7, H8, H9, H10, H11, H12, H13, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexists _; iexact H13
    · have hz : t.val ≠ 0 := by omega
      rw [stAt_mid m a c t h0 h1, PhiS_castSucc m a c t, PhiS_pos m a c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (runB c (grid0.coords t) _ _ _ _ _ _ _ _ _ _ _ _ _ _ _ _ _ _ _ _ _ _ _ _ _ _ _ _ _ _ _ _ _ _ _ _ (fun h => h0 ((atFirst_iff t).mp h)) ((atFar_iff t).mpr h1) (fun h => h1 ((atLast_iff t).mp h)) (iblk m a c 0 t) (iblk m a c 1 t) (iblk m a c 2 t) (iblk m a c 3 t) (iblk m a c 4 t) (pages m a c t) _ (stAt m a c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      iintro ⟨H0, H1, H2, H3, H4, H5, H6, H7, H8, H9, H10, H11, H12, H13, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists _; iexact H13

theorem defs₀_row (t : Fin (cfg0 (a 0)).N) :
    defs₀ (F := F) .tc (cfg0 (a 0)).body ((cfg0 (a 0)).bodyArgs t ((cfg0 (a 0)).slots t)) = bodyAt a t := by
  unfold defs₀; rw [Defs.onTc_tc]

theorem body_obligation (c : Dev nD) : BodyObligation (dats (F := F) m a 0 c) (defs₀ (F := F)) Variants.none () Set.univ := fun t => by
  rw [bigSep_W0, bigSep_W0, defs₀_row]
  exact triple_restated (sound_body m a c t) rfl .rfl fun _ => .rfl

theorem hin (c : Dev nD) : iprop(Pipeline.ΦA spec0 c ∗ Pipeline.ΦT pre0 (a 0).1 c) ⊢ (dats m a 0 c).Φ 0 := by
  rw [show (dats m a 0 c).Φ 0 = PhiS m a c 0 (Nat.zero_le _) from rfl, PhiS_zero m a c 0 _ rfl]
  iintro ⟨H, -⟩
  iexact H

theorem hout (c : Dev nD) : (dats m a 0 c).Φ (Fin.last (cfg0 (a 0)).N) ⊢ Pipeline.ΦA spec0 c := by
  have hN : (cfg0 (a 0)).N = 1024 := N_0
  rw [show (dats m a 0 c).Φ (Fin.last (cfg0 (a 0)).N) = PhiS m a c (cfg0 (a 0)).N (Nat.le_refl _) from rfl,
    PhiS_pos m a c _ _ (by omega), PhiA_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The table's contents when the call starts (one device). -/
def tbl : pre0.Contents (Elt F) := fun k => V m 0 (pre0.ref k)

/-- They place every page inside the cache. -/
abbrev Ok : Prop := ok0 (tbl m)

/-- The admissible table contents of the launch. -/
def adm (hok : Ok m) : (p : Fin 1) → (pcfgs (F := F) p).Adm := fun _ => ⟨tbl m, hok⟩

set_option backward.isDefEq.respectTransparency.types false in
/-- The launch: every execution ends with each array at what the proof data compute and each other buffer as it was
    when the call started, and every semaphore counter at zero. -/
theorem run_main (hok : Ok m) : θ_run defs (onTc (τ := τ) (main (F := F))) (s₀ m ρ)
    (fun r => Pipeline.FramePost (pin pcfgs (adm m hok)) (dats m (adm m hok)) 0 (V m) r ∧ r.2.sem = fun _ => 0) :=
  Pipeline.θ_run_frameP_track_shared (Q' := _) pcfgs (adm m hok) (dats m (adm m hok)) (0 : Fin 1) launch₀0 defs₀ Variants.none m ρ main
    (hbody := fun c => (body_obligation m (adm m hok) c).loose) (hq := fun _ _ _ => rfl)
    (howed := fun _ _ => rfl) (V := V m) (hmain := hmain m) (hA := A_eq m (adm m hok))
    (hpf := fun c k => by obtain rfl : c = 0 := Subsingleton.elim _ _; rfl)
    (hin := hin m (adm m hok)) (hout := hout m (adm m hok))

/-- The frame: the argument arrays end unchanged and every semaphore counter at zero; beside it, the result array at
    what the proof data compute. -/
theorem run_frame (hok : Ok m) : θ_run defs (onTc (τ := τ) (main (F := F))) ⟨m, fun _ => 0, ρ⟩ (fun r => ((∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
      ∧ ∀ c : Dev nD, r.2.mem ((c.tc : Thread nD τ).loc main_v10) = (dats m (adm m hok) 0 c).arrAt 13 (cfg0 (adm m hok 0)).N) :=
  (θ_run defs _ _).mono (fun _ h => ⟨⟨fun c => ⟨
      ((h.1 c).2 main_arg0 (Pipeline.mem_restRefs_of main_arg0 (by decide) (show ∀ w : Fin 14, (spec0 w).arr.view.ref ≠ main_arg0 by decide))).trans (V_main_arg0 m c),
      ((h.1 c).2 main_arg1 (Pipeline.mem_restRefs_of main_arg1 (by decide) (show ∀ w : Fin 14, (spec0 w).arr.view.ref ≠ main_arg1 by decide))).trans (V_main_arg1 m c),
      ((h.1 c).2 main_arg2 (Pipeline.mem_restRefs_of main_arg2 (by decide) (show ∀ w : Fin 14, (spec0 w).arr.view.ref ≠ main_arg2 by decide))).trans (V_main_arg2 m c),
      ((h.1 c).2 main_arg3 (Pipeline.mem_restRefs_of main_arg3 (by decide) (show ∀ w : Fin 14, (spec0 w).arr.view.ref ≠ main_arg3 by decide))).trans (V_main_arg3 m c),
      ((h.1 c).2 main_arg4 (Pipeline.mem_restRefs_of main_arg4 (by decide) (show ∀ w : Fin 14, (spec0 w).arr.view.ref ≠ main_arg4 by decide))).trans (V_main_arg4 m c),
      ((h.1 c).1 3).trans (((dats m (adm m hok) 0 c).arrAt_in 3 rfl _).trans ((A_eq m (adm m hok) c 3).trans (V_main_arg5 m c))),
      ((h.1 c).2 main_arg6 (Pipeline.mem_restRefs_of main_arg6 (by decide) (show ∀ w : Fin 14, (spec0 w).arr.view.ref ≠ main_arg6 by decide))).trans (V_main_arg6 m c)⟩, h.2⟩, fun c => (h.1 c).1 13⟩) (run_main m ρ hok)

end Cert.KernelIdeal.Hand

end
-- ==== Proof.Pages.lean ====
module

public import proofs.«01_k».proof.Proof.Run
public import proofs.«01_k».proof.Proof.Gen.Pre_pages_in_pool
public import Idealize.ShloMosaic.Lib.StableHlo.Predicate
public import Idealize.ShloMosaic.Lib.ValueIdx

/-! The page table: the block index of each page window, and that it lies in the cache where the table is in range. -/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-- Entry `(s, g)` of the table. -/
def entry (pf : pre0.Contents (Elt F)) (s : Fin 128) (g : Fin 64) : BitVec 32 := pf 0 (ix2 s g)

/-- Page `r` of point `i`: the table's column. -/
def pageCol (i : grid0.Coords) (r : Fin 8) : Fin 64 := ⟨8 * (i 1).val + r.val, by have := (i 1).isLt; have h : (i 1).val < 8 := this; omega⟩

/-- A load of one word of the table at the point's row and page column reads that entry. -/
theorem at_entry (pf : pre0.Contents (Elt F)) (i : grid0.Coords) (r : Fin 8) :
    pf.at 0 (Rect.unit (s := S128x64) (k0_off1 i (BitVec.ofNat 32 r.val)) S1x1.size (k0_off1_inb i r)) numel1_S1x1
      = entry pf (i 0) (pageCol i r) := by
  unfold entry
  show pf 0 _ = _
  congr 1
  funext a
  apply Fin.ext
  have h := k0_off1_eq i r
  show (k0_off1 i (BitVec.ofNat 32 r.val)) a + 0 * 1 = _
  rw [h]
  fin_cases a <;> rfl

/-- The block index of page window `r` at point `i`: the table's entry, whole rows and lanes. -/
def pageIdx (pf : pre0.Contents (Elt F)) (i : grid0.Coords) (r : Fin 8) : Fin 3 → Nat :=
  ![(entry pf (i 0) (pageCol i r)).toNat, 0, 0]

theorem transform_5_eq (pf : pre0.Contents (Elt F)) (i : grid0.Coords) : cc0_transform_5 k0_off1_inb numel1_S1x1 pf i = pageIdx pf i 0 := by
  unfold pageIdx; rw [← at_entry]; rfl
theorem transform_6_eq (pf : pre0.Contents (Elt F)) (i : grid0.Coords) : cc0_transform_6 k0_off1_inb numel1_S1x1 pf i = pageIdx pf i 1 := by
  unfold pageIdx; rw [← at_entry]; rfl
theorem transform_7_eq (pf : pre0.Contents (Elt F)) (i : grid0.Coords) : cc0_transform_7 k0_off1_inb numel1_S1x1 pf i = pageIdx pf i 2 := by
  unfold pageIdx; rw [← at_entry]; rfl
theorem transform_8_eq (pf : pre0.Contents (Elt F)) (i : grid0.Coords) : cc0_transform_8 k0_off1_inb numel1_S1x1 pf i = pageIdx pf i 3 := by
  unfold pageIdx; rw [← at_entry]; rfl
theorem transform_9_eq (pf : pre0.Contents (Elt F)) (i : grid0.Coords) : cc0_transform_9 k0_off1_inb numel1_S1x1 pf i = pageIdx pf i 4 := by
  unfold pageIdx; rw [← at_entry]; rfl
theorem transform_10_eq (pf : pre0.Contents (Elt F)) (i : grid0.Coords) : cc0_transform_10 k0_off1_inb numel1_S1x1 pf i = pageIdx pf i 5 := by
  unfold pageIdx; rw [← at_entry]; rfl
theorem transform_11_eq (pf : pre0.Contents (Elt F)) (i : grid0.Coords) : cc0_transform_11 k0_off1_inb numel1_S1x1 pf i = pageIdx pf i 6 := by
  unfold pageIdx; rw [← at_entry]; rfl
theorem transform_12_eq (pf : pre0.Contents (Elt F)) (i : grid0.Coords) : cc0_transform_12 k0_off1_inb numel1_S1x1 pf i = pageIdx pf i 7 := by
  unfold pageIdx; rw [← at_entry]; rfl

theorem pageIdx_inb (pf : pre0.Contents (Elt F)) (h : ∀ s g, (entry pf s g).toNat < 10240) (i : grid0.Coords) (r : Fin 8) :
    ∀ a, (pageIdx pf i r a + 1) * S1x512x128.size a ≤ S10240x512x128.size a := by
  have e := h (i 0) (pageCol i r)
  intro a
  fin_cases a
  · show ((entry pf (i 0) (pageCol i r)).toNat + 1) * 1 ≤ 10240; omega
  · show (0 + 1) * 512 ≤ 512; omega
  · show (0 + 1) * 128 ≤ 128; omega

/-- A table whose entries name pages of the pool places every page window inside the cache. -/
theorem ok_of_range (pf : pre0.Contents (Elt F)) (h : ∀ s g, (entry pf s g).toNat < 10240) : ok0 pf := by
  unfold ok0
  refine ⟨fun i => ⟨?_, Or.inl rfl⟩, fun i => ⟨?_, Or.inl rfl⟩, fun i => ⟨?_, Or.inl rfl⟩, fun i => ⟨?_, Or.inl rfl⟩,
    fun i => ⟨?_, Or.inl rfl⟩, fun i => ⟨?_, Or.inl rfl⟩, fun i => ⟨?_, Or.inl rfl⟩, fun i => ⟨?_, Or.inl rfl⟩⟩
  · rw [transform_5_eq]; exact pageIdx_inb pf h i 0
  · rw [transform_6_eq]; exact pageIdx_inb pf h i 1
  · rw [transform_7_eq]; exact pageIdx_inb pf h i 2
  · rw [transform_8_eq]; exact pageIdx_inb pf h i 3
  · rw [transform_9_eq]; exact pageIdx_inb pf h i 4
  · rw [transform_10_eq]; exact pageIdx_inb pf h i 5
  · rw [transform_11_eq]; exact pageIdx_inb pf h i 6
  · rw [transform_12_eq]; exact pageIdx_inb pf h i 7

variable (m : (ℓ : Loc nD τ sig) → Buf (Elt F) ℓ)

theorem entry_tbl (s : Fin 128) (g : Fin 64) : entry (tbl m) s g = m ((0 : Dev nD).tc.loc main_arg3) (ix2 s g) :=
  congrFun (V_main_arg3 m 0) (ix2 s g)

theorem word_in_pool (w : BitVec 32) (h : IntOp.andi (IntOp.cmpi .sge w 0#32) (IntOp.cmpi .slt w 10240#32) = 1#1) :
    w.toNat < 10240 := by
  simp only [IntOp.andi, IntOp.cmpi] at h
  have h1 : BitVec.sle 0#32 w = true ∧ BitVec.slt w 10240#32 = true := by
    revert h
    cases BitVec.sle 0#32 w <;> cases BitVec.slt w 10240#32 <;> simp
  have ha := BitVec.sle_iff_toInt_le.1 h1.1
  have hb := BitVec.slt_iff_toInt_lt.1 h1.2
  have e0 : (0#32).toInt = 0 := by decide
  have e1 : (10240#32).toInt = 10240 := by decide
  rw [e0] at ha; rw [e1] at hb
  have := BitVec.toInt_eq_toNat_cond w
  split at this <;> omega

end Cert.KernelIdeal.Hand

end
-- ==== Proof.Frames.lean ====
module

public import proofs.«01_k».proof.Defs
public import proofs.«01_k».proof.Proof.Pages
public import proofs.«01_k».proof.Proof.Gen.Kernel
public import proofs.«01_k».proof.Proof.Gen.ReferenceIdeal.Run

/-! The frames: each program ends, its arguments unchanged and its semaphores at zero. -/

@[expose] public section

noncomputable section

namespace Cert.Proof

open Idealize.ShloMosaic Idealize.ShloMosaic.TcCoe Idealize.SL.Sem Idealize.ShloMosaic.ValueIdx
open Cert.KernelIdeal.Hand

/-- The table is in range where the pages predicate holds. -/
theorem ok_bits (m : (ℓ : Loc Cert.KernelIdeal.nD Cert.KernelIdeal.τ Cert.KernelIdeal.sig) → Buf (Elt Bits) ℓ)
    (h : Cert.Pre_Kernel m) : Ok (F := Bits) m :=
  ok_of_range _ fun s g => by
    rw [entry_tbl]; exact word_in_pool _ (congrFun (h 0) (ix2 s g))

theorem ok_ideal (m : (ℓ : Loc Cert.KernelIdeal.nD Cert.KernelIdeal.τ Cert.KernelIdeal.sig) → Buf (Elt Ideal) ℓ)
    (h : Cert.Pre_KernelIdeal m) : Ok (F := Ideal) m :=
  ok_of_range _ fun s g => by
    rw [entry_tbl]; exact word_in_pool _ (congrFun (h 0) (ix2 s g))

/-! The two kernel programs have one text: their configurations, body tables and mains are equal. -/

section Same
variable {F : FTy → Type} [FloatOps F]

/-- The grid, windows and tables of the launch are the same, -/
theorem launch_same : Cert.Kernel.pcfgs (F := F) = Cert.KernelIdeal.pcfgs (F := F) := rfl

set_option maxHeartbeats 3000000 in
/-- and the kernel body at a grid point, -/
theorem bodies_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ)) ?_
  funext l x
  match l, x with
  | 0, (t, s) => rfl
  | ⟨n + 1, h⟩, _ => exact absurd h (Nat.not_lt.2 (Nat.le_add_left _ _))

set_option maxHeartbeats 3000000 in
/-- so the two body tables with the launch's own labels, -/
theorem defs_same : Cert.Kernel.defs (F := F) = Cert.KernelIdeal.defs (F := F) := by
  unfold Cert.Kernel.defs Cert.KernelIdeal.defs
  exact congrArg (Pipeline.defs (Cert.KernelIdeal.pcfgs (F := F))) bodies_same

set_option maxHeartbeats 3000000 in
/-- and the two host programs. -/
theorem main_same : Cert.Kernel.main (F := F) = Cert.KernelIdeal.main (F := F) := by
  unfold Cert.Kernel.main Cert.KernelIdeal.main
  rfl

end Same

/-- A run of one body table and main is a run of an equal body table and main. -/
theorem carry {nD : Nat} {τ : Topo} {sig : RefSig} {Val : EltTy → Type} {Λ : Labels} {d d' : Defs nD τ sig Val Λ}
    {p p' : Dev nD → Prog (TpuEff nD τ sig Val Λ .tc) PUnit} (hd : d' = d) (hp : p' = p) {s : MemSt nD τ sig Val}
    {Q : PUnit × MemSt nD τ sig Val → Prop} (h : θ_run d (onTc (τ := τ) p) s Q) : θ_run d' (onTc (τ := τ) p') s Q := by
  subst hd; subst hp; exact h

set_option maxHeartbeats 3000000 in
theorem frame_kernel : Cert.quiescent_Kernel := fun m ρ h =>
  carry (defs_same (F := Bits)) (main_same (F := Bits))
    ((θ_run Cert.KernelIdeal.defs _ _).mono (fun _ h => h.1) (run_frame (F := Bits) m ρ (ok_bits m h)))

theorem frame_ideal : Cert.quiescent_KernelIdeal := fun m ρ h =>
  (θ_run Cert.KernelIdeal.defs _ _).mono (fun _ h => h.1) (run_frame (F := Ideal) m ρ (ok_ideal m h))

/-- The reference declares no semaphore. -/
theorem frame_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.FramesFinite.lean ====
module

public import proofs.«01_k».proof.Proof.Frames
public import proofs.«01_k».proof.Proof.Gen.Pre_finite_and_paged

/-! The frames of the two programs of the value claim, under its precondition. -/

@[expose] public section

noncomputable section

namespace Cert.Proof

open Idealize.ShloMosaic Idealize.ShloMosaic.TcCoe Idealize.SL.Sem Idealize.ShloMosaic.ValueIdx
open Cert.KernelIdeal.Hand

/-- Where the predicate of the value claim holds, the table is in range. -/
theorem range_finite (m : (ℓ : Loc Cert.KernelIdeal.nD Cert.KernelIdeal.τ Cert.KernelIdeal.sig) → Buf (Elt Ideal) ℓ)
    (h : Cert.Pre_KernelIdeal_finite_and_paged m) (s : Fin 128) (g : Fin 64) :
    (m ((0 : Dev Cert.KernelIdeal.nD).tc.loc Cert.KernelIdeal.main_arg3) (ix2 s g)).toNat < 10240 :=
  word_in_pool _ (congrFun (h 0).1 (ix2 s g))

theorem ok_finite (m : (ℓ : Loc Cert.KernelIdeal.nD Cert.KernelIdeal.τ Cert.KernelIdeal.sig) → Buf (Elt Ideal) ℓ)
    (h : Cert.Pre_KernelIdeal_finite_and_paged m) : Ok (F := Ideal) m :=
  ok_of_range _ fun s g => by rw [entry_tbl]; exact range_finite m h s g

theorem frame_ideal_finite : Cert.quiescent_KernelIdeal_pre_finite_and_paged := fun m ρ h =>
  (θ_run Cert.KernelIdeal.defs _ _).mono (fun _ h => h.1) (run_frame (F := Ideal) m ρ (ok_finite m h))

theorem frame_ref_finite : Cert.quiescent_ReferenceIdeal_pre_finite_and_paged := fun m ρ _ =>
  frame_ref m ρ trivial

end Cert.Proof
-- ==== Proof.Finite.lean ====
module

public import proofs.«01_k».proof.Proof.FramesFinite
public import Idealize.ShloMosaic.Lib.Pointwise

/-! What the precondition of the value claim says of each argument: every float is a real number. -/

@[expose] public section

set_option maxRecDepth 16384

noncomputable section

namespace Cert.Proof

open Idealize.ShloMosaic Idealize.ShloMosaic.TcCoe
open Cert.KernelIdeal

/-- A number whose absolute value is below infinity is real. -/
theorem real_of_lt (x : EReal) (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  have hlt : max x (-x) < ⊤ := by
    by_contra hn
    simp [Ideal.cmp, hn] at h
  induction x using EReal.rec with
  | bot => simp at hlt
  | top => simp at hlt
  | coe r => exact ⟨r, rfl⟩

variable {m : (ℓ : Loc nD τ sig) → Buf (Elt Ideal) ℓ} (h : Cert.Pre_KernelIdeal_finite_and_paged m) (c : Dev nD)
include h

theorem real_q (s : Fin 128) (x : Fin 4096) : ∃ r : ℝ, m ((c : Thread nD τ).loc main_arg0) (ix2 s x) = (r : EReal) :=
  real_of_lt _ (congrFun (h c).2.1 (ix2 s x))

theorem real_new (s : Fin 128) (x : Fin 512) : ∃ r : ℝ, m ((c : Thread nD τ).loc main_arg1) (ix2 s x) = (r : EReal) :=
  real_of_lt _ (congrFun (h c).2.2.1 (ix2 s x))

theorem real_pool (p : Fin 10240) (x : Fin 128) (i : Fin 2) (y : Fin 256) :
    ∃ r : ℝ, m ((c : Thread nD τ).loc main_arg2) (ix5 p x i 0 y) = (r : EReal) :=
  real_of_lt _ (congrFun (h c).2.2.2.1 (ix5 p x i 0 y))

theorem real_tab (b x : Fin 32) : ∃ r : ℝ, m ((c : Thread nD τ).loc main_arg4) (ix2 b x) = (r : EReal) :=
  real_of_lt _ (congrFun (h c).2.2.2.2.1 (ix2 b x))

theorem real_lam (i : Fin 4) (x : Fin 128) : ∃ r : ℝ, m ((c : Thread nD τ).loc main_arg5) (ix2 i x) = (r : EReal) :=
  real_of_lt _ (congrFun (h c).2.2.2.2.2 (ix2 i x))

end Cert.Proof

end
-- ==== Proof.Soft.lean ====
module

public import Idealize.ShloMosaic.Lib.Pointwise
public import Mathlib.Analysis.SpecialFunctions.Exp

/-! The softmax of a row of real scores, accumulated block by block, over the extended reals: a running maximum, a
running denominator and a running weighted sum, each rescaled when the maximum grows. Nothing here mentions the kernel. -/

@[expose] public section

noncomputable section

namespace Cert.Soft

open Idealize.ShloMosaic Finset

/-- A sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The accumulators hold the first `n` keys: the maximum is some real `μ`, and the denominator and the weighted sums
are those of the first `n` scores, each scaled by `exp (-μ)`. -/
def Held {E : Type} (n : ℕ) (S : ℕ → ℝ) (V : ℕ → E → ℝ) (m l : EReal) (a : E → EReal) : Prop :=
  ∃ μ : ℝ, m = (μ : EReal) ∧ l = ((∑ k ∈ range n, Real.exp (S k - μ) : ℝ) : EReal) ∧
    ∀ e, a e = ((∑ k ∈ range n, Real.exp (S k - μ) * V k e : ℝ) : EReal)

/-- Before the first key. -/
theorem held_zero {E : Type} (S : ℕ → ℝ) (V : ℕ → E → ℝ) (μ : ℝ) : Held 0 S V (μ : EReal) 0 (fun _ => 0) :=
  ⟨μ, rfl, by simp, fun e => by simp⟩

/-- Rescaling a sum of exponentials. -/
theorem rescale (n : ℕ) (S W : ℕ → ℝ) (μ μ' : ℝ) :
    Real.exp (μ - μ') * ∑ k ∈ range n, Real.exp (S k - μ) * W k = ∑ k ∈ range n, Real.exp (S k - μ') * W k := by
  rw [Finset.mul_sum]
  refine Finset.sum_congr rfl fun k _ => ?_
  rw [← mul_assoc, ← Real.exp_add]; congr 2; ring

/-- One block of `B` further keys, whatever the new maximum, so long as it is real. -/
theorem held_block {E : Type} {n B : ℕ} {S : ℕ → ℝ} {V : ℕ → E → ℝ} {m l : EReal} {a : E → EReal} (h : Held n S V m l a)
    (s : Fin B → EReal) (hs : ∀ j, s j = (S (n + j) : EReal)) (v : Fin B → E → EReal)
    (hv : ∀ j e, v j e = (V (n + j) e : EReal)) {m' : EReal} (μ' : ℝ) (hm : m' = (μ' : EReal)) :
    Held (n + B) S V m' (Ideal.exp (m - m') * l + ∑ j, Ideal.exp (s j - m'))
      (fun e => Ideal.exp (m - m') * a e + ∑ j, Ideal.exp (s j - m') * v j e) := by
  obtain ⟨μ, rfl, rfl, ha⟩ := h
  subst hm
  refine ⟨μ', rfl, ?_, fun e => ?_⟩
  · rw [← EReal.coe_sub, Ideal.exp_coe, ← EReal.coe_mul]
    simp only [hs, ← EReal.coe_sub, Ideal.exp_coe]
    rw [← coe_sum, ← EReal.coe_add]
    have := rescale n S (fun _ => 1) μ μ'
    simp only [mul_one] at this
    rw [this, Finset.sum_range_add, Finset.sum_range]
    congr 2; exact (Finset.sum_range fun j => Real.exp (S (n + j) - μ')).symm
  · beta_reduce
    rw [ha, ← EReal.coe_sub, Ideal.exp_coe, ← EReal.coe_mul]
    simp only [hs, hv, ← EReal.coe_sub, Ideal.exp_coe, ← EReal.coe_mul]
    rw [← coe_sum, ← EReal.coe_add, rescale n S (fun k => V k e) μ μ', Finset.sum_range_add]
    congr 2; exact (Finset.sum_range fun j => Real.exp (S (n + j) - μ') * V (n + j) e).symm

/-- One further key. -/
theorem held_one {E : Type} {n : ℕ} {S : ℕ → ℝ} {V : ℕ → E → ℝ} {m l : EReal} {a : E → EReal} (h : Held n S V m l a)
    {s : EReal} (hs : s = (S n : EReal)) {v : E → EReal} (hv : ∀ e, v e = (V n e : EReal)) {m' : EReal} (μ' : ℝ)
    (hm : m' = (μ' : EReal)) :
    Held (n + 1) S V m' (Ideal.exp (m - m') * l + Ideal.exp (s - m'))
      (fun e => Ideal.exp (m - m') * a e + Ideal.exp (s - m') * v e) := by
  have := held_block (B := 1) h (fun _ => s) (fun j => by rw [hs]; congr; omega) (fun _ => v)
    (fun j e => by rw [hv]; congr; omega) μ' hm
  simpa using this

/-- The maximum of a real and real scores is real. -/
theorem max_real {B : ℕ} {m : EReal} (μ : ℝ) (hm : m = (μ : EReal)) (s : Fin B → EReal) (S : Fin B → ℝ) (hs : ∀ j, s j = (S j : EReal)) :
    ∃ μ' : ℝ, max m ((univ : Finset (Fin B)).fold max ⊥ s) = (μ' : EReal) := by
  subst hm
  have key : ∀ t : Finset (Fin B), ∃ μ' : ℝ, max (μ : EReal) (t.fold max ⊥ s) = (μ' : EReal) := by
    intro t
    induction t using Finset.induction_on with
    | empty => exact ⟨μ, by simp⟩
    | insert a t ha ih =>
      obtain ⟨μ', h⟩ := ih
      refine ⟨max (S a) μ', ?_⟩
      rw [Finset.fold_insert ha, max_left_comm, h, hs, EReal.coe_strictMono.monotone.map_max]
  exact key univ

/-- The fold of maxima of at least one real score is real. -/
theorem fold_real {ι : Type*} [Fintype ι] [Nonempty ι] (s : ι → EReal) (S : ι → ℝ) (hs : ∀ j, s j = (S j : EReal)) :
    ∃ μ : ℝ, (univ : Finset ι).fold max ⊥ s = (μ : EReal) := by
  classical
  have key : ∀ t : Finset ι, t.fold max ⊥ s = ⊥ ∧ t = ∅ ∨ ∃ μ' : ℝ, t.fold max ⊥ s = (μ' : EReal) := by
    intro t
    induction t using Finset.induction_on with
    | empty => left; simp
    | insert a t ha ih =>
      right
      rw [Finset.fold_insert ha, hs]
      rcases ih with ⟨h, _⟩ | ⟨μ', h⟩
      · exact ⟨S a, by rw [h]; simp⟩
      · exact ⟨max (S a) μ', by rw [h, EReal.coe_strictMono.monotone.map_max]⟩
  rcases key univ with ⟨_, h⟩ | h
  · exact absurd h Finset.univ_nonempty.ne_empty
  · exact h

/-- The softmax average of the first `n` values. -/
def avg {E : Type} (n : ℕ) (S : ℕ → ℝ) (V : ℕ → E → ℝ) (e : E) : ℝ :=
  (∑ k ∈ range n, Real.exp (S k) * V k e) / ∑ k ∈ range n, Real.exp (S k)

theorem exp_sum_pos {n : ℕ} (hn : 0 < n) (S : ℕ → ℝ) : 0 < ∑ k ∈ range n, Real.exp (S k) :=
  Finset.sum_pos (fun _ _ => Real.exp_pos _) ⟨0, Finset.mem_range.2 hn⟩

/-- The quotient of reals, at a nonzero divisor. -/
theorem div_real (x : ℝ) {y : ℝ} (h : y ≠ 0) : Ideal.div (x : EReal) (y : EReal) = ((x / y : ℝ) : EReal) := by
  rw [Ideal.div_coe h, ← EReal.coe_mul, mul_one_div]

/-- Shifting all scores by the same amount changes no softmax weight. -/
theorem shift {n : ℕ} (S : ℕ → ℝ) (μ : ℝ) (k : ℕ) :
    Real.exp (S k - μ) / ∑ j ∈ range n, Real.exp (S j - μ) = Real.exp (S k) / ∑ j ∈ range n, Real.exp (S j) := by
  simp only [Real.exp_sub]
  rw [← Finset.sum_div, div_div_div_cancel_right₀ (Real.exp_ne_zero _)]

/-- What the accumulators give once divided: the softmax average. -/
theorem held_div {E : Type} {n : ℕ} (hn : 0 < n) {S : ℕ → ℝ} {V : ℕ → E → ℝ} {m l : EReal} {a : E → EReal} (h : Held n S V m l a) (e : E) :
    Ideal.div (a e) l = (avg n S V e : EReal) := by
  obtain ⟨μ, rfl, rfl, ha⟩ := h
  rw [ha, div_real _ (exp_sum_pos hn fun k => S k - μ).ne', avg]
  congr 1
  rw [Finset.sum_div, Finset.sum_div]
  refine Finset.sum_congr rfl fun k _ => ?_
  rw [mul_div_right_comm, shift, mul_div_right_comm]

/-- The plain softmax weight of key `k`. -/
theorem weight_real {n : ℕ} (hn : 0 < n) (S : ℕ → ℝ) (μ : ℝ) (k : ℕ) :
    Ideal.div (Real.exp (S k - μ) : EReal) ((∑ j ∈ range n, Real.exp (S j - μ) : ℝ) : EReal)
      = ((Real.exp (S k) / ∑ j ∈ range n, Real.exp (S j) : ℝ) : EReal) := by
  rw [div_real _ (exp_sum_pos hn fun k => S k - μ).ne', shift]

/-- The values averaged by a difference of two softmaxes: the difference of the averages. -/
theorem avg_diff {E : Type} (n : ℕ) (S₀ S₁ : ℕ → ℝ) (V : ℕ → E → ℝ) (c : ℝ) (e : E) :
    ∑ k ∈ range n, V k e * (Real.exp (S₀ k) / (∑ j ∈ range n, Real.exp (S₀ j))
        - c * (Real.exp (S₁ k) / ∑ j ∈ range n, Real.exp (S₁ j)))
      = avg n S₀ V e - c * avg n S₁ V e := by
  simp only [avg, mul_sub, Finset.sum_sub_distrib, Finset.sum_div, Finset.mul_sum]
  congr 1 <;> refine Finset.sum_congr rfl fun k _ => ?_ <;> ring

end Cert.Soft
-- ==== Proof.Bucket.lean ====
module

public import Idealize.ShloMosaic.Lib.Pointwise
public import Mathlib.Analysis.SpecialFunctions.Log.Basic
public import Mathlib.Analysis.Complex.Exponential

/-! The bucket of a distance between two positions: the distance itself below 16, then logarithmic, at most 31. One
scalar function, which both programs apply to every key. -/

@[expose] public section

noncomputable section

namespace Cert.Bucket

open Idealize.ShloMosaic

/-- The bucket's words: a distance below 16 is its own bucket, a larger one is
`min (16 + trunc (log (d / 16) / 2.0794 * 16)) 31`. -/
def bucket (d : BitVec 32) : BitVec 32 :=
  Scalar.select (IntOp.cmpi CmpIPredicate.slt (IntOp.maxsi d 0#32) 16#32) (IntOp.maxsi d 0#32)
    (IntOp.minsi (IntOp.addi (16#32) (FloatOps.fptosi (F := Ideal) (φ := .f32) 32
      (Ideal.div (Ideal.log (Ideal.div (FloatOps.sitofp (F := Ideal) FTy.f32 (IntOp.maxsi (IntOp.maxsi d 0#32) 1#32))
        (Ideal.ofBits FTy.f32 0x41800000#32))) (Ideal.ofBits FTy.f32 0x40051592#32) * Ideal.ofBits FTy.f32 0x41800000#32))) 31#32)

theorem lit16 : Ideal.ofBits FTy.f32 0x41800000#32 = ((16 : ℝ) : EReal) := by
  simp [Ideal.ofBits, Ideal.ieee, -EReal.coe_mul]; norm_num

/-- The divisor's value: a little above `3 log 2`. -/
theorem litLog : Ideal.ofBits FTy.f32 0x40051592#32 = ((8721810 / 4194304 : ℝ) : EReal) := by
  simp [Ideal.ofBits, Ideal.ieee, -EReal.coe_mul]; norm_num

/-- The new row is at distance 0, in bucket 0. -/
theorem bucket_zero : bucket 0#32 = 0#32 := by
  unfold bucket
  have : IntOp.cmpi CmpIPredicate.slt (IntOp.maxsi 0#32 0#32) 16#32 = 1#1 := by decide
  rw [this]; rfl

/-- A distance below 16 is its own bucket. -/
theorem bucket_small (n : ℕ) (h : n < 16) : bucket (BitVec.ofNat 32 n) = BitVec.ofNat 32 n := by
  have h1 : IntOp.cmpi CmpIPredicate.slt (IntOp.maxsi (BitVec.ofNat 32 n) 0#32) 16#32 = 1#1 := by
    interval_cases n <;> decide
  have h2 : IntOp.maxsi (BitVec.ofNat 32 n) 0#32 = BitVec.ofNat 32 n := by interval_cases n <;> decide
  unfold bucket
  rw [h1, h2]; rfl

/-- The logarithmic part's integer, before 16 is added. -/
def logPart (n : ℕ) : ℤ := ⌊Real.log (n / 16) / (8721810 / 4194304) * 16⌋

theorem logPart_nonneg {n : ℕ} (h : 16 ≤ n) : 0 ≤ logPart n := by
  apply Int.floor_nonneg.2
  have h16 : (1 : ℝ) ≤ (n : ℝ) / 16 := by
    rw [le_div_iff₀ (by norm_num)]; have : (16 : ℝ) ≤ n := by exact_mod_cast h
    linarith
  have := Real.log_nonneg h16
  positivity

theorem logPart_le {n : ℕ} (h : 16 ≤ n) (h' : n ≤ 8192) : logPart n ≤ 8192 := by
  have hn : (16 : ℝ) ≤ n := by exact_mod_cast h
  have hn' : (n : ℝ) ≤ 8192 := by exact_mod_cast h'
  have hl : Real.log ((n : ℝ) / 16) ≤ (n : ℝ) / 16 - 1 := Real.log_le_sub_one_of_pos (by positivity)
  have : Real.log ((n : ℝ) / 16) / (8721810 / 4194304) * 16 ≤ 8192 := by
    have : Real.log ((n : ℝ) / 16) ≤ 512 := by linarith
    rw [div_mul_eq_mul_div, div_le_iff₀ (by norm_num)]; linarith
  have h2 := Int.floor_le (Real.log ((n : ℝ) / 16) / (8721810 / 4194304) * 16)
  have : ((logPart n : ℤ) : ℝ) ≤ (8192 : ℤ) := by unfold logPart; push_cast; linarith
  exact_mod_cast this

/-- `log 8` is more than `15/16` of the divisor. -/
theorem log_eight : (195 / 100 : ℝ) ≤ Real.log 8 := by
  rw [Real.le_log_iff_exp_le (by norm_num), show (195 / 100 : ℝ) = (32 : ℕ) * (195 / 3200 : ℝ) by norm_num, Real.exp_nat_mul]
  calc Real.exp (195 / 3200) ^ 32 ≤ (1 / (1 - 195 / 3200)) ^ 32 :=
        pow_le_pow_left₀ (Real.exp_pos _).le (Real.exp_bound_div_one_sub_of_interval (by norm_num) (by norm_num)) 32
    _ ≤ 8 := by norm_num

theorem logPart_ge {n : ℕ} (h : 128 ≤ n) : 15 ≤ logPart n := by
  apply Int.le_floor.2
  have hn : (128 : ℝ) ≤ n := by exact_mod_cast h
  have h8 : Real.log 8 ≤ Real.log ((n : ℝ) / 16) := Real.log_le_log (by norm_num) (by rw [le_div_iff₀ (by norm_num)]; linarith)
  have h2 := log_eight
  push_cast
  rw [div_mul_eq_mul_div, le_div_iff₀ (by norm_num)]
  linarith

/-- A larger distance's bucket, through its integer. -/
theorem bucket_large (n : ℕ) (h : 16 ≤ n) (h' : n ≤ 8192) :
    bucket (BitVec.ofNat 32 n) = IntOp.minsi (IntOp.addi 16#32 (BitVec.ofInt 32 (logPart n))) 31#32 := by
  have hi : (BitVec.ofNat 32 n).toInt = n := by
    rw [BitVec.toInt_ofNat']; simp [Int.bmod]; omega
  have h2 : IntOp.maxsi (BitVec.ofNat 32 n) 0#32 = BitVec.ofNat 32 n := by
    simp only [IntOp.maxsi, BitVec.slt, hi]
    simp; omega
  have h3 : IntOp.maxsi (BitVec.ofNat 32 n) 1#32 = BitVec.ofNat 32 n := by
    simp only [IntOp.maxsi, BitVec.slt, hi]
    simp; omega
  have h1 : IntOp.cmpi CmpIPredicate.slt (BitVec.ofNat 32 n) 16#32 = 0#1 := by
    show BitVec.ofBool (decide ((BitVec.ofNat 32 n).toInt < (16#32).toInt)) = 0#1
    rw [hi, show (16#32 : BitVec 32).toInt = 16 from rfl, decide_eq_false (by omega)]; rfl
  have hn : (16 : ℝ) ≤ n := by exact_mod_cast h
  have hpos : ¬ ((n : ℝ) / 16 ≤ 0) := not_le.2 (by positivity)
  have hs : FloatOps.sitofp (F := Ideal) FTy.f32 (BitVec.ofNat 32 n) = ((n : ℝ) : EReal) := by
    show (((BitVec.ofNat 32 n).toInt : ℝ) : EReal) = _
    rw [hi]; norm_cast
  have hd : ∀ (x y : ℝ), y ≠ 0 → Ideal.div (x : EReal) (y : EReal) = ((x / y : ℝ) : EReal) := fun x y hy => by
    rw [Ideal.div_coe hy, ← EReal.coe_mul, mul_one_div]
  unfold bucket
  rw [h2, h3, h1, hs, lit16, litLog, hd _ _ (by norm_num), Ideal.log_coe, if_neg hpos, hd _ _ (by norm_num), ← EReal.coe_mul]
  have hf : FloatOps.fptosi (F := Ideal) (φ := .f32) 32 ((Real.log (n / 16) / (8721810 / 4194304) * 16 : ℝ) : EReal)
      = BitVec.ofInt 32 (logPart n) := by
    show BitVec.ofInt 32 (Ideal.toIntClamped _ _ _) = _
    have hp := logPart_nonneg h
    have hq := logPart_le h h'
    have hnn : 0 ≤ Real.log (n / 16) / (8721810 / 4194304) * 16 := Int.floor_nonneg.1 hp
    rw [Ideal.toIntClamped_coe, if_pos hnn]
    congr 1
    change max _ (min _ (logPart n)) = logPart n
    norm_num
    omega
  rw [hf]; rfl

/-- The buckets of the row's distances are the table's rows. -/
theorem bucket_lt (n : ℕ) (h : n ≤ 8192) : (bucket (BitVec.ofNat 32 n)).toNat < 32 := by
  rcases Nat.lt_or_ge n 16 with h1 | h1
  · rw [bucket_small n h1]; simp; omega
  · rw [bucket_large n h1 h]
    have hp := logPart_nonneg h1
    have hq := logPart_le h1 h
    obtain ⟨k, hk⟩ := Int.eq_ofNat_of_zero_le hp
    rw [hk] at hq ⊢
    have hk' : k ≤ 8192 := by exact_mod_cast hq
    have e : IntOp.addi 16#32 (BitVec.ofInt 32 (k : ℤ)) = BitVec.ofNat 32 (16 + k) := by
      simp only [IntOp.addi]; apply BitVec.eq_of_toNat_eq; simp
    have hi : (BitVec.ofNat 32 (16 + k)).toInt = 16 + k := by
      rw [BitVec.toInt_ofNat']; simp [Int.bmod]; omega
    rw [e]
    simp only [IntOp.minsi, BitVec.slt, hi]
    split
    · rename_i hc; simp at hc; simp; omega
    · simp

/-- At 128 and beyond the bucket is the last one. -/
theorem bucket_far (n : ℕ) (h : 128 ≤ n) (h' : n ≤ 8192) : bucket (BitVec.ofNat 32 n) = 31#32 := by
  rw [bucket_large n (by omega) h']
  have hp := logPart_ge h
  have hq := logPart_le (by omega) h'
  obtain ⟨k, hk⟩ := Int.eq_ofNat_of_zero_le (show 0 ≤ logPart n by omega)
  rw [hk] at hp hq ⊢
  have hk' : k ≤ 8192 := by exact_mod_cast hq
  have hk'' : 15 ≤ k := by exact_mod_cast hp
  have e : IntOp.addi 16#32 (BitVec.ofInt 32 (k : ℤ)) = BitVec.ofNat 32 (16 + k) := by
    simp only [IntOp.addi]; apply BitVec.eq_of_toNat_eq; simp
  have hi : (BitVec.ofNat 32 (16 + k)).toInt = 16 + k := by
    rw [BitVec.toInt_ofNat']; simp [Int.bmod]; omega
  rw [e]
  simp only [IntOp.minsi, BitVec.slt, hi]
  split
  · rename_i hc; simp at hc; omega
  · rfl

end Cert.Bucket
-- ==== Proof.Point.lean ====
module

public import Idealize.ShloMosaic.Lib.Pointwise
public import proofs.«01_k».proof.Proof.Steps
public import proofs.«01_k».proof.Proof.Soft
public import proofs.«01_k».proof.Proof.Bucket

/-! One grid step of the kernel over the extended reals, read one query row at a time: which entries of the eight pages
each score and each value is, and that the step advances the row's accumulators by 1024 keys. -/

@[expose] public section

noncomputable section

namespace Cert.KernelIdeal.Hand

open Idealize.ShloMosaic Cert.KernelIdeal Cert.KernelIdeal.Gen Cert.Soft Cert.Bucket

/-- Entry `c` of the cached row of the step's key `j`: token `j % 128` of page `j / 128`, whose 512 numbers lie in four
consecutive rows of 128. -/
def pageRow (p : Fin 8 → Vec Ideal S1x512x128 .f32) (j : Fin 1024) (c : Fin 512) : EReal :=
  p ⟨j.val / 128, by omega⟩ (ix3 0 ⟨4 * (j.val % 128) + c.val / 128, by omega⟩ ⟨c.val % 128, by omega⟩)

theorem pageRow_of (p : Fin 8 → Vec Ideal S1x512x128 .f32) (j : Fin 1024) (c : Fin 512) (k : Fin 8) (x : Fin 512) (y : Fin 128)
    (hk : k.val = j.val / 128) (hx : x.val = 4 * (j.val % 128) + c.val / 128) (hy : y.val = c.val % 128) :
    p k (ix3 0 x y) = pageRow p j c := by
  unfold pageRow
  rw [show k = ⟨j.val / 128, by omega⟩ from Fin.ext hk, show x = ⟨4 * (j.val % 128) + c.val / 128, by omega⟩ from Fin.ext hx,
    show y = ⟨c.val % 128, by omega⟩ from Fin.ext hy]

/-- The first half's keys: entries 0 to 127 of the row. -/
theorem keys1_apply (p : Fin 8 → Vec Ideal S1x512x128 .f32) (j : Fin 1024) (d : Fin 128) :
    keys1 p (ix2 j d) = pageRow p j ⟨d.val, by omega⟩ := by
  pointwise [keys1, k0_pay31, half0]
  split_ifs <;> exact pageRow_of p j _ _ _ _ (by simp; omega) (by simp; omega) (by simp; try omega)

/-- The second half's keys: entries 128 to 255. -/
theorem keys2_apply (p : Fin 8 → Vec Ideal S1x512x128 .f32) (j : Fin 1024) (d : Fin 128) :
    keys2 p (ix2 j d) = pageRow p j ⟨128 + d.val, by omega⟩ := by
  pointwise [keys2, k0_pay33, k0_pay32, half1]
  split_ifs <;> exact pageRow_of p j _ _ _ _ (by simp; omega) (by simp; omega) (by simp; try omega)

/-- The values' first half: entries 256 to 383. -/
theorem valsLo_apply (p : Fin 8 → Vec Ideal S1x512x128 .f32) (j : Fin 1024) (d : Fin 128) :
    k0_pay38 (k0_pay34 (half2 (p 0))) (k0_pay35 (half2 (p 1))) (k0_pay36 (half2 (p 2))) (k0_pay37 (half2 (p 3))) (half2 (p 4))
      (half2 (p 5)) (half2 (p 6)) (half2 (p 7)) (ix2 j d) = pageRow p j ⟨256 + d.val, by omega⟩ := by
  pointwise [k0_pay38, k0_pay34, k0_pay35, k0_pay36, k0_pay37, half2]
  split_ifs <;> exact pageRow_of p j _ _ _ _ (by simp; omega) (by simp; omega) (by simp; try omega)

/-- The values' second half: entries 384 to 511. -/
theorem valsHi_apply (p : Fin 8 → Vec Ideal S1x512x128 .f32) (j : Fin 1024) (d : Fin 128) :
    k0_pay39 (half3 (p 0)) (half3 (p 1)) (half3 (p 2)) (half3 (p 3)) (half3 (p 4))
      (half3 (p 5)) (half3 (p 6)) (half3 (p 7)) (ix2 j d) = pageRow p j ⟨384 + d.val, by omega⟩ := by
  pointwise [k0_pay39, half3]
  split_ifs <;> exact pageRow_of p j _ _ _ _ (by simp; omega) (by simp; omega) (by simp; try omega)

/-- The values: entries 256 to 511. -/
theorem vals_apply (p : Fin 8 → Vec Ideal S1x512x128 .f32) (j : Fin 1024) (e : Fin 256) :
    vals p (ix2 j e) = pageRow p j ⟨256 + e.val, by omega⟩ := by
  pointwise [vals, k0_pay45]
  rcases Nat.lt_or_ge e.val 128 with h | h
  · rw [dif_pos h]; exact valsLo_apply p j ⟨e.val, h⟩
  · rw [dif_neg (by omega), valsHi_apply]; congr 1; apply Fin.ext; simp; omega

/-- The scale of the scores. -/
abbrev scale : EReal := Ideal.ofBits FTy.f32 0x3DB504F3#32

/-- The score of query row `r` (head `r % 16`, half `r / 16`) and the step's key `j`, its bias in `b`. -/
def score (q : Vec Ideal S1x32x128 .bf16) (p : Fin 8 → Vec Ideal S1x512x128 .f32) (b : Vec Ideal S32x1024 .f32)
    (r : Fin 32) (j : Fin 1024) : EReal :=
  (∑ d : Fin 128, (q (ix3 0 r d) : EReal) * pageRow p j ⟨128 * (r.val / 16) + d.val, by omega⟩) * scale + b (ix2 r j)

theorem score_apply (q : Vec Ideal S1x32x128 .bf16) (p : Fin 8 → Vec Ideal S1x512x128 .f32) (b : Vec Ideal S32x1024 .f32)
    (r : Fin 32) (j : Fin 1024) : k0_pay44 (k0_pay30 q) (keys1 p) (keys2 p) b (ix2 r j) = score q p b r j := by
  pointwise [k0_pay44, k0_pay30]
  unfold score
  congr 2
  rcases Nat.lt_or_ge r.val 16 with h | h
  · rw [dif_pos h]
    refine Finset.sum_congr rfl fun d _ => ?_
    rw [keys1_apply]; congr 2; apply Fin.ext; simp; omega
  · rw [dif_neg (by omega)]
    refine Finset.sum_congr rfl fun d _ => ?_
    rw [keys2_apply]
    congr 2
    · congr 1; apply Fin.ext; simp; omega
    · apply Fin.ext; simp; omega

theorem negInf : Ideal.ofBits FTy.f32 0xFF800000#32 = ⊥ := by simp [Ideal.ofBits, Ideal.ieee]

/-- The running maximum after a step. -/
theorem fold_m (q : Vec Ideal S1x32x128 .bf16) (p : Fin 8 → Vec Ideal S1x512x128 .f32) (b : Vec Ideal S32x1024 .f32) (s : Acc Ideal)
    (r : Fin 32) : (fold q b p s).m (ix2 r 0) = max (s.m (ix2 r 0)) (Finset.fold max ⊥ (score q p b r) Finset.univ) := by
  show k0_pay3 (k0_pay46 (k0_pay30 q) (keys1 p) (keys2 p) b s.m) (ix2 r 0) = _
  pointwise [k0_pay3, k0_pay46]
  simp only [score_apply, negInf]

/-- The running denominator after a step. -/
theorem fold_l (q : Vec Ideal S1x32x128 .bf16) (p : Fin 8 → Vec Ideal S1x512x128 .f32) (b : Vec Ideal S32x1024 .f32) (s : Acc Ideal)
    (r : Fin 32) : (fold q b p s).l (ix2 r 0) = Ideal.exp (s.m (ix2 r 0) - (fold q b p s).m (ix2 r 0)) * s.l (ix2 r 0)
      + ∑ j, Ideal.exp (score q p b r j - (fold q b p s).m (ix2 r 0)) := by
  have hm : k0_pay46 (k0_pay30 q) (keys1 p) (keys2 p) b s.m (ix2 r 0) = (fold q b p s).m (ix2 r 0) := by
    show _ = k0_pay3 (k0_pay46 (k0_pay30 q) (keys1 p) (keys2 p) b s.m) (ix2 r 0)
    pointwise [k0_pay3]
  show k0_pay1 (k0_pay49 (k0_pay30 q) (keys1 p) (keys2 p) b s.m s.l) (ix2 r 0) = _
  pointwise [k0_pay1, k0_pay49, k0_pay48, k0_pay47]
  simp only [score_apply, hm]

/-- The running weighted sum of values after a step. -/
theorem fold_a (q : Vec Ideal S1x32x128 .bf16) (p : Fin 8 → Vec Ideal S1x512x128 .f32) (b : Vec Ideal S32x1024 .f32) (s : Acc Ideal)
    (r : Fin 32) (e : Fin 256) : (fold q b p s).a (ix2 r e) = Ideal.exp (s.m (ix2 r 0) - (fold q b p s).m (ix2 r 0)) * s.a (ix2 r e)
      + ∑ j, Ideal.exp (score q p b r j - (fold q b p s).m (ix2 r 0)) * pageRow p j ⟨256 + e.val, by omega⟩ := by
  have hm : k0_pay46 (k0_pay30 q) (keys1 p) (keys2 p) b s.m (ix2 r 0) = (fold q b p s).m (ix2 r 0) := by
    show _ = k0_pay3 (k0_pay46 (k0_pay30 q) (keys1 p) (keys2 p) b s.m) (ix2 r 0)
    pointwise [k0_pay3]
  show k0_pay2 (vals p) (k0_pay47 (k0_pay30 q) (keys1 p) (keys2 p) b s.m) (k0_pay48 (k0_pay30 q) (keys1 p) (keys2 p) b s.m) s.a (ix2 r e) = _
  pointwise [k0_pay2, k0_pay48, k0_pay47]
  simp only [score_apply, hm, vals_apply]

/-- A row's accumulators hold its first `n` keys. -/
abbrev RowHeld (n : ℕ) (S : ℕ → ℝ) (V : ℕ → Fin 256 → ℝ) (s : Acc Ideal) (r : Fin 32) : Prop :=
  Held n S V (s.m (ix2 r 0)) (s.l (ix2 r 0)) (fun e => s.a (ix2 r e))

/-- A step adds its 1024 keys to a row whose scores and values are real. -/
theorem fold_held {n : ℕ} {S : ℕ → ℝ} {V : ℕ → Fin 256 → ℝ} (q : Vec Ideal S1x32x128 .bf16) (p : Fin 8 → Vec Ideal S1x512x128 .f32)
    (b : Vec Ideal S32x1024 .f32) (s : Acc Ideal) (r : Fin 32) (h : RowHeld n S V s r)
    (hs : ∀ j, score q p b r j = (S (n + j.val) : EReal))
    (hv : ∀ (j : Fin 1024) (e : Fin 256), pageRow p j ⟨256 + e.val, by omega⟩ = (V (n + j.val) e : EReal)) :
    RowHeld (n + 1024) S V (fold q b p s) r := by
  obtain ⟨μ, hμ, -, -⟩ := id h
  obtain ⟨μ', hμ'⟩ := max_real μ hμ (score q p b r) _ hs
  have hm := (fold_m q p b s r).trans hμ'
  have := held_block h (score q p b r) hs (fun j e => pageRow p j ⟨256 + e.val, by omega⟩) hv μ' hm
  unfold RowHeld
  rw [fold_l]
  simpa only [fold_a] using this

/-- The score of a query row and the new row. -/
def newScore (q : Vec Ideal S1x32x128 .bf16) (n : Vec Ideal S1x1x512 .bf16) (tab : Vec Ideal S32x32 .f32) (r : Fin 32) : EReal :=
  (∑ d : Fin 128, (q (ix3 0 r d) : EReal) * n (ix3 0 0 ⟨128 * (r.val / 16) + d.val, by omega⟩)) * scale + tab (ix2 r 0)

theorem newScore_apply (q : Vec Ideal S1x32x128 .bf16) (n : Vec Ideal S1x1x512 .bf16) (tab : Vec Ideal S32x32 .f32) (r : Fin 32) :
    k0_pay16 (k0_pay30 q) (k0_pay40 tab) n (ix2 r 0) = newScore q n tab r := by
  pointwise [k0_pay16, k0_pay15, k0_pay30, k0_pay40]
  unfold newScore
  have sel1 : ∀ a b : EReal, Scalar.select 1#1 a b = a := fun _ _ => rfl
  have sel0 : ∀ a b : EReal, Scalar.select 0#1 a b = b := fun _ _ => rfl
  congr 2
  rcases Nat.lt_or_ge r.val 16 with h | h
  · have : IntOp.cmpi CmpIPredicate.slt (BitVec.ofNat 32 r.val) 16#32 = 1#1 := by
      obtain ⟨r, hr⟩ := r; simp only at h ⊢; interval_cases r <;> decide
    rw [this, sel1]
    refine Finset.sum_congr rfl fun d _ => ?_
    congr 2; congr 1; apply Fin.ext; simp; omega
  · have : IntOp.cmpi CmpIPredicate.slt (BitVec.ofNat 32 r.val) 16#32 = 0#1 := by
      obtain ⟨r, hr⟩ := r; simp only at h ⊢; interval_cases r <;> decide
    rw [this, sel0]
    refine Finset.sum_congr rfl fun d _ => ?_
    congr 2; congr 1; apply Fin.ext; simp; omega

theorem merge_m (q : Vec Ideal S1x32x128 .bf16) (n : Vec Ideal S1x1x512 .bf16) (tab : Vec Ideal S32x32 .f32) (s : Acc Ideal) (r : Fin 32) :
    (merge q n tab s).m (ix2 r 0) = max (s.m (ix2 r 0)) (newScore q n tab r) := by
  show k0_pay23 (k0_pay17 (k0_pay30 q) (k0_pay40 tab) n s.m) (ix2 r 0) = _
  pointwise [k0_pay23, k0_pay17]
  simp only [newScore_apply]

theorem merge_l (q : Vec Ideal S1x32x128 .bf16) (n : Vec Ideal S1x1x512 .bf16) (tab : Vec Ideal S32x32 .f32) (s : Acc Ideal) (r : Fin 32) :
    (merge q n tab s).l (ix2 r 0) = Ideal.exp (s.m (ix2 r 0) - (merge q n tab s).m (ix2 r 0)) * s.l (ix2 r 0)
      + Ideal.exp (newScore q n tab r - (merge q n tab s).m (ix2 r 0)) := by
  rw [merge_m]
  show k0_pay20 (k0_pay30 q) (k0_pay40 tab) n s.m s.l (ix2 r 0) = _
  pointwise [k0_pay20, k0_pay18, k0_pay19, k0_pay17]
  simp only [newScore_apply]

theorem merge_a (q : Vec Ideal S1x32x128 .bf16) (n : Vec Ideal S1x1x512 .bf16) (tab : Vec Ideal S32x32 .f32) (s : Acc Ideal) (r : Fin 32)
    (e : Fin 256) : (merge q n tab s).a (ix2 r e) = Ideal.exp (s.m (ix2 r 0) - (merge q n tab s).m (ix2 r 0)) * s.a (ix2 r e)
      + Ideal.exp (newScore q n tab r - (merge q n tab s).m (ix2 r 0)) * n (ix3 0 0 ⟨256 + e.val, by omega⟩) := by
  rw [merge_m]
  show k0_pay22 (k0_pay21 (k0_pay30 q) (k0_pay40 tab) n s.m s.a) (ix2 r e) = _
  pointwise [k0_pay22, k0_pay21, k0_pay15, k0_pay18, k0_pay19, k0_pay17]
  simp only [newScore_apply]

/-- The merge adds the new row. -/
theorem merge_held {k : ℕ} {S : ℕ → ℝ} {V : ℕ → Fin 256 → ℝ} (q : Vec Ideal S1x32x128 .bf16) (n : Vec Ideal S1x1x512 .bf16)
    (tab : Vec Ideal S32x32 .f32) (s : Acc Ideal) (r : Fin 32) (h : RowHeld k S V s r) (hs : newScore q n tab r = (S k : EReal))
    (hv : ∀ e : Fin 256, (n (ix3 0 0 ⟨256 + e.val, by omega⟩) : EReal) = (V k e : EReal)) :
    RowHeld (k + 1) S V (merge q n tab s) r := by
  obtain ⟨μ, hμ, -, -⟩ := id h
  have hm : (merge q n tab s).m (ix2 r 0) = ((max μ (S k) : ℝ) : EReal) := by
    rw [merge_m, hμ, hs, EReal.coe_strictMono.monotone.map_max]
  have := held_one h hs (v := fun e => n (ix3 0 0 ⟨256 + e.val, by omega⟩)) hv _ hm
  unfold RowHeld
  rw [merge_l]
  simpa only [merge_a] using this

/-- The accumulators a row starts from hold no key. -/
theorem acc0_held (S : ℕ → ℝ) (V : ℕ → Fin 256 → ℝ) (r : Fin 32) : RowHeld 0 S V (acc0 (F := Ideal)) r := by
  have h0 : Ideal.ofBits FTy.f32 0xF149F2CA#32 = ((-(13234890 * 2 ^ 76) : ℝ) : EReal) := by
    simp [Ideal.ofBits, Ideal.ieee, -EReal.coe_mul]
  have hm : (acc0 (F := Ideal)).m (ix2 r 0) = ((-(13234890 * 2 ^ 76) : ℝ) : EReal) := by
    show k0_pay27 (F := Ideal) (ix2 r 0) = _
    pointwise [k0_pay27]
    exact h0
  have hl : (acc0 (F := Ideal)).l (ix2 r 0) = 0 := by
    show k0_pay28 (F := Ideal) (ix2 r 0) = _
    pointwise [k0_pay28]
  have ha : ∀ e, (acc0 (F := Ideal)).a (ix2 r e) = 0 := fun e => by
    show k0_pay29 (F := Ideal) (ix2 r e) = _
    pointwise [k0_pay29]
  unfold RowHeld
  rw [hm, hl]
  simp only [ha]
  exact held_zero S V _

end Cert.KernelIdeal.Hand
-- ==== Proof.Bias.lean ====
module

public import proofs.«01_k».proof.Proof.Point
public import proofs.«01_k».proof.Proof.Setup

/-! The bias of a step's keys, over the extended reals: whichever branch the step takes, the table's column of each
key's bucket. -/

@[expose] public section

noncomputable section

namespace Cert.KernelIdeal.Hand

open Idealize.ShloMosaic Cert.KernelIdeal Cert.KernelIdeal.Gen Cert.Soft Cert.Bucket

/-- The distance from the new row of key `j` of step `w`. -/
theorem dist_apply (w : ℕ) (hw : w < 8) (j : Fin 1024) :
    k0_pay41 (BitVec.ofNat 32 w) (ix2 0 j) = BitVec.ofNat 32 (8192 - (1024 * w + j.val)) := by
  pointwise [k0_pay41]
  apply BitVec.eq_of_toNat_eq
  simp only [IntOp.subi, IntOp.addi, Scalar.muli, IntOp.muli, BitVec.toNat_sub, BitVec.toNat_add, BitVec.toNat_mul, BitVec.toNat_ofNat]
  have := j.isLt
  omega

/-- The bucket word of that key. -/
theorem bucket_apply (d : IVec S1x1024 32) (j : Fin 1024) : k0_pay5 (F := Ideal) d (ix2 0 j) = bucket (d (ix2 0 j)) := by
  pointwise [k0_pay5]
  rfl

/-- The selection over the 32 columns takes the bucket's own. -/
theorem nearBias_apply (w : BitVec 32) (tab : Vec Ideal S32x32 .f32) (r : Fin 32) (j : Fin 1024) (k : Fin 32)
    (hk : bucket (k0_pay41 w (ix2 0 j)) = BitVec.ofNat 32 k.val) : nearBias w tab (ix2 r j) = tab (ix2 r k) := by
  pointwise [nearBias, k0_pay43, k0_pay14, k0_pay40, k0_pay13, k0_pay12, k0_pay11, k0_pay10, k0_pay9, k0_pay8, k0_pay7, k0_pay6]
  rw [bucket_apply, hk]
  have sel1 : ∀ a b : EReal, Scalar.select 1#1 a b = a := fun _ _ => rfl
  have sel0 : ∀ a b : EReal, Scalar.select 0#1 a b = b := fun _ _ => rfl
  have cmp : ∀ x y : BitVec 32, IntOp.cmpi CmpIPredicate.eq x y = BitVec.ofBool (x == y) := fun _ _ => rfl
  have t1 : BitVec.ofBool true = 1#1 := rfl
  have f1 : BitVec.ofBool false = 0#1 := rfl
  fin_cases k <;> simp only [cmp, BitVec.reduceBEq, t1, f1, sel1, sel0] <;> rfl

/-- The bias of step `i 1`'s key `j`. -/
theorem stepBias_apply (i : grid0.Coords) (tab : Vec Ideal S32x32 .f32) (r : Fin 32) (j : Fin 1024) (hw : (i 1).val < 8)
    (hfar : atFar i ↔ (i 1).val ≠ 7) (k : Fin 32)
    (hk : bucket (BitVec.ofNat 32 (8192 - (1024 * (i 1).val + j.val))) = BitVec.ofNat 32 k.val) :
    stepBias i tab (ix2 r j) = tab (ix2 r k) := by
  have hj := j.isLt
  unfold stepBias
  by_cases h : (i 1).val = 7
  · rw [if_neg (fun c => (hfar.1 c) h)]
    exact nearBias_apply _ tab r j k (by rw [dist_apply _ hw]; exact hk)
  · rw [if_pos (hfar.2 h)]
    rw [bucket_far _ (by omega) (by omega)] at hk
    have : k = 31 := by
      apply Fin.ext
      have := congrArg BitVec.toNat hk
      simp at this
      have := k.isLt
      omega
    subst this
    pointwise [k0_pay42, k0_pay40]

/-- The weight of the second softmax. -/
def lambda (lp : Fin 4 → Fin 128 → EReal) : EReal :=
  Ideal.exp (∑ x, lp 0 x * lp 1 x) - Ideal.exp (∑ x, lp 2 x * lp 3 x) + Ideal.ofBits FTy.f32 0x3EF1014C#32

/-- A head's output from its 256 averaged values `o`: scaled to unit root mean square, by the gain and by a constant. -/
def normed (o : Fin 256 → EReal) (g : EReal) (e : Fin 256) : EReal :=
  o e * Ideal.rsqrt (Ideal.div (∑ x, o x * o x) (Ideal.ofBits FTy.f32 0x43800000#32) + Ideal.ofBits FTy.f32 0x358637BD#32) * g
    * Ideal.ofBits FTy.f32 0x3F077F5A#32

/-- Head `h`'s averaged values, from the final accumulators of its two halves. -/
theorem combine_apply (lp : Vec Ideal S4x128 .f32) (a : Vec Ideal S32x256 .f32) (l : Vec Ideal S32x1 .f32) (h : Fin 16) (e : Fin 256) :
    k0_pay25 a l lp (ix2 h e) = Ideal.div (a (ix2 ⟨h.val, by omega⟩ e)) (l (ix2 ⟨h.val, by omega⟩ 0))
      - lambda (fun i x => lp (ix2 i x)) * Ideal.div (a (ix2 ⟨16 + h.val, by omega⟩ e)) (l (ix2 ⟨16 + h.val, by omega⟩ 0)) := by
  pointwise [k0_pay25]
  rfl

/-- The result block's entries. -/
theorem result_apply (lp : Vec Ideal S4x128 .f32) (g : Vec Ideal S1x256 .f32) (s : Acc Ideal) (h : Fin 16) (e : Fin 256) :
    result lp g s (ix3 0 h e) = normed (fun e => Ideal.div (s.a (ix2 ⟨h.val, by omega⟩ e)) (s.l (ix2 ⟨h.val, by omega⟩ 0))
      - lambda (fun i x => lp (ix2 i x)) * Ideal.div (s.a (ix2 ⟨16 + h.val, by omega⟩ e)) (s.l (ix2 ⟨16 + h.val, by omega⟩ 0))) (g (ix2 0 e)) e := by
  pointwise [result, k0_pay4, k0_pay24, k0_pay26]
  simp only [combine_apply]
  rfl

end Cert.KernelIdeal.Hand
-- ==== Proof.Blocks.lean ====
module

public import proofs.«01_k».proof.Proof.Bias
public import proofs.«01_k».proof.Proof.Pages
public import Idealize.ShloMosaic.Lib.StableHlo.ReadAt
public import Idealize.ShloMosaic.Lib.Pipeline.Value
public import Idealize.ShloMosaic.Lib.Pointwise

/-! The entries of the blocks that a point works on, as entries of the arguments. -/

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- The queries, as the call finds them: row `16 i + h` holds branch `i` of head `h`. -/
theorem V_q (s : Fin 128) (r : Fin 32) (d : Fin 128) : V m c main_v2 (ix3 s r d)
    = m ((c : Thread nD τ).loc main_arg0) (ix2 s ⟨r.val % 16 * 256 + r.val / 16 * 128 + d.val, by omega⟩) := by
  unfold V
  after_reads_at

/-- The bias table, as the call finds it: row `16 i + h` holds the column of branch `i` of head `h`. -/
theorem V_tab (r b : Fin 32) : V m c main_v6 (ix2 r b)
    = m ((c : Thread nD τ).loc main_arg4) (ix2 b ⟨r.val % 16 * 2 + r.val / 16, by omega⟩) := by
  unfold V
  after_reads_at

/-- The new rows, as the call finds them. -/
theorem V_new (s : Fin 128) (e : Fin 512) : V m c main_v7 (ix3 s 0 e)
    = m ((c : Thread nD τ).loc main_arg1) (ix2 s e) := by
  unfold V
  after_reads_at

/-- The norm's gains, as the call finds them. -/
theorem V_g (e : Fin 256) : V m c main_v9 (ix2 0 e) = m ((c : Thread nD τ).loc main_arg6) (ix1 e) := by
  unfold V
  after_reads_at

/-- The cache, as the call finds it: the four lane groups of a token are four rows of its page. -/
theorem V_cache (p : Fin 10240) (x : Fin 512) (y : Fin 128) : V m c main_v8 (ix3 p x y)
    = m ((c : Thread nD τ).loc main_arg2) (ix5 p ⟨x.val / 4, by omega⟩ ⟨x.val / 2 % 2, by omega⟩ 0 ⟨x.val % 2 * 128 + y.val, by omega⟩) := by
  unfold V
  after_reads_at

variable (a : (p : Fin 1) → (pcfgs (F := Ideal) p).Adm)

/-- The grid has eight points for each sample. -/
theorem coords_0 : ∀ t : Fin grid0.N, (grid0.coords t 0).val = t.val / 8 := by decide +kernel
theorem coords_1 : ∀ t : Fin grid0.N, (grid0.coords t 1).val = t.val % 8 := by decide +kernel

/-- The sample of a point. -/
def sample (t : Fin grid0.N) : Fin 128 := ⟨t.val / 8, by have h : t.val < 1024 := t.isLt; omega⟩

/-- A point's queries are its sample's. -/
theorem iblk_0 (t : Fin grid0.N) (r : Fin 32) (d : Fin 128) :
    (iblk m a c 0 t : Vec Ideal S1x32x128 .bf16) (ix3 0 r d) = V m c main_v2 (ix3 (sample t) r d) := by
  show V m c main_v2 ((((cfg0 (a 0)).win 0).rect t).emb (ix3 0 r d)) = _
  congr 1
  funext x
  apply Fin.ext
  refine (Pipeline.Window.rect_emb_val ((cfg0 (a 0)).win 0) t _ x).trans ?_
  have h := coords_0 t
  have hb : t.val / 8 < 128 := (sample t).isLt
  show cc0_transform_0 (grid0.coords t) x * _ + _ = _
  unfold cc0_transform_0
  fin_cases x
  · show (BitVec.ofNat 32 (grid0.coords t 0).val).toNat * 1 + 0 = t.val / 8
    rw [h, BitVec.toNat_ofNat]; omega
  · show (0 : Nat) * 32 + r.val = r.val
    omega
  · show (0 : Nat) * 128 + d.val = d.val
    omega

/-- A point's new row is its sample's. -/
theorem iblk_1 (t : Fin grid0.N) (e : Fin 512) :
    (iblk m a c 1 t : Vec Ideal S1x1x512 .bf16) (ix3 0 0 e) = V m c main_v7 (ix3 (sample t) 0 e) := by
  show V m c main_v7 ((((cfg0 (a 0)).win 1).rect t).emb (ix3 0 0 e)) = _
  congr 1
  funext x
  apply Fin.ext
  refine (Pipeline.Window.rect_emb_val ((cfg0 (a 0)).win 1) t _ x).trans ?_
  have h := coords_0 t
  have hb : t.val / 8 < 128 := (sample t).isLt
  show cc0_transform_1 (grid0.coords t) x * _ + _ = _
  unfold cc0_transform_1
  fin_cases x
  · show (BitVec.ofNat 32 (grid0.coords t 0).val).toNat * 1 + 0 = t.val / 8
    rw [h, BitVec.toNat_ofNat]; omega
  · show (0 : Nat) * 1 + 0 = 0
    omega
  · show (0 : Nat) * 512 + e.val = e.val
    omega

/-- Every point has the whole bias table. -/
theorem iblk_2 (t : Fin grid0.N) (r b : Fin 32) :
    (iblk m a c 2 t : Vec Ideal S32x32 .f32) (ix2 r b) = V m c main_v6 (ix2 r b) := by
  show V m c main_v6 ((((cfg0 (a 0)).win 2).rect t).emb (ix2 r b)) = _
  congr 1
  funext x
  apply Fin.ext
  refine (Pipeline.Window.rect_emb_val ((cfg0 (a 0)).win 2) t _ x).trans ?_
  have h := coords_0 t
  have hb : t.val / 8 < 128 := (sample t).isLt
  show cc0_transform_2 (grid0.coords t) x * _ + _ = _
  unfold cc0_transform_2
  fin_cases x
  · show (0 : Nat) * 32 + r.val = r.val
    omega
  · show (0 : Nat) * 32 + b.val = b.val
    omega

/-- Every point has the four vectors of the weight. -/
theorem iblk_3 (t : Fin grid0.N) (i : Fin 4) (d : Fin 128) :
    (iblk m a c 3 t : Vec Ideal S4x128 .f32) (ix2 i d) = V m c main_arg5 (ix2 i d) := by
  show V m c main_arg5 ((((cfg0 (a 0)).win 3).rect t).emb (ix2 i d)) = _
  congr 1
  funext x
  apply Fin.ext
  refine (Pipeline.Window.rect_emb_val ((cfg0 (a 0)).win 3) t _ x).trans ?_
  have h := coords_0 t
  have hb : t.val / 8 < 128 := (sample t).isLt
  show cc0_transform_3 (grid0.coords t) x * _ + _ = _
  unfold cc0_transform_3
  fin_cases x
  · show (0 : Nat) * 4 + i.val = i.val
    omega
  · show (0 : Nat) * 128 + d.val = d.val
    omega

/-- Every point has all the gains. -/
theorem iblk_4 (t : Fin grid0.N) (e : Fin 256) :
    (iblk m a c 4 t : Vec Ideal S1x256 .f32) (ix2 0 e) = V m c main_v9 (ix2 0 e) := by
  show V m c main_v9 ((((cfg0 (a 0)).win 4).rect t).emb (ix2 0 e)) = _
  congr 1
  funext x
  apply Fin.ext
  refine (Pipeline.Window.rect_emb_val ((cfg0 (a 0)).win 4) t _ x).trans ?_
  have h := coords_0 t
  have hb : t.val / 8 < 128 := (sample t).isLt
  show cc0_transform_4 (grid0.coords t) x * _ + _ = _
  unfold cc0_transform_4
  fin_cases x
  · show (0 : Nat) * 1 + 0 = 0
    omega
  · show (0 : Nat) * 256 + e.val = e.val
    omega

/-- The page that the table names at column `g` of sample `s`. -/
def pageNo (hr : ∀ s g, (entry (tbl m) s g).toNat < 10240) (s : Fin 128) (g : Fin 64) : Fin 10240 := ⟨_, hr s g⟩

variable (hok : Ok m) (hr : ∀ s g, (entry (tbl m) s g).toNat < 10240)

/-- Page `r` of a point: column `8 (t mod 8) + r` of its sample's row of the table. -/
def col (t : Fin grid0.N) (r : Fin 8) : Fin 64 := ⟨8 * (t.val % 8) + r.val, by omega⟩

theorem pageIdx_0 (t : Fin grid0.N) (r : Fin 8) :
    pageIdx (tbl m) (grid0.coords t) r = ![(pageNo m hr (sample t) (col t r)).val, 0, 0] := by
  unfold pageIdx pageNo
  have e0 : (grid0.coords t 0 : Fin 128) = sample t := Fin.ext (coords_0 t)
  have e1 : pageCol (grid0.coords t) r = col t r := Fin.ext (by show 8 * (grid0.coords t 1).val + r.val = _; rw [coords_1]; rfl)
  rw [e1]
  show ![(entry (tbl m) (grid0.coords t 0 : Fin 128) (col t r)).toNat, 0, 0] = _
  rw [e0]

theorem iblk_5 (t : Fin grid0.N) (x : Fin 512) (y : Fin 128) :
    (iblk m (adm m hok) c 5 t : Vec Ideal S1x512x128 .f32) (ix3 0 x y) = V m c main_v8 (ix3 (pageNo m hr (sample t) (col t 0)) x y) := by
  show V m c main_v8 ((((cfg0 (adm m hok 0)).win 5).rect t).emb (ix3 0 x y)) = _
  congr 1
  funext z
  apply Fin.ext
  refine (Pipeline.Window.rect_emb_val ((cfg0 (adm m hok 0)).win 5) t _ z).trans ?_
  show cc0_transform_5 k0_off1_inb numel1_S1x1 (tbl m) (grid0.coords t) z * _ + _ = _
  rw [transform_5_eq, pageIdx_0 m hr]
  fin_cases z
  · show (pageNo m hr (sample t) (col t 0)).val * 1 + 0 = (pageNo m hr (sample t) (col t 0)).val
    omega
  · show (0 : Nat) * 512 + x.val = x.val
    omega
  · show (0 : Nat) * 128 + y.val = y.val
    omega

theorem iblk_6 (t : Fin grid0.N) (x : Fin 512) (y : Fin 128) :
    (iblk m (adm m hok) c 6 t : Vec Ideal S1x512x128 .f32) (ix3 0 x y) = V m c main_v8 (ix3 (pageNo m hr (sample t) (col t 1)) x y) := by
  show V m c main_v8 ((((cfg0 (adm m hok 0)).win 6).rect t).emb (ix3 0 x y)) = _
  congr 1
  funext z
  apply Fin.ext
  refine (Pipeline.Window.rect_emb_val ((cfg0 (adm m hok 0)).win 6) t _ z).trans ?_
  show cc0_transform_6 k0_off1_inb numel1_S1x1 (tbl m) (grid0.coords t) z * _ + _ = _
  rw [transform_6_eq, pageIdx_0 m hr]
  fin_cases z
  · show (pageNo m hr (sample t) (col t 1)).val * 1 + 0 = (pageNo m hr (sample t) (col t 1)).val
    omega
  · show (0 : Nat) * 512 + x.val = x.val
    omega
  · show (0 : Nat) * 128 + y.val = y.val
    omega

theorem iblk_7 (t : Fin grid0.N) (x : Fin 512) (y : Fin 128) :
    (iblk m (adm m hok) c 7 t : Vec Ideal S1x512x128 .f32) (ix3 0 x y) = V m c main_v8 (ix3 (pageNo m hr (sample t) (col t 2)) x y) := by
  show V m c main_v8 ((((cfg0 (adm m hok 0)).win 7).rect t).emb (ix3 0 x y)) = _
  congr 1
  funext z
  apply Fin.ext
  refine (Pipeline.Window.rect_emb_val ((cfg0 (adm m hok 0)).win 7) t _ z).trans ?_
  show cc0_transform_7 k0_off1_inb numel1_S1x1 (tbl m) (grid0.coords t) z * _ + _ = _
  rw [transform_7_eq, pageIdx_0 m hr]
  fin_cases z
  · show (pageNo m hr (sample t) (col t 2)).val * 1 + 0 = (pageNo m hr (sample t) (col t 2)).val
    omega
  · show (0 : Nat) * 512 + x.val = x.val
    omega
  · show (0 : Nat) * 128 + y.val = y.val
    omega

theorem iblk_8 (t : Fin grid0.N) (x : Fin 512) (y : Fin 128) :
    (iblk m (adm m hok) c 8 t : Vec Ideal S1x512x128 .f32) (ix3 0 x y) = V m c main_v8 (ix3 (pageNo m hr (sample t) (col t 3)) x y) := by
  show V m c main_v8 ((((cfg0 (adm m hok 0)).win 8).rect t).emb (ix3 0 x y)) = _
  congr 1
  funext z
  apply Fin.ext
  refine (Pipeline.Window.rect_emb_val ((cfg0 (adm m hok 0)).win 8) t _ z).trans ?_
  show cc0_transform_8 k0_off1_inb numel1_S1x1 (tbl m) (grid0.coords t) z * _ + _ = _
  rw [transform_8_eq, pageIdx_0 m hr]
  fin_cases z
  · show (pageNo m hr (sample t) (col t 3)).val * 1 + 0 = (pageNo m hr (sample t) (col t 3)).val
    omega
  · show (0 : Nat) * 512 + x.val = x.val
    omega
  · show (0 : Nat) * 128 + y.val = y.val
    omega

theorem iblk_9 (t : Fin grid0.N) (x : Fin 512) (y : Fin 128) :
    (iblk m (adm m hok) c 9 t : Vec Ideal S1x512x128 .f32) (ix3 0 x y) = V m c main_v8 (ix3 (pageNo m hr (sample t) (col t 4)) x y) := by
  show V m c main_v8 ((((cfg0 (adm m hok 0)).win 9).rect t).emb (ix3 0 x y)) = _
  congr 1
  funext z
  apply Fin.ext
  refine (Pipeline.Window.rect_emb_val ((cfg0 (adm m hok 0)).win 9) t _ z).trans ?_
  show cc0_transform_9 k0_off1_inb numel1_S1x1 (tbl m) (grid0.coords t) z * _ + _ = _
  rw [transform_9_eq, pageIdx_0 m hr]
  fin_cases z
  · show (pageNo m hr (sample t) (col t 4)).val * 1 + 0 = (pageNo m hr (sample t) (col t 4)).val
    omega
  · show (0 : Nat) * 512 + x.val = x.val
    omega
  · show (0 : Nat) * 128 + y.val = y.val
    omega

theorem iblk_10 (t : Fin grid0.N) (x : Fin 512) (y : Fin 128) :
    (iblk m (adm m hok) c 10 t : Vec Ideal S1x512x128 .f32) (ix3 0 x y) = V m c main_v8 (ix3 (pageNo m hr (sample t) (col t 5)) x y) := by
  show V m c main_v8 ((((cfg0 (adm m hok 0)).win 10).rect t).emb (ix3 0 x y)) = _
  congr 1
  funext z
  apply Fin.ext
  refine (Pipeline.Window.rect_emb_val ((cfg0 (adm m hok 0)).win 10) t _ z).trans ?_
  show cc0_transform_10 k0_off1_inb numel1_S1x1 (tbl m) (grid0.coords t) z * _ + _ = _
  rw [transform_10_eq, pageIdx_0 m hr]
  fin_cases z
  · show (pageNo m hr (sample t) (col t 5)).val * 1 + 0 = (pageNo m hr (sample t) (col t 5)).val
    omega
  · show (0 : Nat) * 512 + x.val = x.val
    omega
  · show (0 : Nat) * 128 + y.val = y.val
    omega

theorem iblk_11 (t : Fin grid0.N) (x : Fin 512) (y : Fin 128) :
    (iblk m (adm m hok) c 11 t : Vec Ideal S1x512x128 .f32) (ix3 0 x y) = V m c main_v8 (ix3 (pageNo m hr (sample t) (col t 6)) x y) := by
  show V m c main_v8 ((((cfg0 (adm m hok 0)).win 11).rect t).emb (ix3 0 x y)) = _
  congr 1
  funext z
  apply Fin.ext
  refine (Pipeline.Window.rect_emb_val ((cfg0 (adm m hok 0)).win 11) t _ z).trans ?_
  show cc0_transform_11 k0_off1_inb numel1_S1x1 (tbl m) (grid0.coords t) z * _ + _ = _
  rw [transform_11_eq, pageIdx_0 m hr]
  fin_cases z
  · show (pageNo m hr (sample t) (col t 6)).val * 1 + 0 = (pageNo m hr (sample t) (col t 6)).val
    omega
  · show (0 : Nat) * 512 + x.val = x.val
    omega
  · show (0 : Nat) * 128 + y.val = y.val
    omega

theorem iblk_12 (t : Fin grid0.N) (x : Fin 512) (y : Fin 128) :
    (iblk m (adm m hok) c 12 t : Vec Ideal S1x512x128 .f32) (ix3 0 x y) = V m c main_v8 (ix3 (pageNo m hr (sample t) (col t 7)) x y) := by
  show V m c main_v8 ((((cfg0 (adm m hok 0)).win 12).rect t).emb (ix3 0 x y)) = _
  congr 1
  funext z
  apply Fin.ext
  refine (Pipeline.Window.rect_emb_val ((cfg0 (adm m hok 0)).win 12) t _ z).trans ?_
  show cc0_transform_12 k0_off1_inb numel1_S1x1 (tbl m) (grid0.coords t) z * _ + _ = _
  rw [transform_12_eq, pageIdx_0 m hr]
  fin_cases z
  · show (pageNo m hr (sample t) (col t 7)).val * 1 + 0 = (pageNo m hr (sample t) (col t 7)).val
    omega
  · show (0 : Nat) * 512 + x.val = x.val
    omega
  · show (0 : Nat) * 128 + y.val = y.val
    omega

/-- A point's pages are the pages that the table names. -/
theorem pages_apply (t : Fin grid0.N) (r : Fin 8) (x : Fin 512) (y : Fin 128) :
    pages m (adm m hok) c t r (ix3 0 x y) = V m c main_v8 (ix3 (pageNo m hr (sample t) (col t r)) x y) := by
  fin_cases r
  · exact iblk_5 m c hok hr t x y
  · exact iblk_6 m c hok hr t x y
  · exact iblk_7 m c hok hr t x y
  · exact iblk_8 m c hok hr t x y
  · exact iblk_9 m c hok hr t x y
  · exact iblk_10 m c hok hr t x y
  · exact iblk_11 m c hok hr t x y
  · exact iblk_12 m c hok hr t x y

end Cert.KernelIdeal.Hand

end
-- ==== Proof.Spec.lean ====
module

public import proofs.«01_k».proof.Proof.Soft
public import proofs.«01_k».proof.Proof.Bucket

/-! The quantities that both programs compute, over the reals: each sample's rows, scores and values. -/

@[expose] public section

noncomputable section

namespace Cert.Spec

open Idealize.ShloMosaic Cert.Bucket

/-- The finite arguments, and the page at each place of the table. -/
structure Data where
  q : Fin 128 → Fin 4096 → ℝ
  new : Fin 128 → Fin 512 → ℝ
  pool : Fin 10240 → Fin 128 → Fin 512 → ℝ
  page : Fin 128 → Fin 64 → Fin 10240
  tab : Fin 32 → Fin 32 → ℝ

/-- The factor of the scores, near `1/√128`. -/
def factor : ℝ := (Ideal.ofBits FTy.f32 0x3DB504F3#32).toReal

theorem factor_coe : Ideal.ofBits FTy.f32 0x3DB504F3#32 = (factor : EReal) := by
  have h : ∃ x : ℝ, Ideal.ofBits FTy.f32 0x3DB504F3#32 = (x : EReal) := by
    refine ⟨11863283 / 134217728, ?_⟩
    simp [Ideal.ofBits, Ideal.ieee, -EReal.coe_mul]; norm_num
  obtain ⟨x, hx⟩ := h
  rw [factor, hx, EReal.toReal_coe]

variable (D : Data)

/-- Row `k` of sample `s`: the first 8192 are its pages' tokens, then comes the new row. -/
def row (s : Fin 128) (k : ℕ) (x : Fin 512) : ℝ :=
  if h : k < 8192 then D.pool (D.page s ⟨k / 128, by omega⟩) ⟨k % 128, by omega⟩ x else D.new s x

/-- The bucket of row `k`'s distance to the query, which stands at place 8192. -/
def bkt (k : ℕ) : Fin 32 := ⟨(bucket (BitVec.ofNat 32 (8192 - k))).toNat, bucket_lt _ (by omega)⟩

theorem bkt_eq (k : ℕ) : bucket (BitVec.ofNat 32 (8192 - k)) = BitVec.ofNat 32 (bkt k).val := by
  have := bucket_lt (8192 - k) (by omega)
  apply BitVec.eq_of_toNat_eq
  rw [BitVec.toNat_ofNat]
  show _ = (bucket (BitVec.ofNat 32 (8192 - k))).toNat % 2 ^ 32
  omega

theorem bkt_last : bkt 8192 = 0 := Fin.ext (by show (bucket (BitVec.ofNat 32 (8192 - 8192))).toNat = 0; rw [show BitVec.ofNat 32 (8192 - 8192) = 0#32 from rfl, bucket_zero]; rfl)

/-- The score of row `k` for branch `i` of head `h`. -/
def S (s : Fin 128) (i : Fin 2) (h : Fin 16) (k : ℕ) : ℝ :=
  (∑ d : Fin 128, D.q s ⟨h.val * 256 + i.val * 128 + d.val, by omega⟩ * row D s k ⟨128 * i.val + d.val, by omega⟩) * factor
    + D.tab (bkt k) ⟨h.val * 2 + i.val, by omega⟩

/-- The values of row `k`: its entries 256 to 511. -/
def V (s : Fin 128) (k : ℕ) (e : Fin 256) : ℝ := row D s k ⟨256 + e.val, by omega⟩

end Cert.Spec

end
-- ==== Proof.Attend.lean ====
module

public import proofs.«01_k».proof.Proof.Blocks
public import proofs.«01_k».proof.Proof.Spec

/-! The accumulators over a sample's eight points, and the block that its last point leaves. -/

@[expose] public section

set_option maxRecDepth 16384

noncomputable section

namespace Cert.KernelIdeal.Hand

open Cert.KernelIdeal Cert.KernelIdeal.Gen Cert.Soft Cert.Spec
open Idealize.ShloMosaic Idealize.ShloMosaic.TcCoe

variable (m : (ℓ : Loc nD τ sig) → Buf (Elt Ideal) ℓ) (c : Dev nD)

/-- The arguments are the finite data `D`. -/
structure Holds (D : Data) : Prop where
  q : ∀ s x, m ((c : Thread nD τ).loc main_arg0) (ix2 s x) = ((D.q s x : ℝ) : EReal)
  new : ∀ s x, m ((c : Thread nD τ).loc main_arg1) (ix2 s x) = ((D.new s x : ℝ) : EReal)
  pool : ∀ (p : Fin 10240) (x : Fin 128) (i : Fin 2) (y : Fin 256),
    m ((c : Thread nD τ).loc main_arg2) (ix5 p x i 0 y) = ((D.pool p x ⟨256 * i.val + y.val, by omega⟩ : ℝ) : EReal)
  page : ∀ s g, m ((c : Thread nD τ).loc main_arg3) (ix2 s g) = BitVec.ofNat 32 (D.page s g).val
  tab : ∀ b x, m ((c : Thread nD τ).loc main_arg4) (ix2 b x) = ((D.tab b x : ℝ) : EReal)

variable {m} {D : Data} (hD : Holds m c D)
include hD

variable (hok : Ok m)

/-- The branch and the head of an accumulator row. -/
def branch (r : Fin 32) : Fin 2 := ⟨r.val / 16, by omega⟩
def head (r : Fin 32) : Fin 16 := ⟨r.val % 16, by omega⟩

theorem entry_D (s : Fin 128) (g : Fin 64) : entry (tbl m) s g = BitVec.ofNat 32 (D.page s g).val := by
  have e : (0 : Dev nD) = c := Subsingleton.elim _ _
  rw [entry_tbl, ← hD.page s g, e]
  rfl

theorem range_D (s : Fin 128) (g : Fin 64) : (entry (tbl m) s g).toNat < 10240 := by
  rw [entry_D c hD, BitVec.toNat_ofNat]; omega

theorem pageNo_D (s : Fin 128) (g : Fin 64) : pageNo m (range_D c hD) s g = D.page s g :=
  Fin.ext (by show (entry (tbl m) s g).toNat = _; rw [entry_D c hD, BitVec.toNat_ofNat]; omega)

/-- Token `j` of a point's eight pages is row `1024 (t mod 8) + j` of its sample. -/
theorem pageRow_D (t : Fin grid0.N) (j : Fin 1024) (x : Fin 512) :
    pageRow (pages m (adm m hok) c t) j x = ((row D (sample t) (1024 * (t.val % 8) + j.val) x : ℝ) : EReal) := by
  unfold pageRow
  rw [pages_apply m c hok (range_D c hD), V_cache, hD.pool, pageNo_D c hD, row, dif_pos (by omega)]
  congr 2
  · congr 1; apply Fin.ext; show 8 * (t.val % 8) + j.val / 128 = _; show _ = (1024 * (t.val % 8) + j.val) / 128; omega
  · apply Fin.ext; show (4 * (j.val % 128) + x.val / 128) / 4 = (1024 * (t.val % 8) + j.val) % 128; omega
  · apply Fin.ext
    show 256 * ((4 * (j.val % 128) + x.val / 128) / 2 % 2) + ((4 * (j.val % 128) + x.val / 128) % 2 * 128 + x.val % 128) = x.val
    omega

/-- The bias of a point's tokens. -/
theorem bias_D (t : Fin grid0.N) (r : Fin 32) (j : Fin 1024) :
    (stepBias (grid0.coords t) (iblk m (adm m hok) c 2 t) (ix2 r j) : EReal)
      = ((D.tab (bkt (1024 * (t.val % 8) + j.val)) ⟨(head r).val * 2 + (branch r).val, by omega⟩ : ℝ) : EReal) := by
  have h1 := coords_1 t
  refine (stepBias_apply (grid0.coords t) (iblk m (adm m hok) c 2 t) r j (by omega) (by rw [h1]; exact atFar_iff t)
    (bkt (1024 * (t.val % 8) + j.val)) (by rw [h1]; exact bkt_eq _)).trans ?_
  rw [iblk_2, V_tab, hD.tab]
  rfl

/-- The scores of a point's tokens. -/
theorem score_D (t : Fin grid0.N) (r : Fin 32) (j : Fin 1024) :
    score (iblk m (adm m hok) c 0 t) (pages m (adm m hok) c t) (stepBias (grid0.coords t) (iblk m (adm m hok) c 2 t)) r j
      = ((Spec.S D (sample t) (branch r) (head r) (1024 * (t.val % 8) + j.val) : ℝ) : EReal) := by
  unfold Spec.S
  rw [EReal.coe_add, EReal.coe_mul, coe_sum, ← bias_D c hD hok, ← factor_coe]
  unfold score scale
  congr 2
  refine Finset.sum_congr rfl fun d _ => ?_
  rw [iblk_0, V_q, hD.q, pageRow_D c hD, EReal.coe_mul]
  rfl

/-- The score of the new row. -/
theorem newScore_D (t : Fin grid0.N) (r : Fin 32) :
    newScore (iblk m (adm m hok) c 0 t) (iblk m (adm m hok) c 1 t) (iblk m (adm m hok) c 2 t) r
      = ((Spec.S D (sample t) (branch r) (head r) 8192 : ℝ) : EReal) := by
  unfold newScore Spec.S
  rw [show scale = (factor : EReal) from factor_coe]
  rw [iblk_2, V_tab, hD.tab, EReal.coe_add, EReal.coe_mul, coe_sum, bkt_last]
  congr 2
  refine Finset.sum_congr rfl fun d _ => ?_
  rw [iblk_0, V_q, hD.q, iblk_1, V_new, hD.new, EReal.coe_mul, row, dif_neg (by omega)]
  rfl

/-- A point's fold: the accumulators take in its 1024 tokens. -/
theorem foldAt_held (t : Fin grid0.N) (r : Fin 32) (s : Acc Ideal)
    (h : RowHeld (1024 * (t.val % 8)) (Spec.S D (sample t) (branch r) (head r)) (Spec.V D (sample t)) s r) :
    RowHeld (1024 * (t.val % 8) + 1024) (Spec.S D (sample t) (branch r) (head r)) (Spec.V D (sample t))
      (foldAt m (adm m hok) c t s) r :=
  fold_held _ _ _ _ r h (score_D c hD hok t r) fun j e => pageRow_D c hD hok t j _

/-- After a point that is no sample's last the accumulators hold the tokens so far. -/
theorem stAt_held : ∀ (n : ℕ) (hn : n < grid0.N) (r : Fin 32), ¬ n % 8 = 7 →
    RowHeld (1024 * (n % 8) + 1024) (Spec.S D (sample ⟨n, hn⟩) (branch r) (head r)) (Spec.V D (sample ⟨n, hn⟩))
      (stAt m (adm m hok) c n hn) r := by
  intro n
  induction n with
  | zero =>
    intro hn r _
    rw [stAt_first m (adm m hok) c ⟨0, hn⟩ rfl]
    exact foldAt_held c hD hok ⟨0, hn⟩ r acc0 (acc0_held _ _ r)
  | succ n ih =>
    intro hn r h7
    by_cases h0 : (n + 1) % 8 = 0
    · rw [stAt_first m (adm m hok) c ⟨n + 1, hn⟩ h0]
      refine foldAt_held c hD hok ⟨n + 1, hn⟩ r acc0 ?_
      show RowHeld (1024 * ((n + 1) % 8)) _ _ _ _
      rw [h0]
      exact acc0_held _ _ r
    · rw [stAt_mid m (adm m hok) c ⟨n + 1, hn⟩ h0 h7]
      refine foldAt_held c hD hok ⟨n + 1, hn⟩ r _ ?_
      have h := ih (Nat.lt_of_succ_lt hn) r (by omega)
      have es : sample ⟨n, Nat.lt_of_succ_lt hn⟩ = sample ⟨n + 1, hn⟩ := Fin.ext (by show n / 8 = (n + 1) / 8; omega)
      have en : 1024 * ((n + 1) % 8) = 1024 * (n % 8) + 1024 := by omega
      rw [es] at h
      show RowHeld (1024 * ((n + 1) % 8)) _ _ _ _
      rw [en]
      exact h

/-- After a sample's last point they hold its 8192 tokens and the new row. -/
theorem stAt_last_held (t : Fin grid0.N) (r : Fin 32) (h7 : t.val % 8 = 7) :
    RowHeld 8193 (Spec.S D (sample t) (branch r) (head r)) (Spec.V D (sample t)) (stAt m (adm m hok) c t.val t.isLt) r := by
  rw [stAt_last m (adm m hok) c t (by omega) h7]
  refine merge_held (k := 8192) _ _ _ _ r ?_ (newScore_D c hD hok t r) fun e => ?_
  · have h := stAt_held c hD hok (t.val - 1) (Nat.lt_of_le_of_lt (Nat.sub_le _ _) t.isLt) r (by omega)
    have es : sample ⟨t.val - 1, Nat.lt_of_le_of_lt (Nat.sub_le _ _) t.isLt⟩ = sample t := Fin.ext (by show (t.val - 1) / 8 = t.val / 8; omega)
    rw [es] at h
    have h' := foldAt_held c hD hok t r (stAt m (adm m hok) c (t.val - 1) (Nat.lt_of_le_of_lt (Nat.sub_le _ _) t.isLt)) (by
      rw [show 1024 * (t.val % 8) = 1024 * ((t.val - 1) % 8) + 1024 by omega]; exact h)
    rw [show 1024 * (t.val % 8) + 1024 = 8192 by omega] at h'
    exact h'
  · rw [iblk_1, V_new, hD.new, Spec.V, row, dif_neg (by omega)]

/-- The block that a sample's last point leaves. -/
theorem outAt_D (t : Fin grid0.N) (h7 : t.val % 8 = 7) (h : Fin 16) (e : Fin 256) :
    outAt m (adm m hok) c t (ix3 0 h e)
      = normed (fun e => ((avg 8193 (Spec.S D (sample t) 0 h) (Spec.V D (sample t)) e : ℝ) : EReal)
          - lambda (fun i x => m ((c : Thread nD τ).loc main_arg5) (ix2 i x))
            * ((avg 8193 (Spec.S D (sample t) 1 h) (Spec.V D (sample t)) e : ℝ) : EReal))
          (m ((c : Thread nD τ).loc main_arg6) (ix1 e)) e := by
  have e0 : branch ⟨h.val, by omega⟩ = 0 := Fin.ext (by show h.val / 16 = 0; omega)
  have e1 : branch ⟨16 + h.val, by omega⟩ = 1 := Fin.ext (by show (16 + h.val) / 16 = 1; omega)
  have f0 : head ⟨h.val, by omega⟩ = h := Fin.ext (by show h.val % 16 = _; omega)
  have f1 : head ⟨16 + h.val, by omega⟩ = h := Fin.ext (by show (16 + h.val) % 16 = _; omega)
  have k0 := stAt_last_held c hD hok t ⟨h.val, by omega⟩ h7
  have k1 := stAt_last_held c hD hok t ⟨16 + h.val, by omega⟩ h7
  rw [e0, f0] at k0
  rw [e1, f1] at k1
  have hl : (fun (i : Fin 4) (x : Fin 128) => (iblk m (adm m hok) c 3 t : Vec Ideal S4x128 .f32) (ix2 i x))
      = fun i x => m ((c : Thread nD τ).loc main_arg5) (ix2 i x) := by
    funext i x; rw [iblk_3, V_main_arg5]
  unfold outAt
  refine (result_apply (iblk m (adm m hok) c 3 t) (iblk m (adm m hok) c 4 t) _ h e).trans ?_
  rw [hl, iblk_4, V_g]
  congr 1
  funext e
  rw [held_div (by norm_num) k0 e, held_div (by norm_num) k1 e]

end Cert.KernelIdeal.Hand

end
-- ==== Proof.Out.lean ====
module

public import proofs.«01_k».proof.Proof.Attend
public import Idealize.ShloMosaic.Lib.Pipeline.ValueKit.Geometry

/-! The kernel's result array, entry by entry, at finite arguments. -/

@[expose] public section

set_option maxRecDepth 16384

noncomputable section

namespace Cert.KernelIdeal.Hand

open Cert.KernelIdeal Cert.KernelIdeal.Gen Cert.Soft Cert.Spec
open Idealize.ShloMosaic Idealize.ShloMosaic.TcCoe Idealize.ShloMosaic.Pipeline

/-- The differential attention of every sample, head and value column: the difference of the two branches' averages, normalized. -/
def attention (D : Data) (lp : Vec Ideal S4x128 .f32) (g : Vec Ideal S256 .f32) : Vec Ideal S128x16x256 .f32 := fun i =>
  normed (fun e => ((avg 8193 (Spec.S D (i 0) 0 (i 1)) (Spec.V D (i 0)) e : ℝ) : EReal)
    - lambda (fun j x => lp (ix2 j x)) * ((avg 8193 (Spec.S D (i 0) 1 (i 1)) (Spec.V D (i 0)) e : ℝ) : EReal)) (g (ix1 (i 2))) (i 2)

variable (m : (ℓ : Loc nD τ sig) → Buf (Elt Ideal) ℓ) (c : Dev nD)

/-- The place of a result block's entry in the result. -/
theorem emb_13 (a : (p : Fin 1) → (pcfgs (F := Ideal) p).Adm) (t : Fin grid0.N) (y : S1x16x256.Idx) :
    ((((cfg0 (a 0)).win 13).blk t).view.emb y : S128x16x256.Idx) = ix3 (sample t) (y 1) (y 2) := by
  show ((((cfg0 (a 0)).win 13).rect t).emb y : S128x16x256.Idx) = _
  funext x
  apply Fin.ext
  refine (Pipeline.Window.rect_emb_val ((cfg0 (a 0)).win 13) t _ x).trans ?_
  have h := coords_0 t
  have hb : t.val / 8 < 128 := (sample t).isLt
  show cc0_transform_13 (grid0.coords t) x * _ + _ = _
  unfold cc0_transform_13
  have h0 : (y 0).val < 1 := (y 0).isLt
  fin_cases x
  · show (BitVec.ofNat 32 (grid0.coords t 0).val).toNat * 1 + (y 0).val = t.val / 8
    rw [h, BitVec.toNat_ofNat]; omega
  · show (0 : Nat) * 16 + (y 1).val = (y 1).val
    omega
  · show (0 : Nat) * 256 + (y 2).val = (y 2).val
    omega

/-- A sample's last point. -/
def lastPoint (s : Fin 128) : Fin grid0.N := ⟨s.val * 8 + 7, by show _ < 1024; omega⟩

/-- An entry at an index's place is under the view. -/
theorem mem_of_emb {κ sp} {s : Shape} {e : EltTy} (v : View sig κ sp s e) (x : s.Idx) {i : v.ty.Idx} (h : v.emb x = i) : i ∈ v.set :=
  h ▸ v.emb_mem_set x

/-- Every entry of the result lies in the block of its sample's last point. -/
theorem cover_13 (a : (p : Fin 1) → (pcfgs (F := Ideal) p).Adm) (i : S128x16x256.Idx) : ∃ t : Fin (cfg0 (a 0)).N, ((cfg0 (a 0)).win 13).flush t = true
    ∧ i ∈ (((cfg0 (a 0)).win 13).blk t).view.set := by
  have h0 : (i 0).val < 128 := (i 0).isLt
  refine ⟨lastPoint (i 0), (flush_13 _ _).mpr (by show ((i 0).val * 8 + 7) % 8 = 7; omega), ?_⟩
  have e := emb_13 a (lastPoint (i 0)) (ix3 0 (i 1) (i 2))
  have e' : (ix3 (sample (lastPoint (i 0))) (i 1) (i 2) : S128x16x256.Idx) = i := funext fun a => Fin.ext (by
    match a with
    | ⟨0, _⟩ => show ((i 0).val * 8 + 7) / 8 = (i 0).val; omega
    | ⟨1, _⟩ => rfl
    | ⟨2, _⟩ => rfl)
  exact mem_of_emb _ (ix3 0 (i 1) (i 2) : S1x16x256.Idx) (e.trans e')

/-- What a sample's last point leaves in its result block. -/
theorem out_block {D : Data} (hD : Holds m c D) (hok : Ok m) (t : Fin grid0.N) (h7 : t.val % 8 = 7) (y : S1x16x256.Idx) :
    outAt m (adm m hok) c t y = attention D (m ((c : Thread nD τ).loc main_arg5)) (m ((c : Thread nD τ).loc main_arg6))
      ((((cfg0 (adm m hok 0)).win 13).blk t).view.emb y : S128x16x256.Idx) := by
  have hy : y = (ix3 0 (y 1) (y 2) : S1x16x256.Idx) := funext fun a => Fin.ext (by
    match a with
    | ⟨0, _⟩ => have h0 : (y 0).val < 1 := (y 0).isLt; show (y 0).val = 0; omega
    | ⟨1, _⟩ => rfl
    | ⟨2, _⟩ => rfl)
  refine Eq.trans ?_ (congrArg (attention D (m ((c : Thread nD τ).loc main_arg5)) (m ((c : Thread nD τ).loc main_arg6))) (emb_13 (adm m hok) t y)).symm
  exact (congrArg (outAt m (adm m hok) c t) hy).trans (outAt_D c hD hok t h7 (y 1) (y 2))

/-- The kernel's result is the differential attention. -/
theorem out_D {D : Data} (hD : Holds m c D) (hok : Ok m) :
    ((dats m (adm m hok) 0 c).arrAt 13 (cfg0 (adm m hok 0)).N : Vec Ideal S128x16x256 .f32)
      = attention D (m ((c : Thread nD τ).loc main_arg5)) (m ((c : Thread nD τ).loc main_arg6)) := by
  refine (dats m (adm m hok) 0 c).arrAt_eq_of_emb 13 _ (fun t hf y => ?_) (fun i => ?_)
  · exact out_block m c hD hok t ((flush_13 _ t).mp hf) y
  · exact cover_13 _ i

end Cert.KernelIdeal.Hand

end
-- ==== Proof.RefRows.lean ====
module

public import proofs.«01_k».proof.Proof.Gen.ReferenceIdeal.Read
public import proofs.«01_k».proof.Proof.Spec
public import Idealize.ShloMosaic.Lib.Pointwise

/-! The reference's rows, queries and biases, entry by entry, at finite arguments. -/

@[expose] public section

set_option maxRecDepth 16384

noncomputable section

namespace Cert.ReferenceIdeal.Hand

open Cert.ReferenceIdeal Cert.ReferenceIdeal.Read Cert.Soft Cert.Spec Cert.Bucket
open Idealize.ShloMosaic Idealize.ShloMosaic.TcCoe

/-- A number below `2^31`, as a word read with its sign. -/
theorem toInt_small (n : ℕ) (h : n < 2147483648) : (BitVec.ofNat 32 n).toInt = n := by
  rw [BitVec.toInt_eq_toNat_cond, BitVec.toNat_ofNat]; split <;> omega

/-- A small word is not negative. -/
theorem not_neg (n : ℕ) (h : n < 2147483648) : IntOp.cmpi .slt (BitVec.ofNat 32 n) 0#32 = 0#1 := by
  have e : BitVec.slt (BitVec.ofNat 32 n) 0#32 = false := by
    rw [Bool.eq_false_iff]
    intro c
    have := BitVec.slt_iff_toInt_lt.1 c
    rw [toInt_small n h] at this
    have e0 : (0#32).toInt = 0 := by decide
    omega
  simp only [IntOp.cmpi, e]; rfl

/-- The gather of pages: the page at the table's word, whole. -/
theorem gather_page (x : Vec Ideal S10240x128x2x1x256 .f32) (idx : IVec S128x64x1 32) (s : Fin 128) (g : Fin 64) (y : Fin 128)
    (i : Fin 2) (z : Fin 256) (p : Fin 10240) (hp : idx (ix3 s g 0) = BitVec.ofNat 32 p.val) :
    Host.gather gather_S10240x128x2x1x256_S128x64x1_S128x64x128x2x1x256_2345_0_n_n_0_2_112821256 x idx (ix6 s g y i 0 z)
      = x (ix5 p y i 0 z) := by
  unfold Host.gather
  congr 1
  funext a
  apply Fin.ext
  show GatherDims.start _ _ _ a + GatherDims.batchCoord _ _ a + GatherDims.offCoord _ _ a = _
  rw [GatherDims.batchCoord_eq_zero _ _ _ (fun h => by cases h)]
  fin_cases a
  · show GatherDims.start gather_S10240x128x2x1x256_S128x64x1_S128x64x128x2x1x256_2345_0_n_n_0_2_112821256 (ix6 s g y i 0 z) idx (0 : Fin 5) + 0 + GatherDims.offCoord gather_S10240x128x2x1x256_S128x64x1_S128x64x128x2x1x256_2345_0_n_n_0_2_112821256 (ix6 s g y i 0 z) (0 : Fin 5) = p.val
    rw [GatherDims.offCoord_eq_zero _ _ _ (fun h => ((GatherDims.mem_sKept _ _).mp h).1 (List.mem_singleton.mpr rfl))]
    unfold GatherDims.start
    rw [dif_pos (show (0 : Fin 5) ∈ gather_S10240x128x2x1x256_S128x64x1_S128x64x128x2x1x256_2345_0_n_n_0_2_112821256.startIndexMap from List.mem_singleton.mpr rfl)]
    have hsi : GatherDims.siIdx gather_S10240x128x2x1x256_S128x64x1_S128x64x128x2x1x256_2345_0_n_n_0_2_112821256 (ix6 s g y i 0 z)
        ⟨List.idxOf (0 : Fin 5) [0], List.idxOf_lt_length_iff.2 (List.mem_singleton.mpr rfl)⟩ = ix3 s g 0 := by
      funext b; refine Fin.ext ?_
      match b with
      | ⟨0, _⟩ => rfl
      | ⟨1, _⟩ => rfl
      | ⟨2, _⟩ => rfl
    show min (idx (GatherDims.siIdx _ _ ⟨List.idxOf (0 : Fin 5) [0], _⟩)).toInt.toNat (10240 - 1) + 0 + 0 = p.val
    rw [hsi, hp, toInt_small _ (by omega)]
    omega
  · show 0 + 0 + y.val = y.val
    omega
  · show 0 + 0 + i.val = i.val
    omega
  · rfl
  · show 0 + 0 + z.val = z.val
    omega

/-- The gather of table rows: the row at the bucket's word. -/
theorem gather_row (x : Vec Ideal S32x32 .f32) (idx : IVec S1x8193x1 32) (k : Fin 8193) (c : Fin 32)
    (b : Fin 32) (hb : idx (ix3 0 k 0) = BitVec.ofNat 32 b.val) :
    Host.gather gather_S32x32_S1x8193x1_S1x8193x32_2_0_n_n_0_2_132 x idx (ix3 0 k c) = x (ix2 b c) := by
  unfold Host.gather
  congr 1
  funext a
  apply Fin.ext
  show GatherDims.start _ _ _ a + GatherDims.batchCoord _ _ a + GatherDims.offCoord _ _ a = _
  rw [GatherDims.batchCoord_eq_zero _ _ _ (fun h => by cases h)]
  fin_cases a
  · show GatherDims.start gather_S32x32_S1x8193x1_S1x8193x32_2_0_n_n_0_2_132 (ix3 0 k c) idx (0 : Fin 2) + 0 + GatherDims.offCoord gather_S32x32_S1x8193x1_S1x8193x32_2_0_n_n_0_2_132 (ix3 0 k c) (0 : Fin 2) = b.val
    rw [GatherDims.offCoord_eq_zero _ _ _ (fun h => ((GatherDims.mem_sKept _ _).mp h).1 (List.mem_singleton.mpr rfl))]
    unfold GatherDims.start
    rw [dif_pos (show (0 : Fin 2) ∈ gather_S32x32_S1x8193x1_S1x8193x32_2_0_n_n_0_2_132.startIndexMap from List.mem_singleton.mpr rfl)]
    have hsi : GatherDims.siIdx gather_S32x32_S1x8193x1_S1x8193x32_2_0_n_n_0_2_132 (ix3 0 k c)
        ⟨List.idxOf (0 : Fin 2) [0], List.idxOf_lt_length_iff.2 (List.mem_singleton.mpr rfl)⟩ = ix3 0 k 0 := by
      funext b; refine Fin.ext ?_
      match b with
      | ⟨0, _⟩ => rfl
      | ⟨1, _⟩ => rfl
      | ⟨2, _⟩ => rfl
    show min (idx (GatherDims.siIdx _ _ ⟨List.idxOf (0 : Fin 2) [0], _⟩)).toInt.toNat (32 - 1) + 0 + 0 = b.val
    rw [hsi, hb, toInt_small _ (by omega)]
    omega
  · show 0 + 0 + c.val = c.val
    omega

variable {x0 : Vec Ideal S128x4096 .bf16} {x1 : Vec Ideal S128x512 .bf16} {x2 : Vec Ideal S10240x128x2x1x256 .f32}
  {x3 : Vec Ideal S128x64 .i32} {x4 : Vec Ideal S32x32 .f32}

/-- The arguments are the finite data `D`. -/
structure Args (x0 : Vec Ideal S128x4096 .bf16) (x1 : Vec Ideal S128x512 .bf16) (x2 : Vec Ideal S10240x128x2x1x256 .f32)
    (x3 : Vec Ideal S128x64 .i32) (x4 : Vec Ideal S32x32 .f32) (D : Data) : Prop where
  q : ∀ s x, (x0 (ix2 s x) : EReal) = (D.q s x : ℝ)
  new : ∀ s x, (x1 (ix2 s x) : EReal) = (D.new s x : ℝ)
  pool : ∀ (p : Fin 10240) (x : Fin 128) (i : Fin 2) (y : Fin 256),
    (x2 (ix5 p x i 0 y) : EReal) = (D.pool p x ⟨256 * i.val + y.val, by omega⟩ : ℝ)
  page : ∀ s g, x3 (ix2 s g) = BitVec.ofNat 32 (D.page s g).val
  tab : ∀ b x, (x4 (ix2 b x) : EReal) = (D.tab b x : ℝ)

variable {D : Data} (hD : Args x0 x1 x2 x3 x4 D)
include hD

/-- The queries. -/
theorem q_at (s : Fin 128) (h : Fin 16) (i : Fin 2) (d : Fin 128) : val_main_v1 (F := Ideal) x0 (ix6 s 0 0 h i d)
    = ((D.q s ⟨h.val * 256 + i.val * 128 + d.val, by omega⟩ : ℝ) : EReal) := by
  rw [← hD.q]
  pointwise [val_main_v1, val_main_v0]

/-- The gathered pages. -/
theorem pages_at (s : Fin 128) (g : Fin 64) (x : Fin 128) (i : Fin 2) (y : Fin 256) :
    val_main_v10 (F := Ideal) x2 x3 (ix6 s g x i 0 y)
      = ((D.pool (D.page s g) x ⟨256 * i.val + y.val, by omega⟩ : ℝ) : EReal) := by
  unfold val_main_v10
  rw [gather_page _ _ s g x i y (D.page s g), hD.pool]
  pointwise [val_main_v9, val_main_v8, val_main_v7, val_main_v6, val_main_v5, val_main_v4, val_main_c, val_main_c_0]
  rw [hD.page, not_neg _ (by omega)]
  rfl

/-- The cached rows with the new one. -/
theorem rows_at (s : Fin 128) (k : Fin 8193) (i : Fin 2) (y : Fin 256) :
    val_main_v12 (F := Ideal) x1 x2 x3 (ix5 s k i 0 y) = ((row D s k.val ⟨256 * i.val + y.val, by omega⟩ : ℝ) : EReal) := by
  pointwise [val_main_v12, val_main_v11, val_main_v3, val_main_v2]
  unfold row
  rcases Nat.lt_or_ge k.val 8192 with h | h
  · rw [dif_pos h, dif_pos h, pages_at hD]
  · rw [dif_neg (by omega), dif_neg (by omega), hD.new]
    congr 3
    omega

/-- The keys. -/
theorem keys_at (s : Fin 128) (k : Fin 8193) (i : Fin 2) (d : Fin 128) :
    val_main_v15 (F := Ideal) x1 x2 x3 (ix5 s k 0 i d) = ((row D s k.val ⟨128 * i.val + d.val, by omega⟩ : ℝ) : EReal) := by
  pointwise [val_main_v15, val_main_v14, val_main_v13]
  rw [rows_at hD]
  congr 3
  show 256 * 0 + (i.val * 128 + d.val) = 128 * i.val + d.val
  omega

/-- The values. -/
theorem vals_at (s : Fin 128) (k : Fin 8193) (e : Fin 256) :
    val_main_v17 (F := Ideal) x1 x2 x3 (ix4 s k 0 e) = ((V D s k.val e : ℝ) : EReal) := by
  pointwise [val_main_v17, val_main_v16]
  rw [rows_at hD]
  rfl

omit hD in
/-- The distance of each row to the query. -/
theorem dist_at (k : Fin 8193) : val_main_v41 (F := Ideal) (ix2 0 k) = BitVec.ofNat 32 (8192 - k.val) := by
  pointwise [val_main_v41, val_main_v40, val_main_v39, val_main_v38, val_main_v20, val_main_v19, val_main_v18, val_main_v21, val_main_c_1]
  show IntOp.subi _ _ = _
  apply BitVec.eq_of_toNat_eq
  simp only [IntOp.subi, BitVec.toNat_sub, BitVec.toNat_ofNat]
  simp [IntOp.addi]
  omega

omit hD in
/-- The bucket of each row. -/
theorem bkt_at (k : Fin 8193) : val_main_v61 (F := Ideal) (ix2 0 k) = BitVec.ofNat 32 (bkt k.val).val := by
  rw [← bkt_eq, ← dist_at]
  pointwise [val_main_v61, val_main_v60, val_main_v59, val_main_v58, val_main_v57, val_main_v56, val_main_v55, val_main_v54,
    val_main_v53, val_main_v52, val_main_v51, val_main_v50, val_main_v49, val_main_v48, val_main_v47, val_main_v46, val_main_v45,
    val_main_v44, val_main_v43, val_main_v42, val_main_c_4, val_main_c_5, val_main_cst_6, val_main_cst_7, val_main_cst_8,
    val_main_c_9, val_main_c_10, val_main_c_11]
  rfl

/-- The table's row at the bucket of each row. -/
theorem table_at (k : Fin 8193) (c : Fin 32) :
    val_main_v68 (F := Ideal) x4 (ix3 0 k c) = ((D.tab (bkt k.val) c : ℝ) : EReal) := by
  unfold val_main_v68
  rw [gather_row _ _ k c (bkt k.val), hD.tab]
  pointwise [val_main_v67, val_main_v66, val_main_v65, val_main_v64, val_main_v63, val_main_v62, val_main_c_12, val_main_c_13]
  rw [bkt_at, not_neg _ (by omega)]
  rfl

end Cert.ReferenceIdeal.Hand

end
-- ==== Proof.RefSoft.lean ====
module

public import proofs.«01_k».proof.Proof.RefRows

/-! The reference's scores and softmax weights, at finite arguments. -/

@[expose] public section

set_option maxRecDepth 16384

noncomputable section

namespace Cert.ReferenceIdeal.Hand

open Cert.ReferenceIdeal Cert.ReferenceIdeal.Read Cert.Soft Cert.Spec Cert.Bucket
open Idealize.ShloMosaic Idealize.ShloMosaic.TcCoe

variable {x0 : Vec Ideal S128x4096 .bf16} {x1 : Vec Ideal S128x512 .bf16} {x2 : Vec Ideal S10240x128x2x1x256 .f32}
  {x3 : Vec Ideal S128x64 .i32} {x4 : Vec Ideal S32x32 .f32} {D : Data} (hD : Args x0 x1 x2 x3 x4 D)
include hD

omit hD in
/-- Every row is at or before the query. -/
theorem seen_at (k : Fin 8193) : val_main_v79 (F := Ideal) (ix2 0 k) = 1#1 := by
  pointwise [val_main_v79, val_main_v78, val_main_c_15]
  rw [dist_at]
  have e : BitVec.sle 0#32 (BitVec.ofNat 32 (8192 - k.val)) = true := by
    rw [BitVec.sle_iff_toInt_le, toInt_small (8192 - k.val) (by omega)]
    have e0 : (0#32).toInt = 0 := by decide
    omega
  simp only [IntOp.cmpi, e]; rfl

/-- The products of queries and keys. -/
theorem dot_at (i : Fin 2) (s : Fin 128) (h : Fin 16) (k : Fin 8193) :
    val_main_v72 (F := Ideal) x0 x1 x2 x3 (ix6 i s 0 k 0 h)
      = ((∑ d : Fin 128, D.q s ⟨h.val * 256 + i.val * 128 + d.val, by omega⟩ * row D s k.val ⟨128 * i.val + d.val, by omega⟩ : ℝ) : EReal) := by
  rw [val_main_v72_apply, coe_sum]
  refine Finset.sum_congr rfl fun d _ => ?_
  have el : lidx_main_v72 (ix6 i s 0 k 0 h) d = ix5 s k 0 i d := funext fun a => Fin.ext (by
    match a with | ⟨0, _⟩ => rfl | ⟨1, _⟩ => rfl | ⟨2, _⟩ => rfl | ⟨3, _⟩ => rfl | ⟨4, _⟩ => rfl)
  have er : ridx_main_v72 (ix6 i s 0 k 0 h) d = ix6 s 0 0 h i d := funext fun a => Fin.ext (by
    match a with | ⟨0, _⟩ => rfl | ⟨1, _⟩ => rfl | ⟨2, _⟩ => rfl | ⟨3, _⟩ => rfl | ⟨4, _⟩ => rfl | ⟨5, _⟩ => rfl)
  rw [el, er, keys_at hD, q_at hD, ← EReal.coe_mul, mul_comm]

/-- The bias of each branch, head and row. -/
theorem bias_at (i : Fin 2) (s : Fin 128) (h : Fin 16) (k : Fin 8193) :
    val_main_v76 (F := Ideal) x4 (ix6 i s 0 h 0 k) = ((D.tab (bkt k.val) ⟨h.val * 2 + i.val, by omega⟩ : ℝ) : EReal) := by
  rw [val_main_v76_apply, val_main_v71_apply, val_main_v70_apply, val_main_v69_apply, ← table_at hD]
  congr 1
  funext a
  apply Fin.ext
  match a with
  | ⟨0, _⟩ => rfl
  | ⟨1, _⟩ =>
    show ((((0 * 8193 + k.val) * 1 + 0) * 16 + h.val) * 2 + i.val) / 32 % 8193 = k.val
    omega
  | ⟨2, _⟩ =>
    show ((((0 * 8193 + k.val) * 1 + 0) * 16 + h.val) * 2 + i.val) % 32 = h.val * 2 + i.val
    omega

/-- The scores. -/
theorem score_at (i : Fin 2) (s : Fin 128) (h : Fin 16) (k : Fin 8193) :
    val_main_v77 (F := Ideal) x0 x1 x2 x3 x4 (ix6 i s 0 h 0 k) = ((S D s i h k.val : ℝ) : EReal) := by
  have e : idx_main_v73 (ix6 i s 0 h 0 k) = ix6 i s 0 k 0 h := funext fun a => Fin.ext (by
    match a with | ⟨0, _⟩ => rfl | ⟨1, _⟩ => rfl | ⟨2, _⟩ => rfl | ⟨3, _⟩ => rfl | ⟨4, _⟩ => rfl | ⟨5, _⟩ => rfl)
  rw [val_main_v77_apply, bias_at hD, val_main_v75_apply, val_main_v73_apply, e, dot_at hD, val_main_v74_apply, val_main_cst_14_apply]
  show _ * Ideal.ofBits FTy.f32 0x3DB504F3#32 + _ = _
  rw [factor_coe, S, EReal.coe_add, EReal.coe_mul]

omit hD in
theorem mask1_at (i : Fin 2) (s : Fin 128) (h : Fin 16) (k : Fin 8193) :
    val_main_call1_v1 (F := Ideal) (ix6 i s 0 h 0 k) = 1#1 := by
  rw [val_main_call1_v1_apply, ← seen_at k]
  congr 1
  funext a
  apply Fin.ext
  match a with | ⟨0, _⟩ => rfl | ⟨1, _⟩ => rfl

omit hD in
theorem mask2_at (i : Fin 2) (s : Fin 128) (h : Fin 16) (k : Fin 8193) :
    val_main_call2_v1 (F := Ideal) (ix6 i s 0 h 0 k) = 1#1 := by
  rw [val_main_call2_v1_apply, ← seen_at k]
  congr 1
  funext a
  apply Fin.ext
  match a with | ⟨0, _⟩ => rfl | ⟨1, _⟩ => rfl

theorem masked_at (i : Fin 2) (s : Fin 128) (h : Fin 16) (k : Fin 8193) :
    val_main_v80 (F := Ideal) x0 x1 x2 x3 x4 (ix6 i s 0 h 0 k) = ((S D s i h k.val : ℝ) : EReal) := by
  rw [val_main_v80_apply, mask1_at, score_at hD]
  rfl

/-- The maximum of each row of scores is finite. -/
theorem max_at (i : Fin 2) (s : Fin 128) (h : Fin 16) : ∃ μ : ℝ,
    val_main_v83 (F := Ideal) x0 x1 x2 x3 x4 (ix5 i s 0 h 0) = (μ : EReal) := by
  have e0 : Ideal.ofBits FTy.f32 0xFF800000#32 = ⊥ := by simp [Ideal.ofBits, Ideal.ieee]
  have hr : S2x128x1x16x1x8193.Reduces [5] S2x128x1x16x1 := by decide
  obtain ⟨μ, hμ⟩ := fold_real (fun k : Fin 8193 => val_main_v80 (F := Ideal) x0 x1 x2 x3 x4 (ix6 i s 0 h 0 k)) _ (masked_at hD i s h)
  refine ⟨μ, ?_⟩
  rw [← hμ, val_main_v83_apply, val_main_v82_apply, val_main_cst_18_apply]
  unfold val_main_v81
  generalize val_main_v80 (F := Ideal) x0 x1 x2 x3 x4 = y
  show max _ (Host.reduce (max : EReal → EReal → EReal) y _ _ _ _) = _
  rw [Host.reduce_eq_fold_single max y _ _ hr, val_main_cst_17_apply]
  show max (Ideal.ofBits FTy.f32 0xFF800000#32) (Finset.fold max (Ideal.ofBits FTy.f32 0xFF800000#32) _ _) = _
  rw [e0, max_eq_right bot_le]
  refine congrArg (fun f => Finset.fold max ⊥ f Finset.univ) (funext fun k => congrArg y (funext fun a => Fin.ext ?_))
  match a with | ⟨0, _⟩ => rfl | ⟨1, _⟩ => rfl | ⟨2, _⟩ => rfl | ⟨3, _⟩ => rfl | ⟨4, _⟩ => rfl | ⟨5, _⟩ => rfl

/-- The softmax weights. -/
theorem weight_at (i : Fin 2) (s : Fin 128) (h : Fin 16) (k : Fin 8193) :
    val_main_v92 (F := Ideal) x0 x1 x2 x3 x4 (ix6 i s 0 h 0 k)
      = ((Real.exp (S D s i h k.val) / ∑ j ∈ Finset.range 8193, Real.exp (S D s i h j) : ℝ) : EReal) := by
  obtain ⟨μ, hμ⟩ := max_at hD i s h
  have hx : ∀ k : Fin 8193, val_main_v87 (F := Ideal) x0 x1 x2 x3 x4 (ix6 i s 0 h 0 k) = ((Real.exp (S D s i h k.val - μ) : ℝ) : EReal) := by
    intro k
    have e : idx_main_v84 (idx_main_v85 (ix6 i s 0 h 0 k)) = ix5 i s 0 h 0 := funext fun a => Fin.ext (by
      match a with | ⟨0, _⟩ => rfl | ⟨1, _⟩ => rfl | ⟨2, _⟩ => rfl | ⟨3, _⟩ => rfl | ⟨4, _⟩ => rfl)
    rw [val_main_v87_apply, val_main_v86_apply, masked_at hD, val_main_v85_apply, val_main_v84_apply, e, hμ]
    show Ideal.exp (((S D s i h k.val : ℝ) : EReal) - (μ : EReal)) = _
    rw [← EReal.coe_sub, Ideal.exp_coe]
  have hs : val_main_v88 (F := Ideal) x0 x1 x2 x3 x4 (ix5 i s 0 h 0)
      = ((∑ j ∈ Finset.range 8193, Real.exp (S D s i h j - μ) : ℝ) : EReal) := by
    have e : ∀ k : Fin 8193, idx_main_v88 (ix5 i s 0 h 0) k = ix6 i s 0 h 0 k := fun k => funext fun a => Fin.ext (by
      match a with | ⟨0, _⟩ => rfl | ⟨1, _⟩ => rfl | ⟨2, _⟩ => rfl | ⟨3, _⟩ => rfl | ⟨4, _⟩ => rfl | ⟨5, _⟩ => rfl)
    have e0 : Ideal.ofBits FTy.f32 0x00000000#32 = 0 := by simp [Ideal.ofBits, Ideal.ieee]
    rw [val_main_v88_apply, val_main_cst_19_apply]
    show Ideal.ofBits FTy.f32 0x00000000#32 + _ = _
    rw [e0, zero_add, Finset.sum_range, coe_sum]
    exact Finset.sum_congr rfl fun k _ => by rw [e, hx]
  have e : idx_main_v89 (idx_main_v90 (ix6 i s 0 h 0 k)) = ix5 i s 0 h 0 := funext fun a => Fin.ext (by
    match a with | ⟨0, _⟩ => rfl | ⟨1, _⟩ => rfl | ⟨2, _⟩ => rfl | ⟨3, _⟩ => rfl | ⟨4, _⟩ => rfl)
  rw [val_main_v92_apply, mask2_at, val_main_v91_apply, hx, val_main_v90_apply, val_main_v89_apply, e, hs]
  exact weight_real (by norm_num) _ μ k.val

end Cert.ReferenceIdeal.Hand

end
-- ==== Proof.RefPoint.lean ====
module

public import proofs.«01_k».proof.Proof.RefSoft
public import proofs.«01_k».proof.Proof.Bias

/-! The reference's result, entry by entry, at finite arguments. -/

@[expose] public section

set_option maxRecDepth 16384

noncomputable section

namespace Cert.ReferenceIdeal.Hand

open Cert.ReferenceIdeal Cert.ReferenceIdeal.Read Cert.Soft Cert.Spec Cert.Bucket
open Cert.KernelIdeal.Hand (lambda normed)
open Idealize.ShloMosaic Idealize.ShloMosaic.TcCoe

variable {x0 : Vec Ideal S128x4096 .bf16} {x1 : Vec Ideal S128x512 .bf16} {x2 : Vec Ideal S10240x128x2x1x256 .f32}
  {x3 : Vec Ideal S128x64 .i32} {x4 : Vec Ideal S32x32 .f32} {D : Data}

/-- The factor of the second branch. -/
theorem lambda_at (x5 : Vec Ideal S4x128 .f32) :
    val_main_v37 (F := Ideal) x5 ix0 = lambda (fun i x => x5 (ix2 i x)) := by
  pointwise [val_main_v37, val_main_v36, val_main_v35, val_main_v34, val_main_v33, val_main_v32, val_main_v31, val_main_v30, val_main_v29, val_main_v28, val_main_v27, val_main_v26, val_main_v25, val_main_v24, val_main_v23, val_main_v22, val_main_cst, val_main_cst_2, val_main_cst_3]
  simp [lambda]

/-- The factor of the second branch is finite when its parameters are. -/
theorem lambda_real (L : Fin 4 → Fin 128 → ℝ) : ∃ c : ℝ, lambda (fun i x => (L i x : EReal)) = (c : EReal) := by
  have e : ∃ b : ℝ, Ideal.ofBits FTy.f32 0x3EF1014C#32 = (b : EReal) := by
    refine ⟨15794508 / 33554432, ?_⟩
    simp [Ideal.ofBits, Ideal.ieee, -EReal.coe_mul]; norm_num
  obtain ⟨b, hb⟩ := e
  refine ⟨Real.exp (∑ x, L 0 x * L 1 x) - Real.exp (∑ x, L 2 x * L 3 x) + b, ?_⟩
  rw [lambda, hb]
  simp only [← EReal.coe_mul, ← coe_sum, Ideal.exp_coe]
  rw [EReal.coe_add, EReal.coe_sub]

theorem branch0_at (s : Fin 128) (h : Fin 16) (k : Fin 8193) :
    val_main_v94 (F := Ideal) x0 x1 x2 x3 x4 (ix5 s 0 h 0 k) = val_main_v92 (F := Ideal) x0 x1 x2 x3 x4 (ix6 0 s 0 h 0 k) := by
  unfold val_main_v94
  refine (shapeCast_apply (val_main_v93 (F := Ideal) x0 x1 x2 x3 x4) _ (ix5 s 0 h 0 k) (ix6 0 s 0 h 0 k) ?_).trans ?_
  · rw [Shape.rowMajor_val_five, Shape.rowMajor_val_six]
    show _ = (((s.val * 1 + 0) * 16 + h.val) * 1 + 0) * 8193 + k.val
    show (((((0 * 128 + s.val) * 1 + 0) * 16 + h.val) * 1 + 0) * 8193 + k.val) = _
    omega
  rw [val_main_v93_apply]
  congr 1
  funext a
  apply Fin.ext
  match a with | ⟨0, _⟩ => rfl | ⟨1, _⟩ => rfl | ⟨2, _⟩ => rfl | ⟨3, _⟩ => rfl | ⟨4, _⟩ => rfl | ⟨5, _⟩ => rfl

theorem branch1_at (s : Fin 128) (h : Fin 16) (k : Fin 8193) :
    val_main_v96 (F := Ideal) x0 x1 x2 x3 x4 (ix5 s 0 h 0 k) = val_main_v92 (F := Ideal) x0 x1 x2 x3 x4 (ix6 1 s 0 h 0 k) := by
  unfold val_main_v96
  refine (shapeCast_apply (val_main_v95 (F := Ideal) x0 x1 x2 x3 x4) _ (ix5 s 0 h 0 k) (ix6 0 s 0 h 0 k) ?_).trans ?_
  · rw [Shape.rowMajor_val_five, Shape.rowMajor_val_six]
    show _ = (((s.val * 1 + 0) * 16 + h.val) * 1 + 0) * 8193 + k.val
    show (((((0 * 128 + s.val) * 1 + 0) * 16 + h.val) * 1 + 0) * 8193 + k.val) = _
    omega
  rw [val_main_v95_apply]
  congr 1
  funext a
  apply Fin.ext
  match a with | ⟨0, _⟩ => rfl | ⟨1, _⟩ => rfl | ⟨2, _⟩ => rfl | ⟨3, _⟩ => rfl | ⟨4, _⟩ => rfl | ⟨5, _⟩ => rfl

/-- The averaged values. -/
theorem avg_at (hD : Args x0 x1 x2 x3 x4 D) (x5 : Vec Ideal S4x128 .f32) (c : ℝ) (hc : lambda (fun i x => x5 (ix2 i x)) = (c : EReal))
    (s : Fin 128) (h : Fin 16) (e : Fin 256) :
    val_main_v101 (F := Ideal) x0 x1 x2 x3 x4 x5 (ix5 s 0 0 h e)
      = ((avg 8193 (S D s 0 h) (V D s) e : ℝ) : EReal) - lambda (fun i x => x5 (ix2 i x)) * ((avg 8193 (S D s 1 h) (V D s) e : ℝ) : EReal) := by
  have ei : idx_main_v101 (ix5 s 0 0 h e) = ix5 s 0 e h 0 := funext fun a => Fin.ext (by
    match a with | ⟨0, _⟩ => rfl | ⟨1, _⟩ => rfl | ⟨2, _⟩ => rfl | ⟨3, _⟩ => rfl | ⟨4, _⟩ => rfl)
  rw [val_main_v101_apply, ei, val_main_v100_apply, hc, ← EReal.coe_mul, ← EReal.coe_sub, ← avg_diff, Finset.sum_range, coe_sum]
  refine Finset.sum_congr rfl fun k _ => ?_
  have el : lidx_main_v100 (ix5 s 0 e h 0) k = ix4 s k 0 e := funext fun a => Fin.ext (by
    match a with | ⟨0, _⟩ => rfl | ⟨1, _⟩ => rfl | ⟨2, _⟩ => rfl | ⟨3, _⟩ => rfl)
  have er : ridx_main_v100 (ix5 s 0 e h 0) k = ix5 s 0 h 0 k := funext fun a => Fin.ext (by
    match a with | ⟨0, _⟩ => rfl | ⟨1, _⟩ => rfl | ⟨2, _⟩ => rfl | ⟨3, _⟩ => rfl | ⟨4, _⟩ => rfl)
  have e0 : idx_main_v97 (ix5 s 0 h 0 k) = ix0 := funext fun a => a.elim0
  rw [el, er, vals_at hD, val_main_v99_apply, val_main_v98_apply, branch0_at, branch1_at, weight_at hD, weight_at hD,
    val_main_v97_apply, e0, lambda_at, hc]
  show (_ : EReal) * ((_ : EReal) - (_ : EReal) * (_ : EReal)) = _
  rw [← EReal.coe_mul, ← EReal.coe_sub, ← EReal.coe_mul]

/-- The result's entries from the averaged values. -/
theorem result_at (x5 : Vec Ideal S4x128 .f32) (x6 : Vec Ideal S256 .f32) (s : Fin 128) (h : Fin 16) (e : Fin 256) :
    val_main_v117 (F := Ideal) x0 x1 x2 x3 x4 x5 x6 (ix3 s h e)
      = normed (fun e => val_main_v101 (F := Ideal) x0 x1 x2 x3 x4 x5 (ix5 s 0 0 h e)) (x6 (ix1 e)) e := by
  have ei : idx_main_v117 (ix3 s h e) = ix5 s 0 0 h e := funext fun a => Fin.ext (by
    match a with
    | ⟨0, _⟩ => show ((s.val * 16 + h.val) * 256 + e.val) / 4096 = s.val; omega
    | ⟨1, _⟩ => rfl
    | ⟨2, _⟩ => rfl
    | ⟨3, _⟩ => show ((s.val * 16 + h.val) * 256 + e.val) / 256 % 16 = h.val; omega
    | ⟨4, _⟩ => show ((s.val * 16 + h.val) * 256 + e.val) % 256 = e.val; omega)
  have er : ∀ x, idx_main_v103 (idx_main_v104 (idx_main_v110 (ix5 s 0 0 h e))) x = ix5 s 0 0 h x := fun x => funext fun a => Fin.ext (by
    match a with | ⟨0, _⟩ => rfl | ⟨1, _⟩ => rfl | ⟨2, _⟩ => rfl | ⟨3, _⟩ => rfl | ⟨4, _⟩ => rfl)
  have eg : idx_main_v112 (idx_main_v113 (ix5 s 0 0 h e)) = ix1 e := funext fun a => Fin.ext (by
    match a with | ⟨0, _⟩ => rfl)
  have e0 : Ideal.ofBits FTy.f32 0x00000000#32 = 0 := by simp [Ideal.ofBits, Ideal.ieee]
  rw [val_main_v117_apply, ei, val_main_v116_apply, val_main_v115_apply, val_main_cst_24_apply, val_main_v114_apply, val_main_v113_apply,
    val_main_v112_apply, eg, val_main_v111_apply, val_main_v110_apply, val_main_v109_apply, val_main_v108_apply, val_main_v107_apply,
    val_main_cst_23_apply, val_main_v106_apply, val_main_v105_apply, val_main_cst_22_apply, val_main_v104_apply, val_main_v103_apply,
    val_main_cst_21_apply]
  simp only [er, val_main_v102_apply]
  generalize val_main_v101 (F := Ideal) x0 x1 x2 x3 x4 x5 = y
  show y (ix5 s 0 0 h e) * Ideal.rsqrt (Ideal.div (Ideal.ofBits FTy.f32 0x00000000#32 + ∑ x : Fin 256, y (ix5 s 0 0 h x) * y (ix5 s 0 0 h x))
    (Ideal.ofBits FTy.f32 0x43800000#32) + Ideal.ofBits FTy.f32 0x358637BD#32) * x6 (ix1 e) * Ideal.ofBits FTy.f32 0x3F077F5A#32 = _
  rw [e0, zero_add, normed]

/-- The result's entries. -/
theorem point_at (hD : Args x0 x1 x2 x3 x4 D) (x5 : Vec Ideal S4x128 .f32) (L : Fin 4 → Fin 128 → ℝ) (hL : ∀ i x, x5 (ix2 i x) = (L i x : EReal))
    (x6 : Vec Ideal S256 .f32) (s : Fin 128) (h : Fin 16) (e : Fin 256) :
    val_main_v117 (F := Ideal) x0 x1 x2 x3 x4 x5 x6 (ix3 s h e)
      = normed (fun e => ((avg 8193 (S D s 0 h) (V D s) e : ℝ) : EReal) - lambda (fun i x => x5 (ix2 i x)) * ((avg 8193 (S D s 1 h) (V D s) e : ℝ) : EReal))
        (x6 (ix1 e)) e := by
  obtain ⟨c, hc⟩ := lambda_real L
  rw [result_at]
  congr 1
  funext e
  refine avg_at hD x5 c ?_ s h e
  rw [← hc]
  congr 1
  funext i x
  exact hL i x

end Cert.ReferenceIdeal.Hand

end
-- ==== Proof.Algebraic.lean ====
module

public import proofs.«01_k».proof.Proof.Finite
public import proofs.«01_k».proof.Proof.Out
public import proofs.«01_k».proof.Proof.RefPoint

/-! The kernel and the reference leave the same result. -/

@[expose] public section

set_option maxRecDepth 16384

noncomputable section

namespace Cert.Proof

open Idealize.ShloMosaic Idealize.ShloMosaic.TcCoe Idealize.SL.Sem
open Cert.KernelIdeal Cert.KernelIdeal.Hand Cert.Spec

variable (m : (ℓ : Loc nD τ sig) → Buf (Elt Ideal) ℓ) (c : Dev nD)

/-- The arguments' real numbers, and the page of each entry of the page table. -/
def data (h : Cert.Pre_KernelIdeal_finite_and_paged m) : Data where
  q s x := (m ((c : Thread nD τ).loc main_arg0) (ix2 s x) : EReal).toReal
  new s x := (m ((c : Thread nD τ).loc main_arg1) (ix2 s x) : EReal).toReal
  pool p x j := (m ((c : Thread nD τ).loc main_arg2) (ix5 p x ⟨j.val / 256, by omega⟩ 0 ⟨j.val % 256, by omega⟩) : EReal).toReal
  page s g := ⟨(m ((0 : Dev nD).tc.loc main_arg3) (ix2 s g)).toNat, range_finite m h s g⟩
  tab b x := (m ((c : Thread nD τ).loc main_arg4) (ix2 b x) : EReal).toReal

/-- A number that is real is its real part. -/
theorem of_real {x : EReal} (h : ∃ r : ℝ, x = (r : EReal)) : x = ((x.toReal : ℝ) : EReal) := by
  obtain ⟨r, rfl⟩ := h
  rw [EReal.toReal_coe]

variable (h : Cert.Pre_KernelIdeal_finite_and_paged m)

/-- The kernel's arguments hold these numbers. -/
theorem holds_data : Holds m c (data m c h) where
  q s x := of_real (real_q h c s x)
  new s x := of_real (real_new h c s x)
  pool p x i y := by
    refine (of_real (real_pool h c p x i y)).trans ?_
    have e0 : (⟨(256 * i.val + y.val) / 256, by omega⟩ : Fin 2) = i := Fin.ext (by show (256 * i.val + y.val) / 256 = i.val; omega)
    have e1 : (⟨(256 * i.val + y.val) % 256, by omega⟩ : Fin 256) = y := Fin.ext (by show (256 * i.val + y.val) % 256 = y.val; omega)
    show _ = (((m ((c : Thread nD τ).loc main_arg2) (ix5 p x ⟨(256 * i.val + y.val) / 256, _⟩ 0 ⟨(256 * i.val + y.val) % 256, _⟩) : EReal).toReal : ℝ) : EReal)
    rw [e0, e1]
  page s g := by
    have ec : c = 0 := Subsingleton.elim _ _
    subst ec
    exact BitVec.eq_of_toNat_eq ((Nat.mod_eq_of_lt (BitVec.isLt _)).symm.trans (BitVec.toNat_ofNat _ _).symm)
  tab b x := of_real (real_tab h c b x)

variable (m' : (ℓ : Loc Cert.ReferenceIdeal.nD Cert.ReferenceIdeal.τ Cert.ReferenceIdeal.sig) → Buf (Elt Ideal) ℓ)

/-- Arguments that are the kernel's hold the same numbers, and the reference's result at them is the differential attention. -/
theorem reference_D (x0 : Vec Ideal Cert.ReferenceIdeal.S128x4096 .bf16) (x1 : Vec Ideal Cert.ReferenceIdeal.S128x512 .bf16)
    (x2 : Vec Ideal Cert.ReferenceIdeal.S10240x128x2x1x256 .f32) (x3 : Vec Ideal Cert.ReferenceIdeal.S128x64 .i32)
    (x4 : Vec Ideal Cert.ReferenceIdeal.S32x32 .f32) (x5 : Vec Ideal Cert.ReferenceIdeal.S4x128 .f32) (x6 : Vec Ideal Cert.ReferenceIdeal.S256 .f32)
    (h0 : x0 = m ((c : Thread nD τ).loc main_arg0)) (h1 : x1 = m ((c : Thread nD τ).loc main_arg1))
    (h2 : x2 = m ((c : Thread nD τ).loc main_arg2)) (h3 : x3 = m ((c : Thread nD τ).loc main_arg3))
    (h4 : x4 = m ((c : Thread nD τ).loc main_arg4)) (h5 : x5 = m ((c : Thread nD τ).loc main_arg5))
    (h6 : x6 = m ((c : Thread nD τ).loc main_arg6)) :
    Cert.ReferenceIdeal.Read.val_main_v117 (F := Ideal) x0 x1 x2 x3 x4 x5 x6
      = attention (data m c h) (m ((c : Thread nD τ).loc main_arg5)) (m ((c : Thread nD τ).loc main_arg6)) := by
  have hD := holds_data m c h
  subst h0 h1 h2 h3 h4 h5 h6
  have hA : Cert.ReferenceIdeal.Hand.Args (m ((c : Thread nD τ).loc main_arg0)) (m ((c : Thread nD τ).loc main_arg1))
      (m ((c : Thread nD τ).loc main_arg2)) (m ((c : Thread nD τ).loc main_arg3)) (m ((c : Thread nD τ).loc main_arg4)) (data m c h) :=
    ⟨hD.q, hD.new, hD.pool, hD.page, hD.tab⟩
  funext i
  have hi : i = (ix3 (i 0) (i 1) (i 2) : Cert.ReferenceIdeal.S128x16x256.Idx) := funext fun a => by
    match a with | ⟨0, _⟩ => rfl | ⟨1, _⟩ => rfl | ⟨2, _⟩ => rfl
  refine (congrArg (Cert.ReferenceIdeal.Read.val_main_v117 (F := Ideal) _ _ _ _ _ _ _) hi).trans ?_
  exact Cert.ReferenceIdeal.Hand.point_at hA _ (fun i x => (m ((c : Thread nD τ).loc main_arg5) (ix2 i x) : EReal).toReal)
    (fun i x => of_real (real_lam h c i x)) _ (i 0) (i 1) (i 2)

/-- The value claim: from the same arguments, the kernel and the reference end with the same result. -/
theorem algebraic : Cert.algebraic_KernelIdeal_ReferenceIdeal_pre_finite_and_paged := by
  intro m g m' g' h hargs
  refine ⟨fun c => attention (data m c h) (m ((c : Thread nD τ).loc main_arg5)) (m ((c : Thread nD τ).loc main_arg6)), ?_, ?_⟩
  · refine (θ_run Cert.KernelIdeal.defs _ _).mono (fun r hr c => ?_) (run_frame (F := Ideal) m g (ok_finite m h))
    obtain ⟨a0, a1, a2, a3, a4, a5, a6⟩ := hr.1.1 c
    exact ⟨(hr.2 c).trans (out_D m c (holds_data m c h) (ok_finite m h)), a0, a1, a2, a3, a4, a5, a6⟩
  · refine (θ_run Cert.ReferenceIdeal.defs _ _).mono (fun r hr c => ?_) (Cert.ReferenceIdeal.Value.run (F := Ideal) m' g')
    obtain ⟨hv, a⟩ := hr c
    obtain ⟨h0, h1, h2, h3, h4, h5, h6⟩ := hargs c
    refine ⟨?_, a⟩
    refine (hv.trans (Cert.ReferenceIdeal.Read.val_main_v117_eq (StableHlo.launchContents m' c))).trans ?_
    exact reference_D m c h _ _ _ _ _ _ _ h0 h1 h2 h3 h4 h5 h6

end Cert.Proof

end
-- ==== Proof.FfnSpec.lean ====
module

public import Idealize.ShloMosaic.PureOps.Ideal
public import Mathlib.Algebra.BigOperators.Intervals

/-! The feed-forward part of a layer, entry by entry, and its inner sum taken block by block. -/

@[expose] public section

noncomputable section

namespace Cert.Ffn

open Idealize.ShloMosaic

/-- The gated activation of a gate `g` and an up projection `u`: `g` times its logistic, times `u`. -/
def act (g u : EReal) : EReal :=
  g * Ideal.div 1 (1 + Ideal.exp (-g)) * u

/-- Token `s`'s product with column `f` of the input weights. -/
def proj (x : Fin 8320 → Fin 4096 → EReal) (w : Fin 4096 → Fin 22016 → EReal) (s : Fin 8320) (f : Fin 22016) : EReal :=
  ∑ k : Fin 4096, x s k * w k f

/-- What hidden unit `f` adds to output column `e` of token `s`: the first 11008 columns of the input weights are the
gates, the others the up projections. -/
def unit (x : Fin 8320 → Fin 4096 → EReal) (w : Fin 4096 → Fin 22016 → EReal) (v : Fin 11008 → Fin 4096 → EReal)
    (s : Fin 8320) (e : Fin 4096) (f : Fin 11008) : EReal :=
  act (proj x w s ⟨f.val, by omega⟩) (proj x w s ⟨11008 + f.val, by omega⟩) * v f e

/-- The feed-forward part: the sum over the hidden units. -/
def ffn (x : Fin 8320 → Fin 4096 → EReal) (w : Fin 4096 → Fin 22016 → EReal) (v : Fin 11008 → Fin 4096 → EReal)
    (s : Fin 8320) (e : Fin 4096) : EReal :=
  ∑ f : Fin 11008, unit x w v s e f

/-- The same for any number: nothing is added from 11008 on. -/
def unitN (x : Fin 8320 → Fin 4096 → EReal) (w : Fin 4096 → Fin 22016 → EReal) (v : Fin 11008 → Fin 4096 → EReal)
    (s : Fin 8320) (e : Fin 4096) (n : ℕ) : EReal :=
  if h : n < 11008 then unit x w v s e ⟨n, h⟩ else 0

/-- A sum of sums over consecutive blocks of 512 is one sum. -/
theorem sum_blocks (g : ℕ → EReal) (j : ℕ) :
    ∑ i ∈ Finset.range j, ∑ f : Fin 512, g (512 * i + f.val) = ∑ n ∈ Finset.range (512 * j), g n := by
  induction j with
  | zero => simp
  | succ j ih =>
    rw [Finset.sum_range_succ, ih, Nat.mul_succ, Finset.sum_range_add, Finset.sum_range (fun f => g (512 * j + f)) (n := 512)]

/-- The twenty-two blocks of 512, filled up with zeros, sum to the feed-forward part. -/
theorem sum_units (x : Fin 8320 → Fin 4096 → EReal) (w : Fin 4096 → Fin 22016 → EReal) (v : Fin 11008 → Fin 4096 → EReal)
    (s : Fin 8320) (e : Fin 4096) :
    ∑ i ∈ Finset.range 22, ∑ f : Fin 512, unitN x w v s e (512 * i + f.val) = ffn x w v s e := by
  rw [sum_blocks, show 512 * 22 = 11008 + 256 from rfl, Finset.sum_range_add]
  rw [Finset.sum_eq_zero (s := Finset.range 256) (fun n _ => dif_neg (by omega)), add_zero, Finset.sum_range]
  exact Finset.sum_congr rfl fun f _ => dif_pos f.isLt

end Cert.Ffn

end
-- ==== Proof.FfnBody.lean ====
module

public import proofs.«01_k».proof.Proof.FfnSpec
public import proofs.«01_k».proof.Proof.Gen.Kernel2Ideal.Value
public import Idealize.ShloMosaic.Lib.Pointwise
public import Idealize.ShloMosaic.Lib.Tactic

/-! What one grid step of the feed-forward kernel leaves in its output block: a partial product, stored at a block's first
step and added to the block at every other. -/

@[expose] public section

set_option maxRecDepth 16384

noncomputable section

namespace Cert.Kernel2Ideal.Hand

open Cert.Kernel2Ideal Cert.Kernel2Ideal.Gen
open Idealize.ShloMosaic Idealize.ShloMosaic.TcCoe

theorem zeros : (![0, 0] : Fin 2 → Nat) = fun _ => 0 := funext fun a => by fin_cases a <;> rfl

section
variable {F : FTy → Type} [FloatOps F]

/-- At a block's first step the output block becomes the partial product. -/
theorem left_first (c : Dev nD) (i : grid0.Coords) (a2 : Memref sig .tc .vmem S416x4096 .bf16) (h2 : a2.IsWhole)
    (a3 : Memref sig .tc .vmem S4096x512 .bf16) (h3 : a3.IsWhole) (a4 : Memref sig .tc .vmem S4096x512 .bf16) (h4 : a4.IsWhole)
    (a5 : Memref sig .tc .vmem S512x4096 .bf16) (h5 : a5.IsWhole) (a6 : Memref sig .tc .vmem S416x4096 .f32) (h6 : a6.IsWhole)
    (hc0 : cond0_0 i) (hc1 : ¬cond0_1 i) (x0 : Vec F S416x4096 .bf16) (x1 x2 : Vec F S4096x512 .bf16) (x3 : Vec F S512x4096 .bf16) :
    out0_A_4 c i a2 h2 a3 h3 a4 h4 a5 h5 a6 h6 hc0 hc1 x0 x1 x2 x3 = k0_pay1 x0 x1 x2 x3 := by
  unfold out0_A_4
  rw [View.read_writes_eq_canon _ _ _ (cover0_A_4 c i a2 h2 a3 h3 a4 h4 a5 h5 a6 h6 hc0 hc1 x0 x1 x2 x3)]
  unfold kernelRun0_A
  dsimp only
  rw [View.canon_unit_zero zeros]
  simp only [View.readAt_eq_ld, h2.read_unread, h3.read_unread, h4.read_unread, h5.read_unread,
    View.ld_unit_zero (S := S416x4096) zeros, View.ld_unit_zero (S := S4096x512) zeros, View.ld_unit_zero (S := S512x4096) zeros]

/-- At every other step the partial product is added to what the block holds. -/
theorem left_next (c : Dev nD) (i : grid0.Coords) (a2 : Memref sig .tc .vmem S416x4096 .bf16) (h2 : a2.IsWhole)
    (a3 : Memref sig .tc .vmem S4096x512 .bf16) (h3 : a3.IsWhole) (a4 : Memref sig .tc .vmem S4096x512 .bf16) (h4 : a4.IsWhole)
    (a5 : Memref sig .tc .vmem S512x4096 .bf16) (h5 : a5.IsWhole) (a6 : Memref sig .tc .vmem S416x4096 .f32) (h6 : a6.IsWhole)
    (hc0 : ¬cond0_0 i) (hc1 : cond0_1 i) (x0 : Vec F S416x4096 .bf16) (x1 x2 : Vec F S4096x512 .bf16) (x3 : Vec F S512x4096 .bf16)
    (xo : Vec F S416x4096 .f32) :
    out0_B_4 c i a2 h2 a3 h3 a4 h4 a5 h5 a6 h6 hc0 hc1 x0 x1 x2 x3 xo = addf xo (k0_pay1 x0 x1 x2 x3) := by
  unfold out0_B_4
  rw [View.read_writes_eq_canon _ _ _ (cover0_B_4 c i a2 h2 a3 h3 a4 h4 a5 h5 a6 h6 hc0 hc1 x0 x1 x2 x3 xo)]
  unfold kernelRun0_B
  dsimp only
  rw [View.canon_unit_zero zeros]
  unfold k0_pay2
  simp only [View.readAt_eq_ld, h2.read_unread, h3.read_unread, h4.read_unread, h5.read_unread, h6.read_unread,
    View.ld_unit_zero (S := S416x4096) zeros, View.ld_unit_zero (S := S4096x512) zeros, View.ld_unit_zero (S := S512x4096) zeros,
    shapeCast_self]

end

/-- An entry of a partial product, from the step's rows and weights. -/
theorem part_apply (x0 : Vec Ideal S416x4096 .bf16) (x1 x2 : Vec Ideal S4096x512 .bf16) (x3 : Vec Ideal S512x4096 .bf16)
    (r : Fin 416) (e : Fin 4096) : k0_pay1 x0 x1 x2 x3 (ix2 r e)
      = ∑ f : Fin 512, Ffn.act (∑ k : Fin 4096, (x0 (ix2 r k) : EReal) * x1 (ix2 k f)) (∑ k : Fin 4096, (x0 (ix2 r k) : EReal) * x2 (ix2 k f))
          * x3 (ix2 f e) := by
  pointwise [k0_pay1]
  simp only [zero_sub]
  rfl

end Cert.Kernel2Ideal.Hand

end
-- ==== Proof.FfnBlocks.lean ====
module

public import proofs.«01_k».proof.Proof.FfnBody
public import Idealize.ShloMosaic.Lib.StableHlo.ReadAt

/-! The entries of the blocks that a grid step of the feed-forward kernel works on, as entries of the arguments. -/

@[expose] public section

set_option maxRecDepth 16384

noncomputable section

namespace Cert.Kernel2Ideal.Hand

open Cert.Kernel2Ideal Cert.Kernel2Ideal.Gen
open Idealize.ShloMosaic Idealize.ShloMosaic.TcCoe

variable (m : (ℓ : Loc nD τ sig) → Buf (Elt Ideal) ℓ) (c : Dev nD)

/-- The filling is zero. -/
theorem zero_word : (FloatOps.sitofp (F := Ideal) FTy.f32 0#32 : EReal) = 0 := by
  show ((((0#32 : BitVec 32).toInt : ℝ)) : EReal) = 0
  simp

/-- The gate weights, as the kernel finds them: filled up with zeros from column 11008 on. -/
theorem V_gate (k : Fin 4096) (f : Fin 11264) : V m c main_v2 (ix2 k f)
    = (if h : f.val < 11008 then m ((c : Thread nD τ).loc main_arg1) (ix2 k ⟨f.val, by omega⟩) else (0 : EReal)) := by
  unfold V
  after_reads_at
  rw [zero_word]

/-- The up weights, as the kernel finds them. -/
theorem V_up (k : Fin 4096) (f : Fin 11264) : V m c main_v5 (ix2 k f)
    = (if h : f.val < 11008 then m ((c : Thread nD τ).loc main_arg1) (ix2 k ⟨11008 + f.val, by omega⟩) else (0 : EReal)) := by
  unfold V
  after_reads_at
  rw [zero_word]

/-- The output weights, as the kernel finds them: filled up with zeros from row 11008 on. -/
theorem V_out (f : Fin 11264) (e : Fin 4096) : V m c main_v7 (ix2 f e)
    = (if h : f.val < 11008 then m ((c : Thread nD τ).loc main_arg2) (ix2 ⟨f.val, h⟩ e) else (0 : EReal)) := by
  unfold V
  after_reads_at
  rw [zero_word]

/-- The grid has twenty-two steps for each block of tokens. -/
theorem coords_0 (t : Fin grid0.N) : (grid0.coords t 0).val = t.val / 22 := by
  have ht : t.val < 440 := Nat.lt_of_lt_of_eq t.isLt N_0
  have e : (grid0.coords t 0).val = t.val / 22 % 20 := Pipeline.Grid.coords_val t 0 (by decide) rfl
  omega

theorem coords_1 (t : Fin grid0.N) : (grid0.coords t 1).val = t.val % 22 := by
  have e : (grid0.coords t 1).val = t.val / 1 % 22 := Pipeline.Grid.coords_val t 1 (by decide) rfl
  omega

theorem lt_N (t : Fin grid0.N) : t.val < 440 := Nat.lt_of_lt_of_eq t.isLt N_0

/-- The token of a row of a step's block. -/
def token (t : Fin grid0.N) (r : Fin 416) : Fin 8320 := ⟨t.val / 22 * 416 + r.val, by have := lt_N t; omega⟩

/-- The hidden unit of a column of a step's block, counted with the filled-up ones. -/
def hidden (t : Fin grid0.N) (f : Fin 512) : Fin 11264 := ⟨512 * (t.val % 22) + f.val, by omega⟩

/-- A step's rows are its tokens'. -/
theorem iblk_0 (t : Fin grid0.N) (r : Fin 416) (k : Fin 4096) :
    (iblk m c 0 t : Vec Ideal S416x4096 .bf16) (ix2 r k) = V m c main_arg0 (ix2 (token t r) k) := by
  show V m c main_arg0 (((cfg0.win 0).rect t).emb (ix2 r k)) = _
  congr 1
  funext x
  apply Fin.ext
  refine (Pipeline.Window.rect_emb_val (cfg0.win 0) t _ x).trans ?_
  have h := coords_0 t
  have hb := lt_N t
  show cc0_transform_0 (grid0.coords t) x * _ + _ = _
  unfold cc0_transform_0
  fin_cases x
  · show (BitVec.ofNat 32 (grid0.coords t 0).val).toNat * 416 + r.val = t.val / 22 * 416 + r.val
    rw [h, BitVec.toNat_ofNat]; omega
  · show (0 : Nat) * 4096 + k.val = k.val
    omega

/-- A step's gate weights are its hidden units'. -/
theorem iblk_1 (t : Fin grid0.N) (k : Fin 4096) (f : Fin 512) :
    (iblk m c 1 t : Vec Ideal S4096x512 .bf16) (ix2 k f) = V m c main_v2 (ix2 k (hidden t f)) := by
  show V m c main_v2 (((cfg0.win 1).rect t).emb (ix2 k f)) = _
  congr 1
  funext x
  apply Fin.ext
  refine (Pipeline.Window.rect_emb_val (cfg0.win 1) t _ x).trans ?_
  have h := coords_1 t
  have hb := lt_N t
  show cc0_transform_1 (grid0.coords t) x * _ + _ = _
  unfold cc0_transform_1
  fin_cases x
  · show (0 : Nat) * 4096 + k.val = k.val
    omega
  · show (BitVec.ofNat 32 (grid0.coords t 1).val).toNat * 512 + f.val = 512 * (t.val % 22) + f.val
    rw [h, BitVec.toNat_ofNat]; omega

/-- A step's up weights are its hidden units'. -/
theorem iblk_2 (t : Fin grid0.N) (k : Fin 4096) (f : Fin 512) :
    (iblk m c 2 t : Vec Ideal S4096x512 .bf16) (ix2 k f) = V m c main_v5 (ix2 k (hidden t f)) := by
  show V m c main_v5 (((cfg0.win 2).rect t).emb (ix2 k f)) = _
  congr 1
  funext x
  apply Fin.ext
  refine (Pipeline.Window.rect_emb_val (cfg0.win 2) t _ x).trans ?_
  have h := coords_1 t
  have hb := lt_N t
  show cc0_transform_2 (grid0.coords t) x * _ + _ = _
  unfold cc0_transform_2
  fin_cases x
  · show (0 : Nat) * 4096 + k.val = k.val
    omega
  · show (BitVec.ofNat 32 (grid0.coords t 1).val).toNat * 512 + f.val = 512 * (t.val % 22) + f.val
    rw [h, BitVec.toNat_ofNat]; omega

/-- A step's output weights are its hidden units'. -/
theorem iblk_3 (t : Fin grid0.N) (f : Fin 512) (e : Fin 4096) :
    (iblk m c 3 t : Vec Ideal S512x4096 .bf16) (ix2 f e) = V m c main_v7 (ix2 (hidden t f) e) := by
  show V m c main_v7 (((cfg0.win 3).rect t).emb (ix2 f e)) = _
  congr 1
  funext x
  apply Fin.ext
  refine (Pipeline.Window.rect_emb_val (cfg0.win 3) t _ x).trans ?_
  have h := coords_1 t
  have hb := lt_N t
  show cc0_transform_3 (grid0.coords t) x * _ + _ = _
  unfold cc0_transform_3
  fin_cases x
  · show (BitVec.ofNat 32 (grid0.coords t 1).val).toNat * 512 + f.val = 512 * (t.val % 22) + f.val
    rw [h, BitVec.toNat_ofNat]; omega
  · show (0 : Nat) * 4096 + e.val = e.val
    omega

/-- The place of an output block's entry in the result. -/
theorem emb_4 (t : Fin grid0.N) (y : S416x4096.Idx) :
    (((cfg0.win 4).blk t).view.emb y : S8320x4096.Idx) = ix2 (token t (y 0)) (y 1) := by
  show (((cfg0.win 4).rect t).emb y : S8320x4096.Idx) = _
  funext x
  apply Fin.ext
  refine (Pipeline.Window.rect_emb_val (cfg0.win 4) t _ x).trans ?_
  have h := coords_0 t
  have hb := lt_N t
  show cc0_transform_4 (grid0.coords t) x * _ + _ = _
  unfold cc0_transform_4
  fin_cases x
  · show (BitVec.ofNat 32 (grid0.coords t 0).val).toNat * 416 + (y 0).val = t.val / 22 * 416 + (y 0).val
    rw [h, BitVec.toNat_ofNat]; omega
  · show (0 : Nat) * 4096 + (y 1).val = (y 1).val
    omega

end Cert.Kernel2Ideal.Hand

end
-- ==== Proof.FfnOut.lean ====
module

public import proofs.«01_k».proof.Proof.FfnBlocks
public import Idealize.ShloMosaic.Lib.Pipeline.ValueKit.Geometry

/-! The feed-forward kernel's result array, entry by entry. -/

@[expose] public section

set_option maxRecDepth 16384

noncomputable section

namespace Cert.Kernel2Ideal.Hand

open Cert.Kernel2Ideal Cert.Kernel2Ideal.Gen
open Idealize.ShloMosaic Idealize.ShloMosaic.TcCoe

/-- The feed-forward part of every token. -/
def feed (x : Vec Ideal S8320x4096 .bf16) (w : Vec Ideal S4096x22016 .f32) (v : Vec Ideal S11008x4096 .f32) : Vec Ideal S8320x4096 .f32 :=
  fun i => Ffn.ffn (fun s k => x (ix2 s k)) (fun k f => w (ix2 k f)) (fun f e => v (ix2 f e)) (i 0) (i 1)

variable (m : (ℓ : Loc nD τ sig) → Buf (Elt Ideal) ℓ) (c : Dev nD)

/-- What a hidden unit of a step adds to an entry, counted with the filled-up ones. -/
def added (s : Fin 8320) (e : Fin 4096) (n : ℕ) : EReal :=
  Ffn.unitN (fun s k => m ((c : Thread nD τ).loc main_arg0) (ix2 s k)) (fun k f => m ((c : Thread nD τ).loc main_arg1) (ix2 k f))
    (fun f e => m ((c : Thread nD τ).loc main_arg2) (ix2 f e)) s e n

/-- A step's rows, from the arguments. -/
theorem rows_at (t : Fin grid0.N) (r : Fin 416) (k : Fin 4096) : (iblk m c 0 t : Vec Ideal S416x4096 .bf16) (ix2 r k)
    = m ((c : Thread nD τ).loc main_arg0) (ix2 (token t r) k) :=
  (iblk_0 m c t r k).trans (congrFun (V_main_arg0 m c) _)

/-- A step's gate weights, from the arguments. -/
theorem gate_at (t : Fin grid0.N) (k : Fin 4096) (f : Fin 512) : (iblk m c 1 t : Vec Ideal S4096x512 .bf16) (ix2 k f)
    = (if h : 512 * (t.val % 22) + f.val < 11008 then m ((c : Thread nD τ).loc main_arg1) (ix2 k ⟨512 * (t.val % 22) + f.val, by omega⟩)
        else (0 : EReal)) :=
  (iblk_1 m c t k f).trans (V_gate m c k (hidden t f))

/-- A step's up weights, from the arguments. -/
theorem up_at (t : Fin grid0.N) (k : Fin 4096) (f : Fin 512) : (iblk m c 2 t : Vec Ideal S4096x512 .bf16) (ix2 k f)
    = (if h : 512 * (t.val % 22) + f.val < 11008 then m ((c : Thread nD τ).loc main_arg1) (ix2 k ⟨11008 + (512 * (t.val % 22) + f.val), by omega⟩)
        else (0 : EReal)) :=
  (iblk_2 m c t k f).trans (V_up m c k (hidden t f))

/-- A step's output weights, from the arguments. -/
theorem out_at (t : Fin grid0.N) (f : Fin 512) (e : Fin 4096) : (iblk m c 3 t : Vec Ideal S512x4096 .bf16) (ix2 f e)
    = (if h : 512 * (t.val % 22) + f.val < 11008 then m ((c : Thread nD τ).loc main_arg2) (ix2 ⟨512 * (t.val % 22) + f.val, h⟩ e)
        else (0 : EReal)) :=
  (iblk_3 m c t f e).trans (V_out m c (hidden t f) e)

/-- A step's partial product. -/
abbrev part (t : Fin grid0.N) : Vec Ideal S416x4096 .f32 :=
  k0_pay1 (F := Ideal) (iblk m c 0 t) (iblk m c 1 t) (iblk m c 2 t) (iblk m c 3 t)

/-- An entry of a step's partial product: what the step's 512 hidden units add. -/
theorem part_block (t : Fin grid0.N) (r : Fin 416) (e : Fin 4096) :
    part m c t (ix2 r e) = ∑ f : Fin 512, added m c (token t r) e (512 * (t.val % 22) + f.val) := by
  refine (part_apply _ _ _ _ r e).trans ?_
  refine Finset.sum_congr rfl fun f _ => ?_
  simp only [rows_at, gate_at, up_at, out_at]
  unfold added Ffn.unitN
  by_cases h : 512 * (t.val % 22) + f.val < 11008
  · simp only [dif_pos h]
    rfl
  · simp only [dif_neg h, mul_zero]

/-- After a step, an entry of the output block holds what the hidden units of the block's steps so far add. -/
theorem left_at (n : ℕ) (hn : n < cfg0.N) (r : Fin 416) (e : Fin 4096) : outsAt0 m c n hn (ix2 r e)
    = ∑ i ∈ Finset.range (n % 22 + 1), ∑ f : Fin 512, added m c (token ⟨n, hn⟩ r) e (512 * i + f.val) := by
  induction n with
  | zero =>
    have h := outsAt0_A m c ⟨0, hn⟩ (Nat.zero_mod _) (by show ¬1 ≤ 0 % 22; omega)
    rw [left_first] at h
    refine (congrFun h (ix2 r e)).trans ((part_block m c ⟨0, hn⟩ r e).trans ?_)
    rw [Finset.sum_range_one]
    rfl
  | succ n ih =>
    by_cases h0 : (n + 1) % 22 = 0
    · have h := outsAt0_A m c ⟨n + 1, hn⟩ h0 (by show ¬1 ≤ (n + 1) % 22; omega)
      rw [left_first] at h
      refine (congrFun h (ix2 r e)).trans ((part_block m c ⟨n + 1, hn⟩ r e).trans ?_)
      show ∑ f : Fin 512, added m c (token ⟨n + 1, hn⟩ r) e (512 * ((n + 1) % 22) + f.val) = _
      rw [h0, Finset.sum_range_one]
    · have h := outsAt0_B m c ⟨n + 1, hn⟩ h0 (by show 1 ≤ (n + 1) % 22; omega)
      rw [left_next] at h
      refine (congrFun h (ix2 r e)).trans ?_
      show outsAt0 m c n (Nat.lt_of_succ_lt hn) (ix2 r e) + part m c ⟨n + 1, hn⟩ (ix2 r e) = _
      rw [ih (Nat.lt_of_succ_lt hn), part_block]
      have ht : token ⟨n, Nat.lt_of_succ_lt hn⟩ r = token ⟨n + 1, hn⟩ r := Fin.ext (by
        show n / 22 * 416 + r.val = (n + 1) / 22 * 416 + r.val
        omega)
      have hm : (n + 1) % 22 = n % 22 + 1 := by omega
      rw [ht]
      show _ + ∑ f : Fin 512, added m c (token ⟨n + 1, hn⟩ r) e (512 * ((n + 1) % 22) + f.val) = _
      rw [hm, Finset.sum_range_succ _ (n % 22 + 1)]

/-- What a block's last step leaves is the feed-forward part of its tokens. -/
theorem out_block (t : Fin grid0.N) (h : t.val % 22 = 21) (y : S416x4096.Idx) : outsAt0 m c t.val t.isLt y
    = feed (m ((c : Thread nD τ).loc main_arg0)) (m ((c : Thread nD τ).loc main_arg1)) (m ((c : Thread nD τ).loc main_arg2))
        (((cfg0.win 4).blk t).view.emb y : S8320x4096.Idx) := by
  have hy : y = (ix2 (y 0) (y 1) : S416x4096.Idx) := funext fun a => by
    match a with
    | ⟨0, _⟩ => rfl
    | ⟨1, _⟩ => rfl
  refine Eq.trans ?_ (congrArg (feed _ _ _) (emb_4 t y)).symm
  refine (congrArg (outsAt0 m c t.val t.isLt) hy).trans ((left_at m c t.val t.isLt (y 0) (y 1)).trans ?_)
  rw [h]
  exact Ffn.sum_units _ _ _ _ _

/-- The kernel's result is the feed-forward part. -/
theorem out_feed : ((dats m 0 c).arrAt 4 cfg0.N : Vec Ideal S8320x4096 .f32)
    = feed (m ((c : Thread nD τ).loc main_arg0)) (m ((c : Thread nD τ).loc main_arg1)) (m ((c : Thread nD τ).loc main_arg2)) := by
  refine (dats m 0 c).arrAt_eq_of_covers 4 _ (by decide +kernel) (fun t hf y => ?_)
  exact out_block m c t ((flush0_4 t).mp hf) y

end Cert.Kernel2Ideal.Hand

end
-- ==== Proof.FfnAlgebraic.lean ====
module

public import proofs.«01_k».proof.Defs
public import proofs.«01_k».proof.Proof.FfnOut
public import proofs.«01_k».proof.Proof.Gen.Kernel2
public import proofs.«01_k».proof.Proof.Gen.Reference2Ideal.Run
public import proofs.«01_k».proof.Proof.Gen.Reference2Ideal.Read

/-! The feed-forward kernel and its reference leave the same result. -/

@[expose] public section

set_option maxRecDepth 16384

noncomputable section

namespace Cert.Reference2Ideal.Hand

open Cert.Reference2Ideal Cert.Reference2Ideal.Gen Cert.Reference2Ideal.Read
open Idealize.ShloMosaic Idealize.ShloMosaic.TcCoe

variable (x : Vec Ideal S8320x4096 .bf16) (w : Vec Ideal S4096x22016 .f32) (v : Vec Ideal S11008x4096 .f32)

/-- The product with the input weights. -/
theorem proj_apply (s : Fin 8320) (f : Fin 22016) : val_main_v1 (F := Ideal) x w (ix2 s f)
    = Ffn.proj (fun s k => x (ix2 s k)) (fun k f => w (ix2 k f)) s f := by
  rw [val_main_v1_apply]
  refine Finset.sum_congr rfl fun k _ => ?_
  have e0 : lidx_main_v1 (ix2 s f) k = ix2 s k := funext fun a => by
    match a with | ⟨0, _⟩ => rfl | ⟨1, _⟩ => rfl
  have e1 : ridx_main_v1 (ix2 s f) k = ix2 k f := funext fun a => by
    match a with | ⟨0, _⟩ => rfl | ⟨1, _⟩ => rfl
  rw [e0, e1]
  rfl

/-- One is read as one. -/
theorem one_word : (FloatOps.ofBits (F := Ideal) FTy.f32 0x3F800000#32 : EReal) = 1 := by
  show Ideal.ofBits .f32 0x3F800000#32 = 1
  simp [Ideal.ofBits, Ideal.ieee, -EReal.coe_mul]
  norm_num

/-- The gated activations. -/
theorem act_apply (s : Fin 8320) (f : Fin 11008) : val_main_v5 (F := Ideal) x w (ix2 s f)
    = Ffn.act (Ffn.proj (fun s k => x (ix2 s k)) (fun k f => w (ix2 k f)) s ⟨f.val, by omega⟩)
        (Ffn.proj (fun s k => x (ix2 s k)) (fun k f => w (ix2 k f)) s ⟨11008 + f.val, by omega⟩) := by
  have hg : val_main_v2 (F := Ideal) x w (ix2 s f) = Ffn.proj (fun s k => x (ix2 s k)) (fun k f => w (ix2 k f)) s ⟨f.val, by omega⟩ := by
    rw [val_main_v2_apply, ← proj_apply]
    congr 1
    exact funext fun a => by match a with | ⟨0, _⟩ => rfl | ⟨1, _⟩ => rfl
  have hu : val_main_v4 (F := Ideal) x w (ix2 s f) = Ffn.proj (fun s k => x (ix2 s k)) (fun k f => w (ix2 k f)) s ⟨11008 + f.val, by omega⟩ := by
    rw [val_main_v4_apply, ← proj_apply]
    congr 1
    exact funext fun a => by match a with | ⟨0, _⟩ => rfl | ⟨1, _⟩ => rfl
  rw [val_main_v5_apply, val_main_v3_apply, val_main_call0_v5_apply, val_main_call0_v4_apply, val_main_call0_v3_apply,
    val_main_call0_v2_apply, val_main_call0_v1_apply, val_main_call0_v0_apply, val_main_call0_cst_apply, val_main_call0_cst_0_apply,
    hg, hu, one_word]
  rfl

/-- The reference's result is the feed-forward part. -/
theorem feed_apply : val_main_v6 (F := Ideal) x w v = Cert.Kernel2Ideal.Hand.feed x w v := by
  funext i
  rw [val_main_v6_apply]
  refine Finset.sum_congr rfl fun f _ => ?_
  have e0 : lidx_main_v6 i f = ix2 (i 0) f := funext fun a => by
    match a with | ⟨0, _⟩ => rfl | ⟨1, _⟩ => rfl
  have e1 : ridx_main_v6 i f = ix2 f (i 1) := funext fun a => by
    match a with | ⟨0, _⟩ => rfl | ⟨1, _⟩ => rfl
  rw [e0, e1]
  exact congrArg (· * v (ix2 f (i 1))) (act_apply x w (i 0) f)

end Cert.Reference2Ideal.Hand

namespace Cert.Proof

open Idealize.ShloMosaic Idealize.ShloMosaic.TcCoe Idealize.SL.Sem
open Cert.Kernel2Ideal Cert.Kernel2Ideal.Hand

/-- The feed-forward reference runs, and leaves its arguments and every counter alone. -/
theorem frame_ref2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The value claim of the feed-forward part: from the same arguments, the kernel and the reference end with the same
result, whatever the arguments. -/
theorem algebraic2 : Cert.algebraic_Kernel2Ideal_Reference2Ideal := by
  intro m g m' g' h hargs
  refine ⟨fun c => feed (m ((c : Thread nD τ).loc main_arg0)) (m ((c : Thread nD τ).loc main_arg1)) (m ((c : Thread nD τ).loc main_arg2)), ?_, ?_⟩
  · refine (θ_run Cert.Kernel2Ideal.defs _ _).mono (fun r hr c => ?_) (Cert.Kernel2Ideal.Value.run_blocks (F := Ideal) m g)
    obtain ⟨hv, a⟩ := hr c
    exact ⟨hv.trans (out_feed m c), a⟩
  · refine (θ_run Cert.Reference2Ideal.defs _ _).mono (fun r hr c => ?_) (Cert.Reference2Ideal.Value.run (F := Ideal) m' g')
    obtain ⟨hv, a⟩ := hr c
    obtain ⟨h0, h1, h2⟩ := hargs c
    refine ⟨(hv.trans (Cert.Reference2Ideal.Read.val_main_v6_eq _ _ _)).trans ?_, a⟩
    refine (Cert.Reference2Ideal.Hand.feed_apply _ _ _).trans ?_
    exact (congrArg₂ (fun x w => feed x w _) h0 h1).trans (congrArg (feed _ _) h2)

end Cert.Proof

end
-- ==== Proof.OutputProjection.lean ====
module

public import proofs.«01_k».proof.Defs
public import proofs.«01_k».proof.Proof.Gen.Kernel3Ideal.Value
public import proofs.«01_k».proof.Proof.Gen.Kernel3
public import proofs.«01_k».proof.Proof.Gen.Reference3Ideal.Run
public import proofs.«01_k».proof.Proof.Gen.Reference3Ideal.Read
public import Idealize.ShloMosaic.Lib.Pipeline.ValueKit.Geometry
public import Idealize.ShloMosaic.Lib.StableHlo.ReadAt
public import Idealize.ShloMosaic.Lib.Pointwise
public import Idealize.ShloMosaic.Lib.Tactic

/-! A mixer's output projection, added to the residual stream: the kernel and its reference leave the same result. -/

@[expose] public section

set_option maxRecDepth 16384

noncomputable section

namespace Cert.Kernel3Ideal.Hand

open Cert.Kernel3Ideal Cert.Kernel3Ideal.Gen
open Idealize.ShloMosaic Idealize.ShloMosaic.TcCoe

theorem zeros : (![0, 0] : Fin 2 → Nat) = fun _ => 0 := funext fun a => by fin_cases a <;> rfl

/-- Every token's product with the output weights, added to the residual stream. -/
def projected (x : Vec Ideal S8320x4096 .bf16) (w : Vec Ideal S4096x4096 .f32) (y : Vec Ideal S8320x4096 .f32) : Vec Ideal S8320x4096 .f32 :=
  fun i => y i + ∑ k : Fin 4096, x (ix2 (i 0) k) * w (ix2 k (i 1))

/-- What a grid step leaves in its block of the result: its rows' products with its columns, added to the block of the residual stream. -/
theorem left_3 (x0 : Vec Ideal S640x4096 .bf16) (x1 : Vec Ideal S4096x512 .bf16) (x2 : Vec Ideal S640x512 .f32) (r : Fin 640) (f : Fin 512) :
    out0_3 x0 x1 x2 (ix2 r f) = (x2 (ix2 r f) : EReal) + ∑ k : Fin 4096, (x0 (ix2 r k) : EReal) * x1 (ix2 k f) := by
  unfold out0_3
  rw [View.canon_unit_zero zeros]
  simp only [View.ld_unit_zero (S := S640x4096) zeros, View.ld_unit_zero (S := S4096x512) zeros, View.ld_unit_zero (S := S640x512) zeros]
  pointwise [k0_pay1]

variable (m : (ℓ : Loc nD τ sig) → Buf (Elt Ideal) ℓ) (c : Dev nD)

/-- The weights, as the kernel finds them: a change of format changes nothing. -/
theorem V_w (k : Fin 4096) (f : Fin 4096) : V m c main_v0 (ix2 k f) = m ((c : Thread nD τ).loc main_arg1) (ix2 k f) := by
  unfold V
  after_reads_at

theorem lt_N (t : Fin grid0.N) : t.val < 104 := Nat.lt_of_lt_of_eq t.isLt N_0

/-- The grid has 8 steps for each block of rows. -/
theorem coords_0 (t : Fin grid0.N) : (grid0.coords t 0).val = t.val / 8 := by
  have ht := lt_N t
  have e : (grid0.coords t 0).val = t.val / 8 % 13 := Pipeline.Grid.coords_val t 0 (by decide) rfl
  omega

theorem coords_1 (t : Fin grid0.N) : (grid0.coords t 1).val = t.val % 8 := by
  have e : (grid0.coords t 1).val = t.val / 1 % 8 := Pipeline.Grid.coords_val t 1 (by decide) rfl
  omega

/-- The token of a row of a step's block. -/
def token (t : Fin grid0.N) (r : Fin 640) : Fin 8320 := ⟨t.val / 8 * 640 + r.val, by have := lt_N t; omega⟩

/-- The column of the result of a column of a step's block. -/
def column (t : Fin grid0.N) (f : Fin 512) : Fin 4096 := ⟨t.val % 8 * 512 + f.val, by omega⟩

/-- A step's rows are its tokens'. -/
theorem iblk_0 (t : Fin grid0.N) (r : Fin 640) (k : Fin 4096) :
    (iblk m c 0 t : Vec Ideal S640x4096 .bf16) (ix2 r k) = m ((c : Thread nD τ).loc main_arg0) (ix2 (token t r) k) := by
  refine Eq.trans ?_ (congrFun (V_main_arg0 m c) _)
  show V m c main_arg0 (((cfg0.win 0).rect t).emb (ix2 r k)) = _
  congr 1
  funext x
  apply Fin.ext
  refine (Pipeline.Window.rect_emb_val (cfg0.win 0) t _ x).trans ?_
  have h := coords_0 t
  have hb := lt_N t
  show cc0_transform_0 (grid0.coords t) x * _ + _ = _
  unfold cc0_transform_0
  fin_cases x
  · show (BitVec.ofNat 32 (grid0.coords t 0).val).toNat * 640 + r.val = t.val / 8 * 640 + r.val
    rw [h, BitVec.toNat_ofNat]; omega
  · show (0 : Nat) * 4096 + k.val = k.val
    omega

/-- A step's weights are its columns'. -/
theorem iblk_1 (t : Fin grid0.N) (k : Fin 4096) (f : Fin 512) :
    (iblk m c 1 t : Vec Ideal S4096x512 .bf16) (ix2 k f) = V m c main_v0 (ix2 k (column t f)) := by
  show V m c main_v0 (((cfg0.win 1).rect t).emb (ix2 k f)) = _
  congr 1
  funext x
  apply Fin.ext
  refine (Pipeline.Window.rect_emb_val (cfg0.win 1) t _ x).trans ?_
  have h := coords_1 t
  have hb := lt_N t
  show cc0_transform_1 (grid0.coords t) x * _ + _ = _
  unfold cc0_transform_1
  fin_cases x
  · show (0 : Nat) * 4096 + k.val = k.val
    omega
  · show (BitVec.ofNat 32 (grid0.coords t 1).val).toNat * 512 + f.val = t.val % 8 * 512 + f.val
    rw [h, BitVec.toNat_ofNat]; omega

/-- A step's block of the residual stream. -/
theorem iblk_2 (t : Fin grid0.N) (y : S640x512.Idx) :
    (iblk m c 2 t : Vec Ideal S640x512 .f32) y = m ((c : Thread nD τ).loc main_arg2) (ix2 (token t (y 0)) (column t (y 1))) := by
  refine Eq.trans ?_ (congrFun (V_main_arg2 m c) _)
  show V m c main_arg2 (((cfg0.win 2).rect t).emb y) = _
  congr 1
  funext x
  apply Fin.ext
  refine (Pipeline.Window.rect_emb_val (cfg0.win 2) t _ x).trans ?_
  have h0 := coords_0 t
  have h1 := coords_1 t
  have hb := lt_N t
  show cc0_transform_2 (grid0.coords t) x * _ + _ = _
  unfold cc0_transform_2
  fin_cases x
  · show (BitVec.ofNat 32 (grid0.coords t 0).val).toNat * 640 + (y 0).val = t.val / 8 * 640 + (y 0).val
    rw [h0, BitVec.toNat_ofNat]; omega
  · show (BitVec.ofNat 32 (grid0.coords t 1).val).toNat * 512 + (y 1).val = t.val % 8 * 512 + (y 1).val
    rw [h1, BitVec.toNat_ofNat]; omega

/-- The place of a block's entry in the result. -/
theorem emb_3 (t : Fin grid0.N) (y : S640x512.Idx) :
    (((cfg0.win 3).blk t).view.emb y : S8320x4096.Idx) = ix2 (token t (y 0)) (column t (y 1)) := by
  show (((cfg0.win 3).rect t).emb y : S8320x4096.Idx) = _
  funext x
  apply Fin.ext
  refine (Pipeline.Window.rect_emb_val (cfg0.win 3) t _ x).trans ?_
  have h0 := coords_0 t
  have h1 := coords_1 t
  have hb := lt_N t
  show cc0_transform_3 (grid0.coords t) x * _ + _ = _
  unfold cc0_transform_3
  fin_cases x
  · show (BitVec.ofNat 32 (grid0.coords t 0).val).toNat * 640 + (y 0).val = t.val / 8 * 640 + (y 0).val
    rw [h0, BitVec.toNat_ofNat]; omega
  · show (BitVec.ofNat 32 (grid0.coords t 1).val).toNat * 512 + (y 1).val = t.val % 8 * 512 + (y 1).val
    rw [h1, BitVec.toNat_ofNat]; omega

/-- What a step leaves is its block of the result. -/
theorem out_block_3 (t : Fin grid0.N) (y : S640x512.Idx) : out0_3 (F := Ideal) (iblk m c 0 t) (iblk m c 1 t) (iblk m c 2 t) y
    = projected (m ((c : Thread nD τ).loc main_arg0)) (m ((c : Thread nD τ).loc main_arg1)) (m ((c : Thread nD τ).loc main_arg2)) (((cfg0.win 3).blk t).view.emb y : S8320x4096.Idx) := by
  have hy : y = (ix2 (y 0) (y 1) : S640x512.Idx) := funext fun a => by
    match a with
    | ⟨0, _⟩ => rfl
    | ⟨1, _⟩ => rfl
  refine Eq.trans ?_ (congrArg (projected _ _ _) (emb_3 t y)).symm
  refine (congrArg (out0_3 (F := Ideal) (iblk m c 0 t) (iblk m c 1 t) (iblk m c 2 t)) hy).trans ((left_3 _ _ _ (y 0) (y 1)).trans ?_)
  exact congrArg₂ (· + ·) (iblk_2 m c t (ix2 (y 0) (y 1)))
    (Finset.sum_congr rfl fun k _ => congrArg₂ (· * ·) (iblk_0 m c t (y 0) k) ((iblk_1 m c t k (y 1)).trans (V_w m c k (column t (y 1)))))

/-- The kernel's result. -/
theorem out_3 : ((dats m 0 c).arrAt 3 cfg0.N : Vec Ideal S8320x4096 .f32) = projected (m ((c : Thread nD τ).loc main_arg0)) (m ((c : Thread nD τ).loc main_arg1)) (m ((c : Thread nD τ).loc main_arg2)) := by
  refine (dats m 0 c).arrAt_eq_of_covers 3 _ (by decide +kernel) (fun t hf y => ?_)
  exact (congrFun (after0_3 m c t) y).trans (out_block_3 m c t y)

end Cert.Kernel3Ideal.Hand

namespace Cert.Reference3Ideal.Hand

open Cert.Reference3Ideal Cert.Reference3Ideal.Gen Cert.Reference3Ideal.Read
open Idealize.ShloMosaic Idealize.ShloMosaic.TcCoe

variable (x : Vec Ideal S8320x4096 .bf16) (w : Vec Ideal S4096x4096 .f32) (y : Vec Ideal S8320x4096 .f32)

/-- The reference's product. -/
theorem prod_apply (i : S8320x4096.Idx) : val_main_v1 (F := Ideal) x w i = ∑ k : Fin 4096, (x (ix2 (i 0) k) : EReal) * w (ix2 k (i 1)) := by
  rw [val_main_v1_apply]
  refine Finset.sum_congr rfl fun k _ => ?_
  have e0 : lidx_main_v1 i k = ix2 (i 0) k := funext fun a => by
    match a with | ⟨0, _⟩ => rfl | ⟨1, _⟩ => rfl
  have e1 : ridx_main_v1 i k = ix2 k (i 1) := funext fun a => by
    match a with | ⟨0, _⟩ => rfl | ⟨1, _⟩ => rfl
  rw [e0, e1]
  rfl

/-- The reference's result. -/
theorem ref_main_v2 : val_main_v2 (F := Ideal) x w y = Cert.Kernel3Ideal.Hand.projected x w y := by
  funext i
  rw [val_main_v2_apply, prod_apply]
  rfl

end Cert.Reference3Ideal.Hand

namespace Cert.Proof

open Idealize.ShloMosaic Idealize.ShloMosaic.TcCoe Idealize.SL.Sem
open Cert.Kernel3Ideal Cert.Kernel3Ideal.Hand

/-- The reference runs, and leaves its arguments and every counter alone. -/
theorem frame_ref3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The value claim: from the same arguments, the kernel and the reference end with the same result, whatever the
arguments. -/
theorem algebraic3 : Cert.algebraic_Kernel3Ideal_Reference3Ideal := by
  intro m g m' g' h hargs
  refine ⟨fun c => projected (m ((c : Thread nD τ).loc main_arg0)) (m ((c : Thread nD τ).loc main_arg1)) (m ((c : Thread nD τ).loc main_arg2)), ?_, ?_⟩
  · refine (θ_run Cert.Kernel3Ideal.defs _ _).mono (fun r hr c => ?_) (Cert.Kernel3Ideal.Value.run_blocks (F := Ideal) m g)
    obtain ⟨hv, a⟩ := hr c
    exact ⟨hv.trans (out_3 m c), a⟩
  · refine (θ_run Cert.Reference3Ideal.defs _ _).mono (fun r hr c => ?_) (Cert.Reference3Ideal.Value.run (F := Ideal) m' g')
    obtain ⟨hv, a⟩ := hr c
    obtain ⟨h0, h1, h2⟩ := hargs c
    have same : projected (m' ((c : Thread Cert.Reference3Ideal.nD Cert.Reference3Ideal.τ).loc Cert.Reference3Ideal.main_arg0))
        (m' ((c : Thread Cert.Reference3Ideal.nD Cert.Reference3Ideal.τ).loc Cert.Reference3Ideal.main_arg1))
        (m' ((c : Thread Cert.Reference3Ideal.nD Cert.Reference3Ideal.τ).loc Cert.Reference3Ideal.main_arg2))
        = projected (m ((c : Thread nD τ).loc main_arg0)) (m ((c : Thread nD τ).loc main_arg1)) (m ((c : Thread nD τ).loc main_arg2)) :=
      (congrArg₂ (fun x w => projected x w _) h0 h1).trans (congrArg (projected _ _) h2)
    exact ⟨(hv.trans (Cert.Reference3Ideal.Read.val_main_v2_eq _ _ _)).trans ((Cert.Reference3Ideal.Hand.ref_main_v2 _ _ _).trans same), a⟩

end Cert.Proof

end
-- ==== Proof.CacheRows.lean ====
module

public import proofs.«01_k».proof.Defs
public import proofs.«01_k».proof.Proof.Gen.Kernel4Ideal.Value
public import proofs.«01_k».proof.Proof.Gen.Kernel4
public import proofs.«01_k».proof.Proof.Gen.Reference4Ideal.Run
public import proofs.«01_k».proof.Proof.Gen.Reference4Ideal.Read
public import Idealize.ShloMosaic.Lib.Pipeline.ValueKit.Geometry
public import Idealize.ShloMosaic.Lib.StableHlo.ReadAt
public import Idealize.ShloMosaic.Lib.Pointwise
public import Idealize.ShloMosaic.Lib.Tactic

/-! The new cache rows of the differential and the stick-breaking mixer: the kernel and its reference leave the same results. -/

@[expose] public section

set_option maxRecDepth 16384

noncomputable section

namespace Cert.Kernel4Ideal.Hand

open Cert.Kernel4Ideal Cert.Kernel4Ideal.Gen
open Idealize.ShloMosaic Idealize.ShloMosaic.TcCoe

theorem zeros : (![0, 0] : Fin 2 → Nat) = fun _ => 0 := funext fun a => by fin_cases a <;> rfl

/-- The columns of the combined projection from 4096 on. -/
def rows (x : Vec Ideal S8320x4096 .bf16) (w : Vec Ideal S4096x4608 .f32) : S8320x512.Idx → EReal :=
  fun i => ∑ k : Fin 4096, (x (ix2 (i 0) k) : EReal) * w (ix2 k ⟨4096 + (i 1).val, by have h : (i 1).val < 512 := (i 1).isLt; omega⟩)

/-- What a grid step leaves in its block of the result: its rows' products with its columns. -/
theorem left_2 (x0 : Vec Ideal S640x4096 .bf16) (x1 : Vec Ideal S4096x512 .bf16) (r : Fin 640) (f : Fin 512) :
    out0_2 x0 x1 (ix2 r f) = ∑ k : Fin 4096, (x0 (ix2 r k) : EReal) * x1 (ix2 k f) := by
  unfold out0_2
  rw [View.canon_unit_zero zeros]
  simp only [View.ld_unit_zero (S := S640x4096) zeros, View.ld_unit_zero (S := S4096x512) zeros]
  pointwise [k0_pay1]

/-- What a grid step leaves in its block of the result: its rows' products with its columns. -/
theorem left_3 (x0 : Vec Ideal S640x4096 .bf16) (x1 : Vec Ideal S4096x512 .bf16) (r : Fin 640) (f : Fin 512) :
    out0_3 x0 x1 (ix2 r f) = ∑ k : Fin 4096, (x0 (ix2 r k) : EReal) * x1 (ix2 k f) := by
  unfold out0_3
  rw [View.canon_unit_zero zeros]
  simp only [View.ld_unit_zero (S := S640x4096) zeros, View.ld_unit_zero (S := S4096x512) zeros]
  pointwise [k0_pay2, k0_pay1]

variable (m : (ℓ : Loc nD τ sig) → Buf (Elt Ideal) ℓ) (c : Dev nD)

/-- The weights, as the kernel finds them: a change of format changes nothing. -/
theorem V_w (k : Fin 4096) (f : Fin 512) : V m c main_v1 (ix2 k f) = m ((c : Thread nD τ).loc main_arg1) (ix2 k ⟨4096 + f.val, by omega⟩) := by
  unfold V
  after_reads_at

theorem lt_N (t : Fin grid0.N) : t.val < 13 := Nat.lt_of_lt_of_eq t.isLt N_0

/-- The grid has one step for each block of rows. -/
theorem coords_0 (t : Fin grid0.N) : (grid0.coords t 0).val = t.val / 1 := by
  have ht := lt_N t
  have e : (grid0.coords t 0).val = t.val / 1 % 13 := Pipeline.Grid.coords_val t 0 (by decide) rfl
  omega

theorem coords_1 (t : Fin grid0.N) : (grid0.coords t 1).val = t.val % 1 := by
  have e : (grid0.coords t 1).val = t.val / 1 % 1 := Pipeline.Grid.coords_val t 1 (by decide) rfl
  omega

/-- The token of a row of a step's block. -/
def token (t : Fin grid0.N) (r : Fin 640) : Fin 8320 := ⟨t.val / 1 * 640 + r.val, by have := lt_N t; omega⟩

/-- The column of the result of a column of a step's block. -/
def column (t : Fin grid0.N) (f : Fin 512) : Fin 512 := ⟨t.val % 1 * 512 + f.val, by omega⟩

/-- A step's rows are its tokens'. -/
theorem iblk_0 (t : Fin grid0.N) (r : Fin 640) (k : Fin 4096) :
    (iblk m c 0 t : Vec Ideal S640x4096 .bf16) (ix2 r k) = m ((c : Thread nD τ).loc main_arg0) (ix2 (token t r) k) := by
  refine Eq.trans ?_ (congrFun (V_main_arg0 m c) _)
  show V m c main_arg0 (((cfg0.win 0).rect t).emb (ix2 r k)) = _
  congr 1
  funext x
  apply Fin.ext
  refine (Pipeline.Window.rect_emb_val (cfg0.win 0) t _ x).trans ?_
  have h := coords_0 t
  have hb := lt_N t
  show cc0_transform_0 (grid0.coords t) x * _ + _ = _
  unfold cc0_transform_0
  fin_cases x
  · show (BitVec.ofNat 32 (grid0.coords t 0).val).toNat * 640 + r.val = t.val / 1 * 640 + r.val
    rw [h, BitVec.toNat_ofNat]; omega
  · show (0 : Nat) * 4096 + k.val = k.val
    omega

/-- A step's weights are its columns'. -/
theorem iblk_1 (t : Fin grid0.N) (k : Fin 4096) (f : Fin 512) :
    (iblk m c 1 t : Vec Ideal S4096x512 .bf16) (ix2 k f) = V m c main_v1 (ix2 k (column t f)) := by
  show V m c main_v1 (((cfg0.win 1).rect t).emb (ix2 k f)) = _
  congr 1
  funext x
  apply Fin.ext
  refine (Pipeline.Window.rect_emb_val (cfg0.win 1) t _ x).trans ?_
  have h := coords_1 t
  have hb := lt_N t
  show cc0_transform_1 (grid0.coords t) x * _ + _ = _
  unfold cc0_transform_1
  fin_cases x
  · show (0 : Nat) * 4096 + k.val = k.val
    omega
  · show (BitVec.ofNat 32 (grid0.coords t 1).val).toNat * 512 + f.val = t.val % 1 * 512 + f.val
    rw [h, BitVec.toNat_ofNat]; omega

/-- The place of a block's entry in the result. -/
theorem emb_2 (t : Fin grid0.N) (y : S640x512.Idx) :
    (((cfg0.win 2).blk t).view.emb y : S8320x512.Idx) = ix2 (token t (y 0)) (column t (y 1)) := by
  show (((cfg0.win 2).rect t).emb y : S8320x512.Idx) = _
  funext x
  apply Fin.ext
  refine (Pipeline.Window.rect_emb_val (cfg0.win 2) t _ x).trans ?_
  have h0 := coords_0 t
  have h1 := coords_1 t
  have hb := lt_N t
  show cc0_transform_2 (grid0.coords t) x * _ + _ = _
  unfold cc0_transform_2
  fin_cases x
  · show (BitVec.ofNat 32 (grid0.coords t 0).val).toNat * 640 + (y 0).val = t.val / 1 * 640 + (y 0).val
    rw [h0, BitVec.toNat_ofNat]; omega
  · show (BitVec.ofNat 32 (grid0.coords t 1).val).toNat * 512 + (y 1).val = t.val % 1 * 512 + (y 1).val
    rw [h1, BitVec.toNat_ofNat]; omega

/-- What a step leaves is its block of the result. -/
theorem out_block_2 (t : Fin grid0.N) (y : S640x512.Idx) : out0_2 (F := Ideal) (iblk m c 0 t) (iblk m c 1 t) y
    = rows (m ((c : Thread nD τ).loc main_arg0)) (m ((c : Thread nD τ).loc main_arg1)) (((cfg0.win 2).blk t).view.emb y : S8320x512.Idx) := by
  have hy : y = (ix2 (y 0) (y 1) : S640x512.Idx) := funext fun a => by
    match a with
    | ⟨0, _⟩ => rfl
    | ⟨1, _⟩ => rfl
  refine Eq.trans ?_ (congrArg (rows _ _) (emb_2 t y)).symm
  refine (congrArg (out0_2 (F := Ideal) (iblk m c 0 t) (iblk m c 1 t)) hy).trans ((left_2 _ _ (y 0) (y 1)).trans ?_)
  exact Finset.sum_congr rfl fun k _ => congrArg₂ (· * ·) (iblk_0 m c t (y 0) k) ((iblk_1 m c t k (y 1)).trans (V_w m c k (column t (y 1))))

/-- The kernel's result in the format of this window. -/
theorem out_2 : ((dats m 0 c).arrAt 2 cfg0.N : Vec Ideal S8320x512 .f32) = rows (m ((c : Thread nD τ).loc main_arg0)) (m ((c : Thread nD τ).loc main_arg1)) := by
  refine (dats m 0 c).arrAt_eq_of_covers 2 _ (by decide +kernel) (fun t hf y => ?_)
  exact (congrFun (after0_2 m c t) y).trans (out_block_2 m c t y)

/-- The place of a block's entry in the result. -/
theorem emb_3 (t : Fin grid0.N) (y : S640x512.Idx) :
    (((cfg0.win 3).blk t).view.emb y : S8320x512.Idx) = ix2 (token t (y 0)) (column t (y 1)) := by
  show (((cfg0.win 3).rect t).emb y : S8320x512.Idx) = _
  funext x
  apply Fin.ext
  refine (Pipeline.Window.rect_emb_val (cfg0.win 3) t _ x).trans ?_
  have h0 := coords_0 t
  have h1 := coords_1 t
  have hb := lt_N t
  show cc0_transform_3 (grid0.coords t) x * _ + _ = _
  unfold cc0_transform_3
  fin_cases x
  · show (BitVec.ofNat 32 (grid0.coords t 0).val).toNat * 640 + (y 0).val = t.val / 1 * 640 + (y 0).val
    rw [h0, BitVec.toNat_ofNat]; omega
  · show (BitVec.ofNat 32 (grid0.coords t 1).val).toNat * 512 + (y 1).val = t.val % 1 * 512 + (y 1).val
    rw [h1, BitVec.toNat_ofNat]; omega

/-- What a step leaves is its block of the result. -/
theorem out_block_3 (t : Fin grid0.N) (y : S640x512.Idx) : out0_3 (F := Ideal) (iblk m c 0 t) (iblk m c 1 t) y
    = rows (m ((c : Thread nD τ).loc main_arg0)) (m ((c : Thread nD τ).loc main_arg1)) (((cfg0.win 3).blk t).view.emb y : S8320x512.Idx) := by
  have hy : y = (ix2 (y 0) (y 1) : S640x512.Idx) := funext fun a => by
    match a with
    | ⟨0, _⟩ => rfl
    | ⟨1, _⟩ => rfl
  refine Eq.trans ?_ (congrArg (rows _ _) (emb_3 t y)).symm
  refine (congrArg (out0_3 (F := Ideal) (iblk m c 0 t) (iblk m c 1 t)) hy).trans ((left_3 _ _ (y 0) (y 1)).trans ?_)
  exact Finset.sum_congr rfl fun k _ => congrArg₂ (· * ·) (iblk_0 m c t (y 0) k) ((iblk_1 m c t k (y 1)).trans (V_w m c k (column t (y 1))))

/-- The kernel's result in the format of this window. -/
theorem out_3 : ((dats m 0 c).arrAt 3 cfg0.N : Vec Ideal S8320x512 .bf16) = rows (m ((c : Thread nD τ).loc main_arg0)) (m ((c : Thread nD τ).loc main_arg1)) := by
  refine (dats m 0 c).arrAt_eq_of_covers 3 _ (by decide +kernel) (fun t hf y => ?_)
  exact (congrFun (after0_3 m c t) y).trans (out_block_3 m c t y)

end Cert.Kernel4Ideal.Hand

namespace Cert.Reference4Ideal.Hand

open Cert.Reference4Ideal Cert.Reference4Ideal.Gen Cert.Reference4Ideal.Read
open Idealize.ShloMosaic Idealize.ShloMosaic.TcCoe

variable (x : Vec Ideal S8320x4096 .bf16) (w : Vec Ideal S4096x4608 .f32)

/-- The reference's product. -/
theorem prod_apply (i : S8320x4608.Idx) : val_main_v1 (F := Ideal) x w i = ∑ k : Fin 4096, (x (ix2 (i 0) k) : EReal) * w (ix2 k (i 1)) := by
  rw [val_main_v1_apply]
  refine Finset.sum_congr rfl fun k _ => ?_
  have e0 : lidx_main_v1 i k = ix2 (i 0) k := funext fun a => by
    match a with | ⟨0, _⟩ => rfl | ⟨1, _⟩ => rfl
  have e1 : ridx_main_v1 i k = ix2 k (i 1) := funext fun a => by
    match a with | ⟨0, _⟩ => rfl | ⟨1, _⟩ => rfl
  rw [e0, e1]
  rfl

/-- The reference's result. -/
theorem ref_main_v2 : val_main_v2 (F := Ideal) x w = Cert.Kernel4Ideal.Hand.rows x w := by
  funext i
  rw [val_main_v2_apply, prod_apply]
  refine Finset.sum_congr rfl fun k _ => ?_
  rfl

/-- The reference's result. -/
theorem ref_main_v3 : val_main_v3 (F := Ideal) x w = Cert.Kernel4Ideal.Hand.rows x w := by
  funext i
  rw [val_main_v3_apply]
  exact congrFun (ref_main_v2 x w) i

end Cert.Reference4Ideal.Hand

namespace Cert.Proof

open Idealize.ShloMosaic Idealize.ShloMosaic.TcCoe Idealize.SL.Sem
open Cert.Kernel4Ideal Cert.Kernel4Ideal.Hand

/-- The reference runs, and leaves its arguments and every counter alone. -/
theorem frame_ref4 : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

/-- The value claim: from the same arguments, the kernel and the reference end with the same results, whatever the
arguments. -/
theorem algebraic4 : Cert.algebraic_Kernel4Ideal_Reference4Ideal := by
  intro m g m' g' h hargs
  refine ⟨fun c => rows (m ((c : Thread nD τ).loc main_arg0)) (m ((c : Thread nD τ).loc main_arg1)), fun c => rows (m ((c : Thread nD τ).loc main_arg0)) (m ((c : Thread nD τ).loc main_arg1)), ?_, ?_⟩
  · refine (θ_run Cert.Kernel4Ideal.defs _ _).mono (fun r hr c => ?_) (Cert.Kernel4Ideal.Value.run_blocks (F := Ideal) m g)
    obtain ⟨hv, hw, a⟩ := hr c
    exact ⟨hv.trans (out_2 m c), hw.trans (out_3 m c), a⟩
  · refine (θ_run Cert.Reference4Ideal.defs _ _).mono (fun r hr c => ?_) (Cert.Reference4Ideal.Value.run (F := Ideal) m' g')
    obtain ⟨hv, hw, a⟩ := hr c
    obtain ⟨h0, h1⟩ := hargs c
    have same : rows (m' ((c : Thread Cert.Reference4Ideal.nD Cert.Reference4Ideal.τ).loc Cert.Reference4Ideal.main_arg0))
        (m' ((c : Thread Cert.Reference4Ideal.nD Cert.Reference4Ideal.τ).loc Cert.Reference4Ideal.main_arg1))
        = rows (m ((c : Thread nD τ).loc main_arg0)) (m ((c : Thread nD τ).loc main_arg1)) :=
      congrArg₂ (fun x w => rows x w) h0 h1
    exact ⟨(hv.trans (Cert.Reference4Ideal.Read.val_main_v2_eq _ _)).trans ((Cert.Reference4Ideal.Hand.ref_main_v2 _ _).trans same),
      (hw.trans (Cert.Reference4Ideal.Read.val_main_v3_eq _ _)).trans ((Cert.Reference4Ideal.Hand.ref_main_v3 _ _).trans same), a⟩

end Cert.Proof

end
-- ==== Proof.Queries.lean ====
module

public import proofs.«01_k».proof.Defs
public import proofs.«01_k».proof.Proof.Gen.Kernel5Ideal.Value
public import proofs.«01_k».proof.Proof.Gen.Kernel5
public import proofs.«01_k».proof.Proof.Gen.Reference5Ideal.Run
public import proofs.«01_k».proof.Proof.Gen.Reference5Ideal.Read
public import Idealize.ShloMosaic.Lib.Pipeline.ValueKit.Geometry
public import Idealize.ShloMosaic.Lib.StableHlo.ReadAt
public import Idealize.ShloMosaic.Lib.Pointwise
public import Idealize.ShloMosaic.Lib.Tactic

/-! The queries of a mixer: the kernel and its reference leave the same result. -/

@[expose] public section

set_option maxRecDepth 16384

noncomputable section

namespace Cert.Kernel5Ideal.Hand

open Cert.Kernel5Ideal Cert.Kernel5Ideal.Gen
open Idealize.ShloMosaic Idealize.ShloMosaic.TcCoe

theorem zeros : (![0, 0] : Fin 2 → Nat) = fun _ => 0 := funext fun a => by fin_cases a <;> rfl

/-- Every token's product with the query weights. -/
def queries (x : Vec Ideal S8320x4096 .bf16) (w : Vec Ideal S4096x4096 .f32) : S8320x4096.Idx → EReal :=
  fun i => ∑ k : Fin 4096, (x (ix2 (i 0) k) : EReal) * w (ix2 k (i 1))

/-- What a grid step leaves in its block of the result: its rows' products with its columns. -/
theorem left_2 (x0 : Vec Ideal S640x4096 .bf16) (x1 : Vec Ideal S4096x512 .bf16) (r : Fin 640) (f : Fin 512) :
    out0_2 x0 x1 (ix2 r f) = ∑ k : Fin 4096, (x0 (ix2 r k) : EReal) * x1 (ix2 k f) := by
  unfold out0_2
  rw [View.canon_unit_zero zeros]
  simp only [View.ld_unit_zero (S := S640x4096) zeros, View.ld_unit_zero (S := S4096x512) zeros]
  pointwise [k0_pay1]

variable (m : (ℓ : Loc nD τ sig) → Buf (Elt Ideal) ℓ) (c : Dev nD)

/-- The weights, as the kernel finds them: a change of format changes nothing. -/
theorem V_w (k : Fin 4096) (f : Fin 4096) : V m c main_v0 (ix2 k f) = m ((c : Thread nD τ).loc main_arg1) (ix2 k f) := by
  unfold V
  after_reads_at

theorem lt_N (t : Fin grid0.N) : t.val < 104 := Nat.lt_of_lt_of_eq t.isLt N_0

/-- The grid has 8 steps for each block of rows. -/
theorem coords_0 (t : Fin grid0.N) : (grid0.coords t 0).val = t.val / 8 := by
  have ht := lt_N t
  have e : (grid0.coords t 0).val = t.val / 8 % 13 := Pipeline.Grid.coords_val t 0 (by decide) rfl
  omega

theorem coords_1 (t : Fin grid0.N) : (grid0.coords t 1).val = t.val % 8 := by
  have e : (grid0.coords t 1).val = t.val / 1 % 8 := Pipeline.Grid.coords_val t 1 (by decide) rfl
  omega

/-- The token of a row of a step's block. -/
def token (t : Fin grid0.N) (r : Fin 640) : Fin 8320 := ⟨t.val / 8 * 640 + r.val, by have := lt_N t; omega⟩

/-- The column of the result of a column of a step's block. -/
def column (t : Fin grid0.N) (f : Fin 512) : Fin 4096 := ⟨t.val % 8 * 512 + f.val, by omega⟩

/-- A step's rows are its tokens'. -/
theorem iblk_0 (t : Fin grid0.N) (r : Fin 640) (k : Fin 4096) :
    (iblk m c 0 t : Vec Ideal S640x4096 .bf16) (ix2 r k) = m ((c : Thread nD τ).loc main_arg0) (ix2 (token t r) k) := by
  refine Eq.trans ?_ (congrFun (V_main_arg0 m c) _)
  show V m c main_arg0 (((cfg0.win 0).rect t).emb (ix2 r k)) = _
  congr 1
  funext x
  apply Fin.ext
  refine (Pipeline.Window.rect_emb_val (cfg0.win 0) t _ x).trans ?_
  have h := coords_0 t
  have hb := lt_N t
  show cc0_transform_0 (grid0.coords t) x * _ + _ = _
  unfold cc0_transform_0
  fin_cases x
  · show (BitVec.ofNat 32 (grid0.coords t 0).val).toNat * 640 + r.val = t.val / 8 * 640 + r.val
    rw [h, BitVec.toNat_ofNat]; omega
  · show (0 : Nat) * 4096 + k.val = k.val
    omega

/-- A step's weights are its columns'. -/
theorem iblk_1 (t : Fin grid0.N) (k : Fin 4096) (f : Fin 512) :
    (iblk m c 1 t : Vec Ideal S4096x512 .bf16) (ix2 k f) = V m c main_v0 (ix2 k (column t f)) := by
  show V m c main_v0 (((cfg0.win 1).rect t).emb (ix2 k f)) = _
  congr 1
  funext x
  apply Fin.ext
  refine (Pipeline.Window.rect_emb_val (cfg0.win 1) t _ x).trans ?_
  have h := coords_1 t
  have hb := lt_N t
  show cc0_transform_1 (grid0.coords t) x * _ + _ = _
  unfold cc0_transform_1
  fin_cases x
  · show (0 : Nat) * 4096 + k.val = k.val
    omega
  · show (BitVec.ofNat 32 (grid0.coords t 1).val).toNat * 512 + f.val = t.val % 8 * 512 + f.val
    rw [h, BitVec.toNat_ofNat]; omega

/-- The place of a block's entry in the result. -/
theorem emb_2 (t : Fin grid0.N) (y : S640x512.Idx) :
    (((cfg0.win 2).blk t).view.emb y : S8320x4096.Idx) = ix2 (token t (y 0)) (column t (y 1)) := by
  show (((cfg0.win 2).rect t).emb y : S8320x4096.Idx) = _
  funext x
  apply Fin.ext
  refine (Pipeline.Window.rect_emb_val (cfg0.win 2) t _ x).trans ?_
  have h0 := coords_0 t
  have h1 := coords_1 t
  have hb := lt_N t
  show cc0_transform_2 (grid0.coords t) x * _ + _ = _
  unfold cc0_transform_2
  fin_cases x
  · show (BitVec.ofNat 32 (grid0.coords t 0).val).toNat * 640 + (y 0).val = t.val / 8 * 640 + (y 0).val
    rw [h0, BitVec.toNat_ofNat]; omega
  · show (BitVec.ofNat 32 (grid0.coords t 1).val).toNat * 512 + (y 1).val = t.val % 8 * 512 + (y 1).val
    rw [h1, BitVec.toNat_ofNat]; omega

/-- What a step leaves is its block of the result. -/
theorem out_block_2 (t : Fin grid0.N) (y : S640x512.Idx) : out0_2 (F := Ideal) (iblk m c 0 t) (iblk m c 1 t) y
    = queries (m ((c : Thread nD τ).loc main_arg0)) (m ((c : Thread nD τ).loc main_arg1)) (((cfg0.win 2).blk t).view.emb y : S8320x4096.Idx) := by
  have hy : y = (ix2 (y 0) (y 1) : S640x512.Idx) := funext fun a => by
    match a with
    | ⟨0, _⟩ => rfl
    | ⟨1, _⟩ => rfl
  refine Eq.trans ?_ (congrArg (queries _ _) (emb_2 t y)).symm
  refine (congrArg (out0_2 (F := Ideal) (iblk m c 0 t) (iblk m c 1 t)) hy).trans ((left_2 _ _ (y 0) (y 1)).trans ?_)
  exact Finset.sum_congr rfl fun k _ => congrArg₂ (· * ·) (iblk_0 m c t (y 0) k) ((iblk_1 m c t k (y 1)).trans (V_w m c k (column t (y 1))))

/-- The kernel's result. -/
theorem out_2 : ((dats m 0 c).arrAt 2 cfg0.N : Vec Ideal S8320x4096 .bf16) = queries (m ((c : Thread nD τ).loc main_arg0)) (m ((c : Thread nD τ).loc main_arg1)) := by
  refine (dats m 0 c).arrAt_eq_of_covers 2 _ (by decide +kernel) (fun t hf y => ?_)
  exact (congrFun (after0_2 m c t) y).trans (out_block_2 m c t y)

end Cert.Kernel5Ideal.Hand

namespace Cert.Reference5Ideal.Hand

open Cert.Reference5Ideal Cert.Reference5Ideal.Gen Cert.Reference5Ideal.Read
open Idealize.ShloMosaic Idealize.ShloMosaic.TcCoe

variable (x : Vec Ideal S8320x4096 .bf16) (w : Vec Ideal S4096x4096 .f32)

/-- The reference's product. -/
theorem prod_apply (i : S8320x4096.Idx) : val_main_v1 (F := Ideal) x w i = ∑ k : Fin 4096, (x (ix2 (i 0) k) : EReal) * w (ix2 k (i 1)) := by
  rw [val_main_v1_apply]
  refine Finset.sum_congr rfl fun k _ => ?_
  have e0 : lidx_main_v1 i k = ix2 (i 0) k := funext fun a => by
    match a with | ⟨0, _⟩ => rfl | ⟨1, _⟩ => rfl
  have e1 : ridx_main_v1 i k = ix2 k (i 1) := funext fun a => by
    match a with | ⟨0, _⟩ => rfl | ⟨1, _⟩ => rfl
  rw [e0, e1]
  rfl

/-- The reference's result. -/
theorem ref_main_v2 : val_main_v2 (F := Ideal) x w = Cert.Kernel5Ideal.Hand.queries x w := by
  funext i
  rw [val_main_v2_apply, prod_apply]
  rfl

end Cert.Reference5Ideal.Hand

namespace Cert.Proof

open Idealize.ShloMosaic Idealize.ShloMosaic.TcCoe Idealize.SL.Sem
open Cert.Kernel5Ideal Cert.Kernel5Ideal.Hand

/-- The reference runs, and leaves its arguments and every counter alone. -/
theorem frame_ref5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The value claim: from the same arguments, the kernel and the reference end with the same result, whatever the
arguments. -/
theorem algebraic5 : Cert.algebraic_Kernel5Ideal_Reference5Ideal := by
  intro m g m' g' h hargs
  refine ⟨fun c => queries (m ((c : Thread nD τ).loc main_arg0)) (m ((c : Thread nD τ).loc main_arg1)), ?_, ?_⟩
  · refine (θ_run Cert.Kernel5Ideal.defs _ _).mono (fun r hr c => ?_) (Cert.Kernel5Ideal.Value.run_blocks (F := Ideal) m g)
    obtain ⟨hv, a⟩ := hr c
    exact ⟨hv.trans (out_2 m c), a⟩
  · refine (θ_run Cert.Reference5Ideal.defs _ _).mono (fun r hr c => ?_) (Cert.Reference5Ideal.Value.run (F := Ideal) m' g')
    obtain ⟨hv, a⟩ := hr c
    obtain ⟨h0, h1⟩ := hargs c
    have same : queries (m' ((c : Thread Cert.Reference5Ideal.nD Cert.Reference5Ideal.τ).loc Cert.Reference5Ideal.main_arg0))
        (m' ((c : Thread Cert.Reference5Ideal.nD Cert.Reference5Ideal.τ).loc Cert.Reference5Ideal.main_arg1))
        = queries (m ((c : Thread nD τ).loc main_arg0)) (m ((c : Thread nD τ).loc main_arg1)) :=
      congrArg₂ (fun x w => queries x w) h0 h1
    exact ⟨(hv.trans (Cert.Reference5Ideal.Read.val_main_v2_eq _ _)).trans ((Cert.Reference5Ideal.Hand.ref_main_v2 _ _).trans same), a⟩

end Cert.Proof

end
-- ==== Proof.FinalNorm.lean ====
module

public import proofs.«01_k».proof.Defs
public import proofs.«01_k».proof.Proof.Gen.Kernel6Ideal.Value
public import proofs.«01_k».proof.Proof.Gen.Kernel6
public import proofs.«01_k».proof.Proof.Gen.Reference6Ideal.Run
public import proofs.«01_k».proof.Proof.Gen.Reference6Ideal.Read
public import Idealize.ShloMosaic.Lib.Pipeline.ValueKit.Geometry
public import Idealize.ShloMosaic.Lib.StableHlo.ReadAt
public import Idealize.ShloMosaic.Lib.Pointwise
public import Idealize.ShloMosaic.Lib.Tactic

/-! The last residual sum and the last norm: the kernel and its reference leave the same result. -/

@[expose] public section

set_option maxRecDepth 16384

noncomputable section

namespace Cert.Kernel6Ideal.Hand

open Cert.Kernel6Ideal Cert.Kernel6Ideal.Gen
open Idealize.ShloMosaic Idealize.ShloMosaic.TcCoe

theorem zeros : (![0, 0] : Fin 2 → Nat) = fun _ => 0 := funext fun a => by fin_cases a <;> rfl

/-- An entry of a row `z`, over the root of the row's mean square, times a gain. -/
def normed (z : Fin 4096 → EReal) (g : EReal) (e : Fin 4096) : EReal :=
  z e * Ideal.rsqrt (Ideal.div (∑ k : Fin 4096, z k * z k) (Ideal.ofBits .f32 0x45800000#32) + Ideal.ofBits .f32 0x358637BD#32) * g

/-- The sum of two arrays, every row normed. -/
def finished (x d : Vec Ideal S8320x4096 .f32) (g : Vec Ideal S4096 .f32) : S8320x4096.Idx → EReal :=
  fun i => normed (fun k => (x (ix2 (i 0) k) : EReal) + d (ix2 (i 0) k)) (g (ix1 (i 1))) (i 1)

/-- What a grid step leaves in its block of the result. -/
theorem left_3 (x0 x1 : Vec Ideal S320x4096 .f32) (x2 : Vec Ideal S1x4096 .f32) (r : Fin 320) (e : Fin 4096) :
    out0_3 x0 x1 x2 (ix2 r e) = normed (fun k => (x0 (ix2 r k) : EReal) + x1 (ix2 r k)) (x2 (ix2 0 e)) e := by
  unfold out0_3
  rw [View.canon_unit_zero zeros]
  simp only [View.ld_unit_zero (S := S320x4096) zeros, View.ld_unit_zero (S := S1x4096) zeros]
  pointwise [k0_pay1]
  rfl

variable (m : (ℓ : Loc nD τ sig) → Buf (Elt Ideal) ℓ) (c : Dev nD)

/-- The gain, as the kernel finds it. -/
theorem V_gain (e : Fin 4096) : V m c main_v0 (ix2 0 e) = m ((c : Thread nD τ).loc main_arg2) (ix1 e) := by
  unfold V
  after_reads_at

theorem lt_N (t : Fin grid0.N) : t.val < 26 := Nat.lt_of_lt_of_eq t.isLt N_0

/-- The grid has one step for each block of rows. -/
theorem coords_0 (t : Fin grid0.N) : (grid0.coords t 0).val = t.val := by
  have ht := lt_N t
  have e : (grid0.coords t 0).val = t.val / 1 % 26 := Pipeline.Grid.coords_val t 0 (by decide) rfl
  omega

/-- The token of a row of a step's block. -/
def token (t : Fin grid0.N) (r : Fin 320) : Fin 8320 := ⟨t.val * 320 + r.val, by have := lt_N t; omega⟩

/-- A step's rows of the residual stream are its tokens'. -/
theorem iblk_0 (t : Fin grid0.N) (r : Fin 320) (k : Fin 4096) :
    (iblk m c 0 t : Vec Ideal S320x4096 .f32) (ix2 r k) = m ((c : Thread nD τ).loc main_arg0) (ix2 (token t r) k) := by
  refine Eq.trans ?_ (congrFun (V_main_arg0 m c) _)
  show V m c main_arg0 (((cfg0.win 0).rect t).emb (ix2 r k)) = _
  congr 1
  funext x
  apply Fin.ext
  refine (Pipeline.Window.rect_emb_val (cfg0.win 0) t _ x).trans ?_
  have h := coords_0 t
  have hb := lt_N t
  show cc0_transform_0 (grid0.coords t) x * _ + _ = _
  unfold cc0_transform_0
  fin_cases x
  · show (BitVec.ofNat 32 (grid0.coords t 0).val).toNat * 320 + r.val = t.val * 320 + r.val
    rw [h, BitVec.toNat_ofNat]; omega
  · show (0 : Nat) * 4096 + k.val = k.val
    omega

/-- And so are its rows of what is added. -/
theorem iblk_1 (t : Fin grid0.N) (r : Fin 320) (k : Fin 4096) :
    (iblk m c 1 t : Vec Ideal S320x4096 .f32) (ix2 r k) = m ((c : Thread nD τ).loc main_arg1) (ix2 (token t r) k) := by
  refine Eq.trans ?_ (congrFun (V_main_arg1 m c) _)
  show V m c main_arg1 (((cfg0.win 1).rect t).emb (ix2 r k)) = _
  congr 1
  funext x
  apply Fin.ext
  refine (Pipeline.Window.rect_emb_val (cfg0.win 1) t _ x).trans ?_
  have h := coords_0 t
  have hb := lt_N t
  show cc0_transform_1 (grid0.coords t) x * _ + _ = _
  unfold cc0_transform_1
  fin_cases x
  · show (BitVec.ofNat 32 (grid0.coords t 0).val).toNat * 320 + r.val = t.val * 320 + r.val
    rw [h, BitVec.toNat_ofNat]; omega
  · show (0 : Nat) * 4096 + k.val = k.val
    omega

/-- Every step has the whole gain. -/
theorem iblk_2 (t : Fin grid0.N) (e : Fin 4096) :
    (iblk m c 2 t : Vec Ideal S1x4096 .f32) (ix2 0 e) = m ((c : Thread nD τ).loc main_arg2) (ix1 e) := by
  refine Eq.trans ?_ (V_gain m c e)
  show V m c main_v0 (((cfg0.win 2).rect t).emb (ix2 0 e)) = _
  congr 1
  funext x
  apply Fin.ext
  refine (Pipeline.Window.rect_emb_val (cfg0.win 2) t _ x).trans ?_
  show cc0_transform_2 (grid0.coords t) x * _ + _ = _
  unfold cc0_transform_2
  fin_cases x
  · show (0 : Nat) * 1 + 0 = 0
    omega
  · show (0 : Nat) * 4096 + e.val = e.val
    omega

/-- The place of a block's entry in the result. -/
theorem emb_3 (t : Fin grid0.N) (y : S320x4096.Idx) :
    (((cfg0.win 3).blk t).view.emb y : S8320x4096.Idx) = ix2 (token t (y 0)) (y 1) := by
  show (((cfg0.win 3).rect t).emb y : S8320x4096.Idx) = _
  funext x
  apply Fin.ext
  refine (Pipeline.Window.rect_emb_val (cfg0.win 3) t _ x).trans ?_
  have h := coords_0 t
  have hb := lt_N t
  show cc0_transform_3 (grid0.coords t) x * _ + _ = _
  unfold cc0_transform_3
  fin_cases x
  · show (BitVec.ofNat 32 (grid0.coords t 0).val).toNat * 320 + (y 0).val = t.val * 320 + (y 0).val
    rw [h, BitVec.toNat_ofNat]; omega
  · show (0 : Nat) * 4096 + (y 1).val = (y 1).val
    omega

/-- What a step leaves is its block of the result. -/
theorem out_block_3 (t : Fin grid0.N) (y : S320x4096.Idx) : out0_3 (F := Ideal) (iblk m c 0 t) (iblk m c 1 t) (iblk m c 2 t) y
    = finished (m ((c : Thread nD τ).loc main_arg0)) (m ((c : Thread nD τ).loc main_arg1)) (m ((c : Thread nD τ).loc main_arg2))
        (((cfg0.win 3).blk t).view.emb y : S8320x4096.Idx) := by
  have hy : y = (ix2 (y 0) (y 1) : S320x4096.Idx) := funext fun a => by
    match a with
    | ⟨0, _⟩ => rfl
    | ⟨1, _⟩ => rfl
  refine Eq.trans ?_ (congrArg (finished _ _ _) (emb_3 t y)).symm
  refine (congrArg (out0_3 (F := Ideal) (iblk m c 0 t) (iblk m c 1 t) (iblk m c 2 t)) hy).trans ((left_3 _ _ _ (y 0) (y 1)).trans ?_)
  exact congrArg₂ (fun z g => normed z g (y 1))
    (funext fun k => congrArg₂ (· + ·) (iblk_0 m c t (y 0) k) (iblk_1 m c t (y 0) k)) (iblk_2 m c t (y 1))

/-- The kernel's result. -/
theorem out_3 : ((dats m 0 c).arrAt 3 cfg0.N : Vec Ideal S8320x4096 .f32)
    = finished (m ((c : Thread nD τ).loc main_arg0)) (m ((c : Thread nD τ).loc main_arg1)) (m ((c : Thread nD τ).loc main_arg2)) := by
  refine (dats m 0 c).arrAt_eq_of_covers 3 _ (by decide +kernel) (fun t hf y => ?_)
  exact (congrFun (after0_3 m c t) y).trans (out_block_3 m c t y)

end Cert.Kernel6Ideal.Hand

namespace Cert.Reference6Ideal.Hand

open Cert.Reference6Ideal Cert.Reference6Ideal.Gen Cert.Reference6Ideal.Read
open Idealize.ShloMosaic Idealize.ShloMosaic.TcCoe

variable (x d : Vec Ideal S8320x4096 .f32) (g : Vec Ideal S4096 .f32)

/-- The sum of a row's squares. -/
theorem squares (s : Fin 8320) : val_main_v2 (F := Ideal) x d (ix1 s)
    = ∑ k : Fin 4096, ((x (ix2 s k) : EReal) + d (ix2 s k)) * ((x (ix2 s k) : EReal) + d (ix2 s k)) := by
  rw [val_main_v2_apply, val_main_cst_apply]
  refine (congrArg (· + _) (show (FloatOps.ofBits (F := Ideal) FTy.f32 0x00000000#32 : EReal) = 0 from ?_)).trans ((zero_add _).trans ?_)
  · show Ideal.ofBits .f32 0x00000000#32 = 0
    simp [Ideal.ofBits, Ideal.ieee, -EReal.coe_mul]
  · refine Finset.sum_congr rfl fun k _ => ?_
    have e : idx_main_v2 (ix1 s) k = ix2 s k := funext fun a => by
      match a with | ⟨0, _⟩ => rfl | ⟨1, _⟩ => rfl
    rw [e, val_main_v1_apply, val_main_v0_apply]
    rfl

/-- An entry of the reference's result. -/
theorem ref_apply (s : Fin 8320) (e : Fin 4096) : val_main_v13 (F := Ideal) x d g (ix2 s e) = Cert.Kernel6Ideal.Hand.finished x d g (ix2 s e) := by
  have hs : idx_main_v3 (idx_main_v9 (ix2 s e)) = ix1 s := funext fun a => by
    match a with | ⟨0, _⟩ => rfl
  have hg : idx_main_v11 (idx_main_v12 (ix2 s e)) = ix1 e := funext fun a => by
    match a with | ⟨0, _⟩ => rfl
  rw [val_main_v13_apply, val_main_v10_apply, val_main_v0_apply, val_main_v9_apply, val_main_v8_apply, val_main_v7_apply,
    val_main_v5_apply, val_main_v3_apply, hs, squares, val_main_v4_apply, val_main_cst_0_apply, val_main_v6_apply,
    val_main_cst_1_apply, val_main_v12_apply, val_main_v11_apply, hg]
  rfl

/-- The reference's result. -/
theorem ref_main_v13 : val_main_v13 (F := Ideal) x d g = Cert.Kernel6Ideal.Hand.finished x d g := by
  funext i
  have hi : i = (ix2 (i 0) (i 1) : S8320x4096.Idx) := funext fun a => by
    match a with | ⟨0, _⟩ => rfl | ⟨1, _⟩ => rfl
  rw [hi]
  exact ref_apply x d g (i 0) (i 1)

end Cert.Reference6Ideal.Hand

namespace Cert.Proof

open Idealize.ShloMosaic Idealize.ShloMosaic.TcCoe Idealize.SL.Sem
open Cert.Kernel6Ideal Cert.Kernel6Ideal.Hand

/-- The reference runs, and leaves its arguments and every counter alone. -/
theorem frame_ref6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- The value claim: from the same arguments, the kernel and the reference end with the same result, whatever the
arguments. -/
theorem algebraic6 : Cert.algebraic_Kernel6Ideal_Reference6Ideal := by
  intro m g m' g' h hargs
  refine ⟨fun c => finished (m ((c : Thread nD τ).loc main_arg0)) (m ((c : Thread nD τ).loc main_arg1)) (m ((c : Thread nD τ).loc main_arg2)), ?_, ?_⟩
  · refine (θ_run Cert.Kernel6Ideal.defs _ _).mono (fun r hr c => ?_) (Cert.Kernel6Ideal.Value.run_blocks (F := Ideal) m g)
    obtain ⟨hv, a⟩ := hr c
    exact ⟨hv.trans (out_3 m c), a⟩
  · refine (θ_run Cert.Reference6Ideal.defs _ _).mono (fun r hr c => ?_) (Cert.Reference6Ideal.Value.run (F := Ideal) m' g')
    obtain ⟨hv, a⟩ := hr c
    obtain ⟨h0, h1, h2⟩ := hargs c
    refine ⟨(hv.trans (Cert.Reference6Ideal.Read.val_main_v13_eq _ _ _)).trans ?_, a⟩
    refine (Cert.Reference6Ideal.Hand.ref_main_v13 _ _ _).trans ?_
    exact (congrArg₂ (fun x d => finished x d _) h0 h1).trans (congrArg (finished _ _) h2)

end Cert.Proof

end
-- ==== Proof.BranchRows.lean ====
module

public import proofs.«01_k».proof.Defs
public import proofs.«01_k».proof.Proof.Gen.Kernel7Ideal.Value
public import proofs.«01_k».proof.Proof.Gen.Kernel7
public import proofs.«01_k».proof.Proof.Gen.Reference7Ideal.Run
public import proofs.«01_k».proof.Proof.Gen.Reference7Ideal.Read
public import Idealize.ShloMosaic.Lib.Pipeline.ValueKit.Geometry
public import Idealize.ShloMosaic.Lib.StableHlo.ReadAt
public import Idealize.ShloMosaic.Lib.Pointwise
public import Idealize.ShloMosaic.Lib.Tactic

/-! The new rows of the mixer with three branches: the kernel and its reference leave the same results. -/

@[expose] public section

set_option maxRecDepth 16384

noncomputable section

namespace Cert.Kernel7Ideal.Hand

open Cert.Kernel7Ideal Cert.Kernel7Ideal.Gen
open Idealize.ShloMosaic Idealize.ShloMosaic.TcCoe

theorem zeros : (![0, 0] : Fin 2 → Nat) = fun _ => 0 := funext fun a => by fin_cases a <;> rfl

/-- Every token's product with the weights of the keys and values. -/
def rows (x : Vec Ideal S8320x4096 .bf16) (w : Vec Ideal S4096x768 .f32) : S8320x768.Idx → EReal :=
  fun i => ∑ k : Fin 4096, (x (ix2 (i 0) k) : EReal) * w (ix2 k (i 1))

/-- What a grid step leaves in its block of the result: its rows' products with its columns. -/
theorem left_2 (x0 : Vec Ideal S640x4096 .bf16) (x1 : Vec Ideal S4096x768 .bf16) (r : Fin 640) (f : Fin 768) :
    out0_2 x0 x1 (ix2 r f) = ∑ k : Fin 4096, (x0 (ix2 r k) : EReal) * x1 (ix2 k f) := by
  unfold out0_2
  rw [View.canon_unit_zero zeros]
  simp only [View.ld_unit_zero (S := S640x4096) zeros, View.ld_unit_zero (S := S4096x768) zeros]
  pointwise [k0_pay1]

/-- What a grid step leaves in its block of the result: its rows' products with its columns. -/
theorem left_3 (x0 : Vec Ideal S640x4096 .bf16) (x1 : Vec Ideal S4096x768 .bf16) (r : Fin 640) (f : Fin 768) :
    out0_3 x0 x1 (ix2 r f) = ∑ k : Fin 4096, (x0 (ix2 r k) : EReal) * x1 (ix2 k f) := by
  unfold out0_3
  rw [View.canon_unit_zero zeros]
  simp only [View.ld_unit_zero (S := S640x4096) zeros, View.ld_unit_zero (S := S4096x768) zeros]
  pointwise [k0_pay2, k0_pay1]

variable (m : (ℓ : Loc nD τ sig) → Buf (Elt Ideal) ℓ) (c : Dev nD)

/-- The weights, as the kernel finds them: a change of format changes nothing. -/
theorem V_w (k : Fin 4096) (f : Fin 768) : V m c main_v0 (ix2 k f) = m ((c : Thread nD τ).loc main_arg1) (ix2 k f) := by
  unfold V
  after_reads_at

theorem lt_N (t : Fin grid0.N) : t.val < 13 := Nat.lt_of_lt_of_eq t.isLt N_0

/-- The grid has one step for each block of rows. -/
theorem coords_0 (t : Fin grid0.N) : (grid0.coords t 0).val = t.val / 1 := by
  have ht := lt_N t
  have e : (grid0.coords t 0).val = t.val / 1 % 13 := Pipeline.Grid.coords_val t 0 (by decide) rfl
  omega

theorem coords_1 (t : Fin grid0.N) : (grid0.coords t 1).val = t.val % 1 := by
  have e : (grid0.coords t 1).val = t.val / 1 % 1 := Pipeline.Grid.coords_val t 1 (by decide) rfl
  omega

/-- The token of a row of a step's block. -/
def token (t : Fin grid0.N) (r : Fin 640) : Fin 8320 := ⟨t.val / 1 * 640 + r.val, by have := lt_N t; omega⟩

/-- The column of the result of a column of a step's block. -/
def column (t : Fin grid0.N) (f : Fin 768) : Fin 768 := ⟨t.val % 1 * 768 + f.val, by omega⟩

/-- A step's rows are its tokens'. -/
theorem iblk_0 (t : Fin grid0.N) (r : Fin 640) (k : Fin 4096) :
    (iblk m c 0 t : Vec Ideal S640x4096 .bf16) (ix2 r k) = m ((c : Thread nD τ).loc main_arg0) (ix2 (token t r) k) := by
  refine Eq.trans ?_ (congrFun (V_main_arg0 m c) _)
  show V m c main_arg0 (((cfg0.win 0).rect t).emb (ix2 r k)) = _
  congr 1
  funext x
  apply Fin.ext
  refine (Pipeline.Window.rect_emb_val (cfg0.win 0) t _ x).trans ?_
  have h := coords_0 t
  have hb := lt_N t
  show cc0_transform_0 (grid0.coords t) x * _ + _ = _
  unfold cc0_transform_0
  fin_cases x
  · show (BitVec.ofNat 32 (grid0.coords t 0).val).toNat * 640 + r.val = t.val / 1 * 640 + r.val
    rw [h, BitVec.toNat_ofNat]; omega
  · show (0 : Nat) * 4096 + k.val = k.val
    omega

/-- A step's weights are its columns'. -/
theorem iblk_1 (t : Fin grid0.N) (k : Fin 4096) (f : Fin 768) :
    (iblk m c 1 t : Vec Ideal S4096x768 .bf16) (ix2 k f) = V m c main_v0 (ix2 k (column t f)) := by
  show V m c main_v0 (((cfg0.win 1).rect t).emb (ix2 k f)) = _
  congr 1
  funext x
  apply Fin.ext
  refine (Pipeline.Window.rect_emb_val (cfg0.win 1) t _ x).trans ?_
  have h := coords_1 t
  have hb := lt_N t
  show cc0_transform_1 (grid0.coords t) x * _ + _ = _
  unfold cc0_transform_1
  fin_cases x
  · show (0 : Nat) * 4096 + k.val = k.val
    omega
  · show (BitVec.ofNat 32 (grid0.coords t 1).val).toNat * 768 + f.val = t.val % 1 * 768 + f.val
    rw [h, BitVec.toNat_ofNat]; omega

/-- The place of a block's entry in the result. -/
theorem emb_2 (t : Fin grid0.N) (y : S640x768.Idx) :
    (((cfg0.win 2).blk t).view.emb y : S8320x768.Idx) = ix2 (token t (y 0)) (column t (y 1)) := by
  show (((cfg0.win 2).rect t).emb y : S8320x768.Idx) = _
  funext x
  apply Fin.ext
  refine (Pipeline.Window.rect_emb_val (cfg0.win 2) t _ x).trans ?_
  have h0 := coords_0 t
  have h1 := coords_1 t
  have hb := lt_N t
  show cc0_transform_2 (grid0.coords t) x * _ + _ = _
  unfold cc0_transform_2
  fin_cases x
  · show (BitVec.ofNat 32 (grid0.coords t 0).val).toNat * 640 + (y 0).val = t.val / 1 * 640 + (y 0).val
    rw [h0, BitVec.toNat_ofNat]; omega
  · show (BitVec.ofNat 32 (grid0.coords t 1).val).toNat * 768 + (y 1).val = t.val % 1 * 768 + (y 1).val
    rw [h1, BitVec.toNat_ofNat]; omega

/-- What a step leaves is its block of the result. -/
theorem out_block_2 (t : Fin grid0.N) (y : S640x768.Idx) : out0_2 (F := Ideal) (iblk m c 0 t) (iblk m c 1 t) y
    = rows (m ((c : Thread nD τ).loc main_arg0)) (m ((c : Thread nD τ).loc main_arg1)) (((cfg0.win 2).blk t).view.emb y : S8320x768.Idx) := by
  have hy : y = (ix2 (y 0) (y 1) : S640x768.Idx) := funext fun a => by
    match a with
    | ⟨0, _⟩ => rfl
    | ⟨1, _⟩ => rfl
  refine Eq.trans ?_ (congrArg (rows _ _) (emb_2 t y)).symm
  refine (congrArg (out0_2 (F := Ideal) (iblk m c 0 t) (iblk m c 1 t)) hy).trans ((left_2 _ _ (y 0) (y 1)).trans ?_)
  exact Finset.sum_congr rfl fun k _ => congrArg₂ (· * ·) (iblk_0 m c t (y 0) k) ((iblk_1 m c t k (y 1)).trans (V_w m c k (column t (y 1))))

/-- The kernel's result in the format of this window. -/
theorem out_2 : ((dats m 0 c).arrAt 2 cfg0.N : Vec Ideal S8320x768 .f32) = rows (m ((c : Thread nD τ).loc main_arg0)) (m ((c : Thread nD τ).loc main_arg1)) := by
  refine (dats m 0 c).arrAt_eq_of_covers 2 _ (by decide +kernel) (fun t hf y => ?_)
  exact (congrFun (after0_2 m c t) y).trans (out_block_2 m c t y)

/-- The place of a block's entry in the result. -/
theorem emb_3 (t : Fin grid0.N) (y : S640x768.Idx) :
    (((cfg0.win 3).blk t).view.emb y : S8320x768.Idx) = ix2 (token t (y 0)) (column t (y 1)) := by
  show (((cfg0.win 3).rect t).emb y : S8320x768.Idx) = _
  funext x
  apply Fin.ext
  refine (Pipeline.Window.rect_emb_val (cfg0.win 3) t _ x).trans ?_
  have h0 := coords_0 t
  have h1 := coords_1 t
  have hb := lt_N t
  show cc0_transform_3 (grid0.coords t) x * _ + _ = _
  unfold cc0_transform_3
  fin_cases x
  · show (BitVec.ofNat 32 (grid0.coords t 0).val).toNat * 640 + (y 0).val = t.val / 1 * 640 + (y 0).val
    rw [h0, BitVec.toNat_ofNat]; omega
  · show (BitVec.ofNat 32 (grid0.coords t 1).val).toNat * 768 + (y 1).val = t.val % 1 * 768 + (y 1).val
    rw [h1, BitVec.toNat_ofNat]; omega

/-- What a step leaves is its block of the result. -/
theorem out_block_3 (t : Fin grid0.N) (y : S640x768.Idx) : out0_3 (F := Ideal) (iblk m c 0 t) (iblk m c 1 t) y
    = rows (m ((c : Thread nD τ).loc main_arg0)) (m ((c : Thread nD τ).loc main_arg1)) (((cfg0.win 3).blk t).view.emb y : S8320x768.Idx) := by
  have hy : y = (ix2 (y 0) (y 1) : S640x768.Idx) := funext fun a => by
    match a with
    | ⟨0, _⟩ => rfl
    | ⟨1, _⟩ => rfl
  refine Eq.trans ?_ (congrArg (rows _ _) (emb_3 t y)).symm
  refine (congrArg (out0_3 (F := Ideal) (iblk m c 0 t) (iblk m c 1 t)) hy).trans ((left_3 _ _ (y 0) (y 1)).trans ?_)
  exact Finset.sum_congr rfl fun k _ => congrArg₂ (· * ·) (iblk_0 m c t (y 0) k) ((iblk_1 m c t k (y 1)).trans (V_w m c k (column t (y 1))))

/-- The kernel's result in the format of this window. -/
theorem out_3 : ((dats m 0 c).arrAt 3 cfg0.N : Vec Ideal S8320x768 .bf16) = rows (m ((c : Thread nD τ).loc main_arg0)) (m ((c : Thread nD τ).loc main_arg1)) := by
  refine (dats m 0 c).arrAt_eq_of_covers 3 _ (by decide +kernel) (fun t hf y => ?_)
  exact (congrFun (after0_3 m c t) y).trans (out_block_3 m c t y)

end Cert.Kernel7Ideal.Hand

namespace Cert.Reference7Ideal.Hand

open Cert.Reference7Ideal Cert.Reference7Ideal.Gen Cert.Reference7Ideal.Read
open Idealize.ShloMosaic Idealize.ShloMosaic.TcCoe

variable (x : Vec Ideal S8320x4096 .bf16) (w : Vec Ideal S4096x768 .f32)

/-- The reference's product. -/
theorem prod_apply (i : S8320x768.Idx) : val_main_v1 (F := Ideal) x w i = ∑ k : Fin 4096, (x (ix2 (i 0) k) : EReal) * w (ix2 k (i 1)) := by
  rw [val_main_v1_apply]
  refine Finset.sum_congr rfl fun k _ => ?_
  have e0 : lidx_main_v1 i k = ix2 (i 0) k := funext fun a => by
    match a with | ⟨0, _⟩ => rfl | ⟨1, _⟩ => rfl
  have e1 : ridx_main_v1 i k = ix2 k (i 1) := funext fun a => by
    match a with | ⟨0, _⟩ => rfl | ⟨1, _⟩ => rfl
  rw [e0, e1]
  rfl

/-- The reference's result. -/
theorem ref_main_v1 : val_main_v1 (F := Ideal) x w = Cert.Kernel7Ideal.Hand.rows x w := by
  funext i
  rw [prod_apply]
  rfl

/-- The reference's result. -/
theorem ref_main_v2 : val_main_v2 (F := Ideal) x w = Cert.Kernel7Ideal.Hand.rows x w := by
  funext i
  rw [val_main_v2_apply]
  exact congrFun (ref_main_v1 x w) i

end Cert.Reference7Ideal.Hand

namespace Cert.Proof

open Idealize.ShloMosaic Idealize.ShloMosaic.TcCoe Idealize.SL.Sem
open Cert.Kernel7Ideal Cert.Kernel7Ideal.Hand

/-- The reference runs, and leaves its arguments and every counter alone. -/
theorem frame_ref7 : Cert.quiescent_Reference7Ideal := fun m ρ _ =>
  (θ_run Cert.Reference7Ideal.defs _ _).mono
    (fun r h => ⟨fun c => (h c).2.2, sem_eq_zero_of_no_sems (by decide) r.2⟩)
    (Cert.Reference7Ideal.Value.run (F := Ideal) m ρ)

/-- The value claim: from the same arguments, the kernel and the reference end with the same results, whatever the
arguments. -/
theorem algebraic7 : Cert.algebraic_Kernel7Ideal_Reference7Ideal := by
  intro m g m' g' h hargs
  refine ⟨fun c => rows (m ((c : Thread nD τ).loc main_arg0)) (m ((c : Thread nD τ).loc main_arg1)), fun c => rows (m ((c : Thread nD τ).loc main_arg0)) (m ((c : Thread nD τ).loc main_arg1)), ?_, ?_⟩
  · refine (θ_run Cert.Kernel7Ideal.defs _ _).mono (fun r hr c => ?_) (Cert.Kernel7Ideal.Value.run_blocks (F := Ideal) m g)
    obtain ⟨hv, hw, a⟩ := hr c
    exact ⟨hv.trans (out_2 m c), hw.trans (out_3 m c), a⟩
  · refine (θ_run Cert.Reference7Ideal.defs _ _).mono (fun r hr c => ?_) (Cert.Reference7Ideal.Value.run (F := Ideal) m' g')
    obtain ⟨hv, hw, a⟩ := hr c
    obtain ⟨h0, h1⟩ := hargs c
    have same : rows (m' ((c : Thread Cert.Reference7Ideal.nD Cert.Reference7Ideal.τ).loc Cert.Reference7Ideal.main_arg0))
        (m' ((c : Thread Cert.Reference7Ideal.nD Cert.Reference7Ideal.τ).loc Cert.Reference7Ideal.main_arg1))
        = rows (m ((c : Thread nD τ).loc main_arg0)) (m ((c : Thread nD τ).loc main_arg1)) :=
      congrArg₂ (fun x w => rows x w) h0 h1
    exact ⟨(hv.trans (Cert.Reference7Ideal.Read.val_main_v1_eq _ _)).trans ((Cert.Reference7Ideal.Hand.ref_main_v1 _ _).trans same),
      (hw.trans (Cert.Reference7Ideal.Read.val_main_v2_eq _ _)).trans ((Cert.Reference7Ideal.Hand.ref_main_v2 _ _).trans same), a⟩

end Cert.Proof

end
-- ==== Proof.lean ====
module

public import proofs.«01_k».proof.Defs
public import proofs.«01_k».proof.Proof.Algebraic
public import proofs.«01_k».proof.Proof.FfnAlgebraic
public import proofs.«01_k».proof.Proof.OutputProjection
public import proofs.«01_k».proof.Proof.CacheRows
public import proofs.«01_k».proof.Proof.Queries
public import proofs.«01_k».proof.Proof.FinalNorm
public import proofs.«01_k».proof.Proof.BranchRows
public import proofs.«01_k».proof.Proof.Gen.ReferenceIdeal.Read
public import proofs.«01_k».proof.Proof.Gen.Kernel
public import proofs.«01_k».proof.Proof.Gen.KernelIdeal
public import proofs.«01_k».proof.Proof.Gen.ReferenceIdeal
public import proofs.«01_k».proof.Proof.Gen.Pre_pages_in_pool
public import proofs.«01_k».proof.Proof.Gen.Pre_finite_and_paged
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read

/-! The certificate: each kernel and its reference run without a fault, end with their arguments unchanged and every
    semaphore at zero; the ideal kernels are the kernels' own text; and from the same arguments an ideal kernel and its
    reference end with the same result — the attention at finite arguments, the feed-forward part, the projections and the
    last norm at any. -/

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_pages_in_pool.Gen.facts, Cert.Pre_finite_and_paged.Gen.facts,
    frame_kernel, frame_ideal, frame_ideal_finite, frame_ref, frame_ref_finite,
    fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, frame_ref4,
    fun m ρ _ => Cert.Kernel5.Gen.frame m ρ, fun m ρ _ => Cert.Kernel5Ideal.Gen.frame m ρ, frame_ref5,
    fun m ρ _ => Cert.Kernel6.Gen.frame m ρ, fun m ρ _ => Cert.Kernel6Ideal.Gen.frame m ρ, frame_ref6,
    fun m ρ _ => Cert.Kernel7.Gen.frame m ρ, fun m ρ _ => Cert.Kernel7Ideal.Gen.frame m ρ, frame_ref7,
    trivial, algebraic, trivial, algebraic2, trivial, algebraic3, trivial, algebraic4,
    trivial, algebraic5, trivial, algebraic6, trivial, algebraic7⟩

end Cert.Proof

end
